-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x4096 : Shape := ⟨2, ![512, 4096]⟩
abbrev S2x256x4x64 : Shape := ⟨4, ![2, 256, 4, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  bcast_S_S512x4096 : S_.BroadcastsInDim S512x4096 (![] : Fin 0 → Fin S512x4096.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x4096 .bf16) (main_arg2 : FVec F S2x256x4x64 .bf16) (main_arg3 : FVec F S2x256x4x64 .bf16) (main_arg4 : FVec F S4096x512 .bf16) : IVec S2x256x512 1 × IVec S512x4096 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  bcast_S_S512x4096 : S_.BroadcastsInDim S512x4096 (![] : Fin 0 → Fin S512x4096.rank)
  bcast_S_S2x256x64x64 : S_.BroadcastsInDim S2x256x64x64 (![] : Fin 0 → Fin S2x256x64x64.rank)

variable [Facts]

def fn {F : FTy → Type} [FloatOps F] (main_arg0 : FVec F S2x256x512 .bf16) (main_arg1 : FVec F S512x4096 .bf16) (main_arg2 : FVec F S2x256x64x64 .bf16) (main_arg3 : FVec F S2x256x64x64 .bf16) (main_arg4 : FVec F S4096x512 .bf16) : IVec S2x256x512 1 × IVec S512x4096 1 × IVec S2x256x64x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  let main_v6 : FVec F S2x256x64x64 .bf16 := Host.absf main_arg2
  let main_cst_1 : FVec F S_ .bf16 := constant S_ .bf16 0x7F80#16
  let main_v7 : FVec F S2x256x64x64 .bf16 := broadcastInDim S2x256x64x64 ![] bcast_S_S2x256x64x64 main_cst_1
  let main_v8 : IVec S2x256x64x64 1 := cmpf .olt main_v6 main_v7
  (main_v2, main_v5, main_v8)
-- ==== Kernel.lean ====
abbrev S2x256x512 : Shape := ⟨3, ![2, 256, 512]⟩
abbrev S512x4096 : Shape := ⟨2, ![512, 4096]⟩
abbrev S2x256x4x64 : Shape := ⟨4, ![2, 256, 4, 64]⟩
abbrev S4096x512 : Shape := ⟨2, ![4096, 512]⟩
abbrev S_ : Shape := ⟨0, ![]⟩
abbrev S512x256 : Shape := ⟨2, ![512, 256]⟩
abbrev S256x512 : Shape := ⟨2, ![256, 512]⟩
abbrev S32x512 : Shape := ⟨2, ![32, 512]⟩
abbrev S16x32x512 : Shape := ⟨3, ![16, 32, 512]⟩
abbrev S16 : Shape := ⟨1, ![16]⟩
abbrev S1x32x512 : Shape := ⟨3, ![1, 32, 512]⟩
abbrev S256x256 : Shape := ⟨2, ![256, 256]⟩
abbrev S512x512 : Shape := ⟨2, ![512, 512]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S1x256x512 : Shape := ⟨3, ![1, 256, 512]⟩
abbrev S1 : Shape := ⟨1, ![1]⟩

abbrev nBuf : Space → Nat
  | .hbm => 33
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x4096, .bf16⟩
  | .hbm, ⟨2, _⟩ => ⟨S2x256x4x64, .bf16⟩
  | .hbm, ⟨3, _⟩ => ⟨S2x256x4x64, .bf16⟩
  | .hbm, ⟨4, _⟩ => ⟨S4096x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .bf16⟩
  | .hbm, ⟨21, _⟩ => ⟨S512x256, .bf16⟩
  | .hbm, ⟨22, _⟩ => ⟨S512x256, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S256x512, .bf16⟩
  | .hbm, ⟨32, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .bf16⟩
  | .local _ .vmem, ⟨6, _⟩ => ⟨S2x256x512, .bf16⟩
  | .local _ .vmem, ⟨7, _⟩ => ⟨S32x512, .bf16⟩
  | .local _ .vmem, ⟨8, _⟩ => ⟨S16x32x512, .bf16⟩
  | .local _ .vmem, ⟨9, _⟩ => ⟨S2x256x512, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_c_7 : Ref sig .tc := ⟨.hbm, 27, rfl⟩
abbrev main_v14 : Ref sig .tc := ⟨.hbm, 28, rfl⟩
abbrev main_v15 : Ref sig .tc := ⟨.hbm, 29, rfl⟩
abbrev main_c_8 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v37 : Index := Scalar.indexCast v2
  let c0 : Index := 0#32
  let c0_50 : Index := 0#32
  ![v37.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_118 : BitVec 32 := 0#32
  let v212 : BitVec 1 := Scalar.cmpi .ne v2 c0_i32_118
  let v213 : BitVec 32 := Scalar.extui v212
  let c0_i32_119 : BitVec 32 := 0#32
  let v214 : BitVec 1 := Scalar.cmpi .ne v213 c0_i32_119
  v214

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev17 : Nat :=
  let c0_i32_376 : BitVec 32 := 0#32
  let c0_i32_374 : BitVec 32 := 0#32
  let c1_i32_375 : BitVec 32 := 1#32
  let v649 : BitVec 32 := Scalar.muli c0_i32_374 c1_i32_375
  let v650 : BitVec 32 := Scalar.addi c0_i32_376 v649
  v650.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v215 : BitVec 1 := Scalar.cmpi .ne v2 c1_i32_120
  let v216 : BitVec 32 := Scalar.extui v215
  let c0_i32_121 : BitVec 32 := 0#32
  let v217 : BitVec 1 := Scalar.cmpi .ne v216 c0_i32_121
  v217

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev18 : Nat :=
  let c0_i32_376 : BitVec 32 := 0#32
  let c1_i32_374 : BitVec 32 := 1#32
  let c1_i32_375 : BitVec 32 := 1#32
  let v649 : BitVec 32 := Scalar.muli c1_i32_374 c1_i32_375
  let v650 : BitVec 32 := Scalar.addi c0_i32_376 v649
  v650.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v218 : BitVec 1 := Scalar.cmpi .ne v2 c2_i32_122
  let v219 : BitVec 32 := Scalar.extui v218
  let c0_i32_123 : BitVec 32 := 0#32
  let v220 : BitVec 1 := Scalar.cmpi .ne v219 c0_i32_123
  v220

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev19 : Nat :=
  let c0_i32_376 : BitVec 32 := 0#32
  let c2_i32_374 : BitVec 32 := 2#32
  let c1_i32_375 : BitVec 32 := 1#32
  let v649 : BitVec 32 := Scalar.muli c2_i32_374 c1_i32_375
  let v650 : BitVec 32 := Scalar.addi c0_i32_376 v649
  v650.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v221 : BitVec 1 := Scalar.cmpi .ne v2 c3_i32_124
  let v222 : BitVec 32 := Scalar.extui v221
  let c0_i32_125 : BitVec 32 := 0#32
  let v223 : BitVec 1 := Scalar.cmpi .ne v222 c0_i32_125
  v223

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev20 : Nat :=
  let c0_i32_376 : BitVec 32 := 0#32
  let c3_i32_374 : BitVec 32 := 3#32
  let c1_i32_375 : BitVec 32 := 1#32
  let v649 : BitVec 32 := Scalar.muli c3_i32_374 c1_i32_375
  let v650 : BitVec 32 := Scalar.addi c0_i32_376 v649
  v650.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v224 : BitVec 1 := Scalar.cmpi .ne v2 c4_i32_126
  let v225 : BitVec 32 := Scalar.extui v224
  let c0_i32_127 : BitVec 32 := 0#32
  let v226 : BitVec 1 := Scalar.cmpi .ne v225 c0_i32_127
  v226

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev21 : Nat :=
  let c0_i32_376 : BitVec 32 := 0#32
  let c4_i32_374 : BitVec 32 := 4#32
  let c1_i32_375 : BitVec 32 := 1#32
  let v649 : BitVec 32 := Scalar.muli c4_i32_374 c1_i32_375
  let v650 : BitVec 32 := Scalar.addi c0_i32_376 v649
  v650.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v227 : BitVec 1 := Scalar.cmpi .ne v2 c5_i32_128
  let v228 : BitVec 32 := Scalar.extui v227
  let c0_i32_129 : BitVec 32 := 0#32
  let v229 : BitVec 1 := Scalar.cmpi .ne v228 c0_i32_129
  v229

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev22 : Nat :=
  let c0_i32_376 : BitVec 32 := 0#32
  let c5_i32_374 : BitVec 32 := 5#32
  let c1_i32_375 : BitVec 32 := 1#32
  let v649 : BitVec 32 := Scalar.muli c5_i32_374 c1_i32_375
  let v650 : BitVec 32 := Scalar.addi c0_i32_376 v649
  v650.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v230 : BitVec 1 := Scalar.cmpi .ne v2 c6_i32_130
  let v231 : BitVec 32 := Scalar.extui v230
  let c0_i32_131 : BitVec 32 := 0#32
  let v232 : BitVec 1 := Scalar.cmpi .ne v231 c0_i32_131
  v232

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev23 : Nat :=
  let c0_i32_376 : BitVec 32 := 0#32
  let c6_i32_374 : BitVec 32 := 6#32
  let c1_i32_375 : BitVec 32 := 1#32
  let v649 : BitVec 32 := Scalar.muli c6_i32_374 c1_i32_375
  let v650 : BitVec 32 := Scalar.addi c0_i32_376 v649
  v650.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v233 : BitVec 1 := Scalar.cmpi .ne v2 c7_i32_132
  let v234 : BitVec 32 := Scalar.extui v233
  let c0_i32_133 : BitVec 32 := 0#32
  let v235 : BitVec 1 := Scalar.cmpi .ne v234 c0_i32_133
  v235

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev24 : Nat :=
  let c0_i32_376 : BitVec 32 := 0#32
  let c7_i32_374 : BitVec 32 := 7#32
  let c1_i32_375 : BitVec 32 := 1#32
  let v649 : BitVec 32 := Scalar.muli c7_i32_374 c1_i32_375
  let v650 : BitVec 32 := Scalar.addi c0_i32_376 v649
  v650.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_159 : BitVec 32 := 8#32
  let v309 : BitVec 1 := Scalar.cmpi .ne v2 c8_i32_159
  let v310 : BitVec 32 := Scalar.extui v309
  let c0_i32_160 : BitVec 32 := 0#32
  let v311 : BitVec 1 := Scalar.cmpi .ne v310 c0_i32_160
  v311

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev25 : Nat :=
  let c0_i32_376 : BitVec 32 := 0#32
  let c8_i32_374 : BitVec 32 := 8#32
  let c1_i32_375 : BitVec 32 := 1#32
  let v649 : BitVec 32 := Scalar.muli c8_i32_374 c1_i32_375
  let v650 : BitVec 32 := Scalar.addi c0_i32_376 v649
  v650.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v312 : BitVec 1 := Scalar.cmpi .ne v2 c9_i32_161
  let v313 : BitVec 32 := Scalar.extui v312
  let c0_i32_162 : BitVec 32 := 0#32
  let v314 : BitVec 1 := Scalar.cmpi .ne v313 c0_i32_162
  v314

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev26 : Nat :=
  let c0_i32_376 : BitVec 32 := 0#32
  let c9_i32_374 : BitVec 32 := 9#32
  let c1_i32_375 : BitVec 32 := 1#32
  let v649 : BitVec 32 := Scalar.muli c9_i32_374 c1_i32_375
  let v650 : BitVec 32 := Scalar.addi c0_i32_376 v649
  v650.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_163 : BitVec 32 := 10#32
  let v315 : BitVec 1 := Scalar.cmpi .ne v2 c10_i32_163
  let v316 : BitVec 32 := Scalar.extui v315
  let c0_i32_164 : BitVec 32 := 0#32
  let v317 : BitVec 1 := Scalar.cmpi .ne v316 c0_i32_164
  v317

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev27 : Nat :=
  let c0_i32_376 : BitVec 32 := 0#32
  let c10_i32_374 : BitVec 32 := 10#32
  let c1_i32_375 : BitVec 32 := 1#32
  let v649 : BitVec 32 := Scalar.muli c10_i32_374 c1_i32_375
  let v650 : BitVec 32 := Scalar.addi c0_i32_376 v649
  v650.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_165 : BitVec 32 := 11#32
  let v318 : BitVec 1 := Scalar.cmpi .ne v2 c11_i32_165
  let v319 : BitVec 32 := Scalar.extui v318
  let c0_i32_166 : BitVec 32 := 0#32
  let v320 : BitVec 1 := Scalar.cmpi .ne v319 c0_i32_166
  v320

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev28 : Nat :=
  let c0_i32_376 : BitVec 32 := 0#32
  let c11_i32_374 : BitVec 32 := 11#32
  let c1_i32_375 : BitVec 32 := 1#32
  let v649 : BitVec 32 := Scalar.muli c11_i32_374 c1_i32_375
  let v650 : BitVec 32 := Scalar.addi c0_i32_376 v649
  v650.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_167 : BitVec 32 := 12#32
  let v321 : BitVec 1 := Scalar.cmpi .ne v2 c12_i32_167
  let v322 : BitVec 32 := Scalar.extui v321
  let c0_i32_168 : BitVec 32 := 0#32
  let v323 : BitVec 1 := Scalar.cmpi .ne v322 c0_i32_168
  v323

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev29 : Nat :=
  let c0_i32_376 : BitVec 32 := 0#32
  let c12_i32_374 : BitVec 32 := 12#32
  let c1_i32_375 : BitVec 32 := 1#32
  let v649 : BitVec 32 := Scalar.muli c12_i32_374 c1_i32_375
  let v650 : BitVec 32 := Scalar.addi c0_i32_376 v649
  v650.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_169 : BitVec 32 := 13#32
  let v324 : BitVec 1 := Scalar.cmpi .ne v2 c13_i32_169
  let v325 : BitVec 32 := Scalar.extui v324
  let c0_i32_170 : BitVec 32 := 0#32
  let v326 : BitVec 1 := Scalar.cmpi .ne v325 c0_i32_170
  v326

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev30 : Nat :=
  let c0_i32_376 : BitVec 32 := 0#32
  let c13_i32_374 : BitVec 32 := 13#32
  let c1_i32_375 : BitVec 32 := 1#32
  let v649 : BitVec 32 := Scalar.muli c13_i32_374 c1_i32_375
  let v650 : BitVec 32 := Scalar.addi c0_i32_376 v649
  v650.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_171 : BitVec 32 := 14#32
  let v327 : BitVec 1 := Scalar.cmpi .ne v2 c14_i32_171
  let v328 : BitVec 32 := Scalar.extui v327
  let c0_i32_172 : BitVec 32 := 0#32
  let v329 : BitVec 1 := Scalar.cmpi .ne v328 c0_i32_172
  v329

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev31 : Nat :=
  let c0_i32_376 : BitVec 32 := 0#32
  let c14_i32_374 : BitVec 32 := 14#32
  let c1_i32_375 : BitVec 32 := 1#32
  let v649 : BitVec 32 := Scalar.muli c14_i32_374 c1_i32_375
  let v650 : BitVec 32 := Scalar.addi c0_i32_376 v649
  v650.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_173 : BitVec 32 := 15#32
  let v330 : BitVec 1 := Scalar.cmpi .ne v2 c15_i32_173
  let v331 : BitVec 32 := Scalar.extui v330
  let c0_i32_174 : BitVec 32 := 0#32
  let v332 : BitVec 1 := Scalar.cmpi .ne v331 c0_i32_174
  v332

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_dev32 : Nat :=
  let c0_i32_376 : BitVec 32 := 0#32
  let c15_i32_374 : BitVec 32 := 15#32
  let c1_i32_375 : BitVec 32 := 1#32
  let v649 : BitVec 32 := Scalar.muli c15_i32_374 c1_i32_375
  let v650 : BitVec 32 := Scalar.addi c0_i32_376 v649
  v650.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_214 : BitVec 32 := 8#32
  let c0_i32_215 : BitVec 32 := 0#32
  let v398 : BitVec 1 := Scalar.cmpi .eq c8_i32_214 c0_i32_215
  let c1_i32_216 : BitVec 32 := 1#32
  let v399 : BitVec 32 := Scalar.select v398 c1_i32_216 c8_i32_214
  let v400 : BitVec 32 := Scalar.remsi v2 v399
  let c0_i32_218 : BitVec 32 := 0#32
  let v402 : BitVec 1 := Scalar.cmpi .slt v400 c0_i32_218
  let c0_i32_219 : BitVec 32 := 0#32
  let v403 : BitVec 1 := Scalar.cmpi .slt v399 c0_i32_219
  let v404 : BitVec 1 := Scalar.xori v402 v403
  let c0_i32_217 : BitVec 32 := 0#32
  let v401 : BitVec 1 := Scalar.cmpi .ne v400 c0_i32_217
  let v405 : BitVec 1 := Scalar.andi v404 v401
  let v406 : BitVec 32 := Scalar.addi v400 v399
  let v407 : BitVec 32 := Scalar.select v405 v406 v400
  let c32_i32 : BitVec 32 := 32#32
  let v408 : BitVec 32 := Scalar.muli v407 c32_i32
  v408
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_208 : BitVec 32 := 0#32
  let v382 : BitVec 1 := Scalar.cmpi .sgt v2 c0_i32_208
  let v383 : BitVec 32 := Scalar.extui v382
  let c0_i32_209 : BitVec 32 := 0#32
  let v384 : BitVec 1 := Scalar.cmpi .slt v2 c0_i32_209
  let v385 : BitVec 32 := Scalar.extui v384
  let v386 : BitVec 32 := Scalar.subi v383 v385
  let c8_i32_207 : BitVec 32 := 8#32
  let c0_i32_210 : BitVec 32 := 0#32
  let v387 : BitVec 1 := Scalar.cmpi .sgt c8_i32_207 c0_i32_210
  let v388 : BitVec 32 := Scalar.extui v387
  let c0_i32_211 : BitVec 32 := 0#32
  let v389 : BitVec 1 := Scalar.cmpi .slt c8_i32_207 c0_i32_211
  let v390 : BitVec 32 := Scalar.extui v389
  let v391 : BitVec 32 := Scalar.subi v388 v390
  let v392 : BitVec 1 := Scalar.cmpi .ne v386 v391
  let v393 : BitVec 32 := Scalar.remsi v2 c8_i32_207
  let c0_i32_212 : BitVec 32 := 0#32
  let v394 : BitVec 1 := Scalar.cmpi .ne v393 c0_i32_212
  let v395 : BitVec 1 := Scalar.andi v392 v394
  let v381 : BitVec 32 := Scalar.divsi v2 c8_i32_207
  let c1_i32_213 : BitVec 32 := 1#32
  let v396 : BitVec 32 := Scalar.subi v381 c1_i32_213
  let v397 : BitVec 32 := Scalar.select v395 v396 v381
  let v410 : Index := Scalar.indexCast v397
  let c8_i32_214 : BitVec 32 := 8#32
  let c0_i32_215 : BitVec 32 := 0#32
  let v398 : BitVec 1 := Scalar.cmpi .eq c8_i32_214 c0_i32_215
  let c1_i32_216 : BitVec 32 := 1#32
  let v399 : BitVec 32 := Scalar.select v398 c1_i32_216 c8_i32_214
  let v400 : BitVec 32 := Scalar.remsi v2 v399
  let c0_i32_218 : BitVec 32 := 0#32
  let v402 : BitVec 1 := Scalar.cmpi .slt v400 c0_i32_218
  let c0_i32_219 : BitVec 32 := 0#32
  let v403 : BitVec 1 := Scalar.cmpi .slt v399 c0_i32_219
  let v404 : BitVec 1 := Scalar.xori v402 v403
  let c0_i32_217 : BitVec 32 := 0#32
  let v401 : BitVec 1 := Scalar.cmpi .ne v400 c0_i32_217
  let v405 : BitVec 1 := Scalar.andi v404 v401
  let v406 : BitVec 32 := Scalar.addi v400 v399
  let v407 : BitVec 32 := Scalar.select v405 v406 v400
  let c32_i32 : BitVec 32 := 32#32
  let v408 : BitVec 32 := Scalar.muli v407 c32_i32
  let v409 : BitVec 32 := v408
  let v411 : Index := Scalar.indexCast v409
  let c0_220 : Index := 0#32
  ![v410.toNat, v411.toNat, 0]
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_236 : BitVec 32 := 8#32
  let c0_i32_237 : BitVec 32 := 0#32
  let v440 : BitVec 1 := Scalar.cmpi .eq c8_i32_236 c0_i32_237
  let c1_i32_238 : BitVec 32 := 1#32
  let v441 : BitVec 32 := Scalar.select v440 c1_i32_238 c8_i32_236
  let v442 : BitVec 32 := Scalar.remsi v2 v441
  let c0_i32_240 : BitVec 32 := 0#32
  let v444 : BitVec 1 := Scalar.cmpi .slt v442 c0_i32_240
  let c0_i32_241 : BitVec 32 := 0#32
  let v445 : BitVec 1 := Scalar.cmpi .slt v441 c0_i32_241
  let v446 : BitVec 1 := Scalar.xori v444 v445
  let c0_i32_239 : BitVec 32 := 0#32
  let v443 : BitVec 1 := Scalar.cmpi .ne v442 c0_i32_239
  let v447 : BitVec 1 := Scalar.andi v446 v443
  let v448 : BitVec 32 := Scalar.addi v442 v441
  let v449 : BitVec 32 := Scalar.select v447 v448 v442
  let c32_i32_242 : BitVec 32 := 32#32
  let v450 : BitVec 32 := Scalar.muli v449 c32_i32_242
  v450
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_244 : BitVec 32 := 0#32
  let v457 : BitVec 1 := Scalar.cmpi .ne v2 c0_i32_244
  let v458 : BitVec 32 := Scalar.extui v457
  let c0_i32_245 : BitVec 32 := 0#32
  let v459 : BitVec 1 := Scalar.cmpi .ne v458 c0_i32_245
  v459

def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev33 : Nat :=
  let c0_i32_389 : BitVec 32 := 0#32
  let c0_i32_387 : BitVec 32 := 0#32
  let c1_i32_388 : BitVec 32 := 1#32
  let v678 : BitVec 32 := Scalar.muli c0_i32_387 c1_i32_388
  let v679 : BitVec 32 := Scalar.addi c0_i32_389 v678
  v679.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_246 : BitVec 32 := 1#32
  let v460 : BitVec 1 := Scalar.cmpi .ne v2 c1_i32_246
  let v461 : BitVec 32 := Scalar.extui v460
  let c0_i32_247 : BitVec 32 := 0#32
  let v462 : BitVec 1 := Scalar.cmpi .ne v461 c0_i32_247
  v462

def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev34 : Nat :=
  let c0_i32_389 : BitVec 32 := 0#32
  let c1_i32_387 : BitVec 32 := 1#32
  let c1_i32_388 : BitVec 32 := 1#32
  let v678 : BitVec 32 := Scalar.muli c1_i32_387 c1_i32_388
  let v679 : BitVec 32 := Scalar.addi c0_i32_389 v678
  v679.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_248 : BitVec 32 := 2#32
  let v463 : BitVec 1 := Scalar.cmpi .ne v2 c2_i32_248
  let v464 : BitVec 32 := Scalar.extui v463
  let c0_i32_249 : BitVec 32 := 0#32
  let v465 : BitVec 1 := Scalar.cmpi .ne v464 c0_i32_249
  v465

def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev35 : Nat :=
  let c0_i32_389 : BitVec 32 := 0#32
  let c2_i32_387 : BitVec 32 := 2#32
  let c1_i32_388 : BitVec 32 := 1#32
  let v678 : BitVec 32 := Scalar.muli c2_i32_387 c1_i32_388
  let v679 : BitVec 32 := Scalar.addi c0_i32_389 v678
  v679.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_250 : BitVec 32 := 3#32
  let v466 : BitVec 1 := Scalar.cmpi .ne v2 c3_i32_250
  let v467 : BitVec 32 := Scalar.extui v466
  let c0_i32_251 : BitVec 32 := 0#32
  let v468 : BitVec 1 := Scalar.cmpi .ne v467 c0_i32_251
  v468

def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev36 : Nat :=
  let c0_i32_389 : BitVec 32 := 0#32
  let c3_i32_387 : BitVec 32 := 3#32
  let c1_i32_388 : BitVec 32 := 1#32
  let v678 : BitVec 32 := Scalar.muli c3_i32_387 c1_i32_388
  let v679 : BitVec 32 := Scalar.addi c0_i32_389 v678
  v679.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_252 : BitVec 32 := 4#32
  let v469 : BitVec 1 := Scalar.cmpi .ne v2 c4_i32_252
  let v470 : BitVec 32 := Scalar.extui v469
  let c0_i32_253 : BitVec 32 := 0#32
  let v471 : BitVec 1 := Scalar.cmpi .ne v470 c0_i32_253
  v471

def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev37 : Nat :=
  let c0_i32_389 : BitVec 32 := 0#32
  let c4_i32_387 : BitVec 32 := 4#32
  let c1_i32_388 : BitVec 32 := 1#32
  let v678 : BitVec 32 := Scalar.muli c4_i32_387 c1_i32_388
  let v679 : BitVec 32 := Scalar.addi c0_i32_389 v678
  v679.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_254 : BitVec 32 := 5#32
  let v472 : BitVec 1 := Scalar.cmpi .ne v2 c5_i32_254
  let v473 : BitVec 32 := Scalar.extui v472
  let c0_i32_255 : BitVec 32 := 0#32
  let v474 : BitVec 1 := Scalar.cmpi .ne v473 c0_i32_255
  v474

def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev38 : Nat :=
  let c0_i32_389 : BitVec 32 := 0#32
  let c5_i32_387 : BitVec 32 := 5#32
  let c1_i32_388 : BitVec 32 := 1#32
  let v678 : BitVec 32 := Scalar.muli c5_i32_387 c1_i32_388
  let v679 : BitVec 32 := Scalar.addi c0_i32_389 v678
  v679.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_256 : BitVec 32 := 6#32
  let v475 : BitVec 1 := Scalar.cmpi .ne v2 c6_i32_256
  let v476 : BitVec 32 := Scalar.extui v475
  let c0_i32_257 : BitVec 32 := 0#32
  let v477 : BitVec 1 := Scalar.cmpi .ne v476 c0_i32_257
  v477

def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev39 : Nat :=
  let c0_i32_389 : BitVec 32 := 0#32
  let c6_i32_387 : BitVec 32 := 6#32
  let c1_i32_388 : BitVec 32 := 1#32
  let v678 : BitVec 32 := Scalar.muli c6_i32_387 c1_i32_388
  let v679 : BitVec 32 := Scalar.addi c0_i32_389 v678
  v679.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_258 : BitVec 32 := 7#32
  let v478 : BitVec 1 := Scalar.cmpi .ne v2 c7_i32_258
  let v479 : BitVec 32 := Scalar.extui v478
  let c0_i32_259 : BitVec 32 := 0#32
  let v480 : BitVec 1 := Scalar.cmpi .ne v479 c0_i32_259
  v480

def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev40 : Nat :=
  let c0_i32_389 : BitVec 32 := 0#32
  let c7_i32_387 : BitVec 32 := 7#32
  let c1_i32_388 : BitVec 32 := 1#32
  let v678 : BitVec 32 := Scalar.muli c7_i32_387 c1_i32_388
  let v679 : BitVec 32 := Scalar.addi c0_i32_389 v678
  v679.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_260 : BitVec 32 := 8#32
  let v481 : BitVec 1 := Scalar.cmpi .ne v2 c8_i32_260
  let v482 : BitVec 32 := Scalar.extui v481
  let c0_i32_261 : BitVec 32 := 0#32
  let v483 : BitVec 1 := Scalar.cmpi .ne v482 c0_i32_261
  v483

def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev41 : Nat :=
  let c0_i32_389 : BitVec 32 := 0#32
  let c8_i32_387 : BitVec 32 := 8#32
  let c1_i32_388 : BitVec 32 := 1#32
  let v678 : BitVec 32 := Scalar.muli c8_i32_387 c1_i32_388
  let v679 : BitVec 32 := Scalar.addi c0_i32_389 v678
  v679.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_262 : BitVec 32 := 9#32
  let v484 : BitVec 1 := Scalar.cmpi .ne v2 c9_i32_262
  let v485 : BitVec 32 := Scalar.extui v484
  let c0_i32_263 : BitVec 32 := 0#32
  let v486 : BitVec 1 := Scalar.cmpi .ne v485 c0_i32_263
  v486

def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev42 : Nat :=
  let c0_i32_389 : BitVec 32 := 0#32
  let c9_i32_387 : BitVec 32 := 9#32
  let c1_i32_388 : BitVec 32 := 1#32
  let v678 : BitVec 32 := Scalar.muli c9_i32_387 c1_i32_388
  let v679 : BitVec 32 := Scalar.addi c0_i32_389 v678
  v679.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_264 : BitVec 32 := 10#32
  let v487 : BitVec 1 := Scalar.cmpi .ne v2 c10_i32_264
  let v488 : BitVec 32 := Scalar.extui v487
  let c0_i32_265 : BitVec 32 := 0#32
  let v489 : BitVec 1 := Scalar.cmpi .ne v488 c0_i32_265
  v489

def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev43 : Nat :=
  let c0_i32_389 : BitVec 32 := 0#32
  let c10_i32_387 : BitVec 32 := 10#32
  let c1_i32_388 : BitVec 32 := 1#32
  let v678 : BitVec 32 := Scalar.muli c10_i32_387 c1_i32_388
  let v679 : BitVec 32 := Scalar.addi c0_i32_389 v678
  v679.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_266 : BitVec 32 := 11#32
  let v490 : BitVec 1 := Scalar.cmpi .ne v2 c11_i32_266
  let v491 : BitVec 32 := Scalar.extui v490
  let c0_i32_267 : BitVec 32 := 0#32
  let v492 : BitVec 1 := Scalar.cmpi .ne v491 c0_i32_267
  v492

def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev44 : Nat :=
  let c0_i32_389 : BitVec 32 := 0#32
  let c11_i32_387 : BitVec 32 := 11#32
  let c1_i32_388 : BitVec 32 := 1#32
  let v678 : BitVec 32 := Scalar.muli c11_i32_387 c1_i32_388
  let v679 : BitVec 32 := Scalar.addi c0_i32_389 v678
  v679.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_268 : BitVec 32 := 12#32
  let v493 : BitVec 1 := Scalar.cmpi .ne v2 c12_i32_268
  let v494 : BitVec 32 := Scalar.extui v493
  let c0_i32_269 : BitVec 32 := 0#32
  let v495 : BitVec 1 := Scalar.cmpi .ne v494 c0_i32_269
  v495

def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev45 : Nat :=
  let c0_i32_389 : BitVec 32 := 0#32
  let c12_i32_387 : BitVec 32 := 12#32
  let c1_i32_388 : BitVec 32 := 1#32
  let v678 : BitVec 32 := Scalar.muli c12_i32_387 c1_i32_388
  let v679 : BitVec 32 := Scalar.addi c0_i32_389 v678
  v679.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_270 : BitVec 32 := 13#32
  let v496 : BitVec 1 := Scalar.cmpi .ne v2 c13_i32_270
  let v497 : BitVec 32 := Scalar.extui v496
  let c0_i32_271 : BitVec 32 := 0#32
  let v498 : BitVec 1 := Scalar.cmpi .ne v497 c0_i32_271
  v498

def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev46 : Nat :=
  let c0_i32_389 : BitVec 32 := 0#32
  let c13_i32_387 : BitVec 32 := 13#32
  let c1_i32_388 : BitVec 32 := 1#32
  let v678 : BitVec 32 := Scalar.muli c13_i32_387 c1_i32_388
  let v679 : BitVec 32 := Scalar.addi c0_i32_389 v678
  v679.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_272 : BitVec 32 := 14#32
  let v499 : BitVec 1 := Scalar.cmpi .ne v2 c14_i32_272
  let v500 : BitVec 32 := Scalar.extui v499
  let c0_i32_273 : BitVec 32 := 0#32
  let v501 : BitVec 1 := Scalar.cmpi .ne v500 c0_i32_273
  v501

def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev47 : Nat :=
  let c0_i32_389 : BitVec 32 := 0#32
  let c14_i32_387 : BitVec 32 := 14#32
  let c1_i32_388 : BitVec 32 := 1#32
  let v678 : BitVec 32 := Scalar.muli c14_i32_387 c1_i32_388
  let v679 : BitVec 32 := Scalar.addi c0_i32_389 v678
  v679.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_274 : BitVec 32 := 15#32
  let v502 : BitVec 1 := Scalar.cmpi .ne v2 c15_i32_274
  let v503 : BitVec 32 := Scalar.extui v502
  let c0_i32_275 : BitVec 32 := 0#32
  let v504 : BitVec 1 := Scalar.cmpi .ne v503 c0_i32_275
  v504

def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_390 : BitVec 32 := 0#32
  ![v665.toNat, v677.toNat, 0]
def k0_dev48 : Nat :=
  let c0_i32_389 : BitVec 32 := 0#32
  let c15_i32_387 : BitVec 32 := 15#32
  let c1_i32_388 : BitVec 32 := 1#32
  let v678 : BitVec 32 := Scalar.muli c15_i32_387 c1_i32_388
  let v679 : BitVec 32 := Scalar.addi c0_i32_389 v678
  v679.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_308 : BitVec 32 := 0#32
  let v553 : BitVec 1 := Scalar.cmpi .ne v2 c0_i32_308
  let v554 : BitVec 32 := Scalar.extui v553
  let c0_i32_309 : BitVec 32 := 0#32
  let v555 : BitVec 1 := Scalar.cmpi .ne v554 c0_i32_309
  v555

def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_310 : BitVec 32 := 0#32
  let v556 : BitVec 1 := Scalar.cmpi .ne v2 c0_i32_310
  let v557 : BitVec 32 := Scalar.extui v556
  let c0_i32_311 : BitVec 32 := 0#32
  let v558 : BitVec 1 := Scalar.cmpi .ne v557 c0_i32_311
  v558

def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_312 : BitVec 32 := 1#32
  let v559 : BitVec 1 := Scalar.cmpi .ne v2 c1_i32_312
  let v560 : BitVec 32 := Scalar.extui v559
  let c0_i32_313 : BitVec 32 := 0#32
  let v561 : BitVec 1 := Scalar.cmpi .ne v560 c0_i32_313
  v561

def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v562 : BitVec 1 := Scalar.cmpi .ne v2 c1_i32_314
  let v563 : BitVec 32 := Scalar.extui v562
  let c0_i32_315 : BitVec 32 := 0#32
  let v564 : BitVec 1 := Scalar.cmpi .ne v563 c0_i32_315
  v564

def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_316 : BitVec 32 := 2#32
  let v565 : BitVec 1 := Scalar.cmpi .ne v2 c2_i32_316
  let v566 : BitVec 32 := Scalar.extui v565
  let c0_i32_317 : BitVec 32 := 0#32
  let v567 : BitVec 1 := Scalar.cmpi .ne v566 c0_i32_317
  v567

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_318 : BitVec 32 := 2#32
  let v568 : BitVec 1 := Scalar.cmpi .ne v2 c2_i32_318
  let v569 : BitVec 32 := Scalar.extui v568
  let c0_i32_319 : BitVec 32 := 0#32
  let v570 : BitVec 1 := Scalar.cmpi .ne v569 c0_i32_319
  v570

def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_320 : BitVec 32 := 3#32
  let v571 : BitVec 1 := Scalar.cmpi .ne v2 c3_i32_320
  let v572 : BitVec 32 := Scalar.extui v571
  let c0_i32_321 : BitVec 32 := 0#32
  let v573 : BitVec 1 := Scalar.cmpi .ne v572 c0_i32_321
  v573

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_322 : BitVec 32 := 3#32
  let v574 : BitVec 1 := Scalar.cmpi .ne v2 c3_i32_322
  let v575 : BitVec 32 := Scalar.extui v574
  let c0_i32_323 : BitVec 32 := 0#32
  let v576 : BitVec 1 := Scalar.cmpi .ne v575 c0_i32_323
  v576

def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_324 : BitVec 32 := 4#32
  let v577 : BitVec 1 := Scalar.cmpi .ne v2 c4_i32_324
  let v578 : BitVec 32 := Scalar.extui v577
  let c0_i32_325 : BitVec 32 := 0#32
  let v579 : BitVec 1 := Scalar.cmpi .ne v578 c0_i32_325
  v579

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_326 : BitVec 32 := 4#32
  let v580 : BitVec 1 := Scalar.cmpi .ne v2 c4_i32_326
  let v581 : BitVec 32 := Scalar.extui v580
  let c0_i32_327 : BitVec 32 := 0#32
  let v582 : BitVec 1 := Scalar.cmpi .ne v581 c0_i32_327
  v582

def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_328 : BitVec 32 := 5#32
  let v583 : BitVec 1 := Scalar.cmpi .ne v2 c5_i32_328
  let v584 : BitVec 32 := Scalar.extui v583
  let c0_i32_329 : BitVec 32 := 0#32
  let v585 : BitVec 1 := Scalar.cmpi .ne v584 c0_i32_329
  v585

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_330 : BitVec 32 := 5#32
  let v586 : BitVec 1 := Scalar.cmpi .ne v2 c5_i32_330
  let v587 : BitVec 32 := Scalar.extui v586
  let c0_i32_331 : BitVec 32 := 0#32
  let v588 : BitVec 1 := Scalar.cmpi .ne v587 c0_i32_331
  v588

def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_332 : BitVec 32 := 6#32
  let v589 : BitVec 1 := Scalar.cmpi .ne v2 c6_i32_332
  let v590 : BitVec 32 := Scalar.extui v589
  let c0_i32_333 : BitVec 32 := 0#32
  let v591 : BitVec 1 := Scalar.cmpi .ne v590 c0_i32_333
  v591

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_334 : BitVec 32 := 6#32
  let v592 : BitVec 1 := Scalar.cmpi .ne v2 c6_i32_334
  let v593 : BitVec 32 := Scalar.extui v592
  let c0_i32_335 : BitVec 32 := 0#32
  let v594 : BitVec 1 := Scalar.cmpi .ne v593 c0_i32_335
  v594

def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_336 : BitVec 32 := 7#32
  let v595 : BitVec 1 := Scalar.cmpi .ne v2 c7_i32_336
  let v596 : BitVec 32 := Scalar.extui v595
  let c0_i32_337 : BitVec 32 := 0#32
  let v597 : BitVec 1 := Scalar.cmpi .ne v596 c0_i32_337
  v597

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_338 : BitVec 32 := 7#32
  let v598 : BitVec 1 := Scalar.cmpi .ne v2 c7_i32_338
  let v599 : BitVec 32 := Scalar.extui v598
  let c0_i32_339 : BitVec 32 := 0#32
  let v600 : BitVec 1 := Scalar.cmpi .ne v599 c0_i32_339
  v600

def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_340 : BitVec 32 := 8#32
  let v601 : BitVec 1 := Scalar.cmpi .ne v2 c8_i32_340
  let v602 : BitVec 32 := Scalar.extui v601
  let c0_i32_341 : BitVec 32 := 0#32
  let v603 : BitVec 1 := Scalar.cmpi .ne v602 c0_i32_341
  v603

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_342 : BitVec 32 := 8#32
  let v604 : BitVec 1 := Scalar.cmpi .ne v2 c8_i32_342
  let v605 : BitVec 32 := Scalar.extui v604
  let c0_i32_343 : BitVec 32 := 0#32
  let v606 : BitVec 1 := Scalar.cmpi .ne v605 c0_i32_343
  v606

def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_344 : BitVec 32 := 9#32
  let v607 : BitVec 1 := Scalar.cmpi .ne v2 c9_i32_344
  let v608 : BitVec 32 := Scalar.extui v607
  let c0_i32_345 : BitVec 32 := 0#32
  let v609 : BitVec 1 := Scalar.cmpi .ne v608 c0_i32_345
  v609

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_346 : BitVec 32 := 9#32
  let v610 : BitVec 1 := Scalar.cmpi .ne v2 c9_i32_346
  let v611 : BitVec 32 := Scalar.extui v610
  let c0_i32_347 : BitVec 32 := 0#32
  let v612 : BitVec 1 := Scalar.cmpi .ne v611 c0_i32_347
  v612

def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_348 : BitVec 32 := 10#32
  let v613 : BitVec 1 := Scalar.cmpi .ne v2 c10_i32_348
  let v614 : BitVec 32 := Scalar.extui v613
  let c0_i32_349 : BitVec 32 := 0#32
  let v615 : BitVec 1 := Scalar.cmpi .ne v614 c0_i32_349
  v615

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_378 : BitVec 32 := 0#32
  let c0_i32_379 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_350 : BitVec 32 := 10#32
  let v616 : BitVec 1 := Scalar.cmpi .ne v2 c10_i32_350
  let v617 : BitVec 32 := Scalar.extui v616
  let c0_i32_351 : BitVec 32 := 0#32
  let v618 : BitVec 1 := Scalar.cmpi .ne v617 c0_i32_351
  v618

def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_352 : BitVec 32 := 11#32
  let v619 : BitVec 1 := Scalar.cmpi .ne v2 c11_i32_352
  let v620 : BitVec 32 := Scalar.extui v619
  let c0_i32_353 : BitVec 32 := 0#32
  let v621 : BitVec 1 := Scalar.cmpi .ne v620 c0_i32_353
  v621

def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_354 : BitVec 32 := 11#32
  let v622 : BitVec 1 := Scalar.cmpi .ne v2 c11_i32_354
  let v623 : BitVec 32 := Scalar.extui v622
  let c0_i32_355 : BitVec 32 := 0#32
  let v624 : BitVec 1 := Scalar.cmpi .ne v623 c0_i32_355
  v624

def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_356 : BitVec 32 := 12#32
  let v625 : BitVec 1 := Scalar.cmpi .ne v2 c12_i32_356
  let v626 : BitVec 32 := Scalar.extui v625
  let c0_i32_357 : BitVec 32 := 0#32
  let v627 : BitVec 1 := Scalar.cmpi .ne v626 c0_i32_357
  v627

def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_358 : BitVec 32 := 12#32
  let v628 : BitVec 1 := Scalar.cmpi .ne v2 c12_i32_358
  let v629 : BitVec 32 := Scalar.extui v628
  let c0_i32_359 : BitVec 32 := 0#32
  let v630 : BitVec 1 := Scalar.cmpi .ne v629 c0_i32_359
  v630

def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_360 : BitVec 32 := 13#32
  let v631 : BitVec 1 := Scalar.cmpi .ne v2 c13_i32_360
  let v632 : BitVec 32 := Scalar.extui v631
  let c0_i32_361 : BitVec 32 := 0#32
  let v633 : BitVec 1 := Scalar.cmpi .ne v632 c0_i32_361
  v633

def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_362 : BitVec 32 := 13#32
  let v634 : BitVec 1 := Scalar.cmpi .ne v2 c13_i32_362
  let v635 : BitVec 32 := Scalar.extui v634
  let c0_i32_363 : BitVec 32 := 0#32
  let v636 : BitVec 1 := Scalar.cmpi .ne v635 c0_i32_363
  v636

def k0_mult32 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_364 : BitVec 32 := 14#32
  let v637 : BitVec 1 := Scalar.cmpi .ne v2 c14_i32_364
  let v638 : BitVec 32 := Scalar.extui v637
  let c0_i32_365 : BitVec 32 := 0#32
  let v639 : BitVec 1 := Scalar.cmpi .ne v638 c0_i32_365
  v639

def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_366 : BitVec 32 := 14#32
  let v640 : BitVec 1 := Scalar.cmpi .ne v2 c14_i32_366
  let v641 : BitVec 32 := Scalar.extui v640
  let c0_i32_367 : BitVec 32 := 0#32
  let v642 : BitVec 1 := Scalar.cmpi .ne v641 c0_i32_367
  v642

def k0_mult33 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_368 : BitVec 32 := 15#32
  let v643 : BitVec 1 := Scalar.cmpi .ne v2 c15_i32_368
  let v644 : BitVec 32 := Scalar.extui v643
  let c0_i32_369 : BitVec 32 := 0#32
  let v645 : BitVec 1 := Scalar.cmpi .ne v644 c0_i32_369
  v645

def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let c0_i32_378 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_370 : BitVec 32 := 15#32
  let v646 : BitVec 1 := Scalar.cmpi .ne v2 c15_i32_370
  let v647 : BitVec 32 := Scalar.extui v646
  let c0_i32_371 : BitVec 32 := 0#32
  let v648 : BitVec 1 := Scalar.cmpi .ne v647 c0_i32_371
  v648

def k0_mult34 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  v676
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let v650 : BitVec 1 := Scalar.cmpi .sgt v2 c0_i32_373
  let v651 : BitVec 32 := Scalar.extui v650
  let c0_i32_374 : BitVec 32 := 0#32
  let v652 : BitVec 1 := Scalar.cmpi .slt v2 c0_i32_374
  let v653 : BitVec 32 := Scalar.extui v652
  let v654 : BitVec 32 := Scalar.subi v651 v653
  let c8_i32_372 : BitVec 32 := 8#32
  let c0_i32_375 : BitVec 32 := 0#32
  let v655 : BitVec 1 := Scalar.cmpi .sgt c8_i32_372 c0_i32_375
  let v656 : BitVec 32 := Scalar.extui v655
  let c0_i32_376 : BitVec 32 := 0#32
  let v657 : BitVec 1 := Scalar.cmpi .slt c8_i32_372 c0_i32_376
  let v658 : BitVec 32 := Scalar.extui v657
  let v659 : BitVec 32 := Scalar.subi v656 v658
  let v660 : BitVec 1 := Scalar.cmpi .ne v654 v659
  let v661 : BitVec 32 := Scalar.remsi v2 c8_i32_372
  let c0_i32_377 : BitVec 32 := 0#32
  let v662 : BitVec 1 := Scalar.cmpi .ne v661 c0_i32_377
  let v663 : BitVec 1 := Scalar.andi v660 v662
  let v649 : BitVec 32 := Scalar.divsi v2 c8_i32_372
  let c1_i32_378 : BitVec 32 := 1#32
  let v664 : BitVec 32 := Scalar.subi v649 c1_i32_378
  let v665 : BitVec 32 := Scalar.select v663 v664 v649
  let c8_i32_379 : BitVec 32 := 8#32
  let c0_i32_380 : BitVec 32 := 0#32
  let v666 : BitVec 1 := Scalar.cmpi .eq c8_i32_379 c0_i32_380
  let c1_i32_381 : BitVec 32 := 1#32
  let v667 : BitVec 32 := Scalar.select v666 c1_i32_381 c8_i32_379
  let v668 : BitVec 32 := Scalar.remsi v2 v667
  let c0_i32_383 : BitVec 32 := 0#32
  let v670 : BitVec 1 := Scalar.cmpi .slt v668 c0_i32_383
  let c0_i32_384 : BitVec 32 := 0#32
  let v671 : BitVec 1 := Scalar.cmpi .slt v667 c0_i32_384
  let v672 : BitVec 1 := Scalar.xori v670 v671
  let c0_i32_382 : BitVec 32 := 0#32
  let v669 : BitVec 1 := Scalar.cmpi .ne v668 c0_i32_382
  let v673 : BitVec 1 := Scalar.andi v672 v669
  let v674 : BitVec 32 := Scalar.addi v668 v667
  let v675 : BitVec 32 := Scalar.select v673 v674 v668
  let c32_i32_385 : BitVec 32 := 32#32
  let v676 : BitVec 32 := Scalar.muli v675 c32_i32_385
  let v677 : BitVec 32 := v676
  let c0_i32_389 : BitVec 32 := 0#32
  ![v665.toNat, v677.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 142
  | .vmem => 0
  | .smem => 0
  | _ => 0

abbrev hbmTy0_0 (i : Nat) : BufTy := match i % 128 with
  | 0 => ⟨S2x256x512, .bf16⟩
  | 1 => ⟨S512x4096, .bf16⟩
  | 2 => ⟨S2x256x64x64, .bf16⟩
  | 3 => ⟨S2x256x64x64, .bf16⟩
  | 4 => ⟨S4096x512, .bf16⟩
  | 5 => ⟨S2x256x4096, .f32⟩
  | 6 => ⟨S2x256x4096, .bf16⟩
  | 7 => ⟨S2x256x64x64, .bf16⟩
  | 8 => ⟨S256, .i32⟩
  | 9 => ⟨S_, .i32⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S256, .i32⟩
  | 18 => ⟨S256, .i32⟩
  | 19 => ⟨S_, .i32⟩
  | 20 => ⟨S256, .i32⟩
  | 21 => ⟨S256, .i1⟩
  | 22 => ⟨S256, .i1⟩
  | 23 => ⟨S_, .i32⟩
  | 24 => ⟨S256, .i32⟩
  | 25 => ⟨S256, .i32⟩
  | 26 => ⟨S256, .i32⟩
  | 27 => ⟨S256x1, .i32⟩
  | 28 => ⟨S256, .i32⟩
  | 29 => ⟨S_, .i32⟩
  | 30 => ⟨S_, .i32⟩
  | 31 => ⟨S256, .i32⟩
  | 32 => ⟨S256, .i32⟩
  | 33 => ⟨S256, .i32⟩
  | 34 => ⟨S_, .i32⟩
  | 35 => ⟨S256, .i32⟩
  | 36 => ⟨S256, .i1⟩
  | 37 => ⟨S256, .i32⟩
  | 38 => ⟨S256, .i32⟩
  | 39 => ⟨S_, .i32⟩
  | 40 => ⟨S256, .i32⟩
  | 41 => ⟨S256, .i1⟩
  | 42 => ⟨S256, .i1⟩
  | 43 => ⟨S_, .i32⟩
  | 44 => ⟨S256, .i32⟩
  | 45 => ⟨S256, .i32⟩
  | 46 => ⟨S256, .i32⟩
  | 47 => ⟨S1x256, .i32⟩
  | 48 => ⟨S256x256, .i32⟩
  | 49 => ⟨S256x256, .i32⟩
  | 50 => ⟨S256x256, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x256, .i32⟩
  | 58 => ⟨S1x256, .i32⟩
  | 59 => ⟨S_, .i32⟩
  | 60 => ⟨S1x256, .i32⟩
  | 61 => ⟨S1x256, .i1⟩
  | 62 => ⟨S_, .i32⟩
  | 63 => ⟨S1x256, .i32⟩
  | 64 => ⟨S1x256, .i1⟩
  | 65 => ⟨S_, .i32⟩
  | 66 => ⟨S_, .i1⟩
  | 67 => ⟨S1x256, .i1⟩
  | 68 => ⟨S1x256, .i1⟩
  | 69 => ⟨S1x256, .i1⟩
  | 70 => ⟨S1x256, .i32⟩
  | 71 => ⟨S1x256, .i32⟩
  | 72 => ⟨S1x256, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S256x1, .i32⟩
  | 80 => ⟨S256x1, .i32⟩
  | 81 => ⟨S_, .i32⟩
  | 82 => ⟨S256x1, .i32⟩
  | 83 => ⟨S256x1, .i1⟩
  | 84 => ⟨S_, .i32⟩
  | 85 => ⟨S256x1, .i32⟩
  | 86 => ⟨S256x1, .i1⟩
  | 87 => ⟨S_, .i32⟩
  | 88 => ⟨S_, .i1⟩
  | 89 => ⟨S256x1, .i1⟩
  | 90 => ⟨S256x1, .i1⟩
  | 91 => ⟨S256x1, .i1⟩
  | 92 => ⟨S256x1, .i32⟩
  | 93 => ⟨S256x1, .i32⟩
  | 94 => ⟨S256x1, .i32⟩
  | 95 => ⟨S256x256, .i32⟩
  | 96 => ⟨S256x256, .i32⟩
  | 97 => ⟨S256x256, .i1⟩
  | 98 => ⟨S256x256, .i1⟩
  | 99 => ⟨S2x64x256x256, .f32⟩
  | 100 => ⟨S2x64x256x256, .bf16⟩
  | 101 => ⟨S2x64x256x256, .f32⟩
  | 102 => ⟨S_, .f32⟩
  | 103 => ⟨S2x64x256x256, .f32⟩
  | 104 => ⟨S2x64x256x256, .f32⟩
  | 105 => ⟨S1x1x256x256, .i1⟩
  | 106 => ⟨S_, .f32⟩
  | 107 => ⟨S_, .f32⟩
  | 108 => ⟨S2x64x256x256, .i1⟩
  | 109 => ⟨S2x64x256x256, .f32⟩
  | 110 => ⟨S2x64x256x256, .f32⟩
  | 111 => ⟨S_, .f32⟩
  | 112 => ⟨S2x64x256, .f32⟩
  | 113 => ⟨S2x64x256x1, .f32⟩
  | 114 => ⟨S2x64x256x256, .f32⟩
  | 115 => ⟨S2x64x256x256, .f32⟩
  | 116 => ⟨S2x64x256x256, .f32⟩
  | 117 => ⟨S_, .i1⟩
  | 118 => ⟨S256, .i1⟩
  | 119 => ⟨S1x1x256x1, .i1⟩
  | 120 => ⟨S_, .f32⟩
  | 121 => ⟨S2x64x256, .f32⟩
  | 122 => ⟨S2x64x256x1, .f32⟩
  | 123 => ⟨S_, .f32⟩
  | 124 => ⟨S_, .f32⟩
  | 125 => ⟨S2x64x256x1, .i1⟩
  | 126 => ⟨S2x64x256x1, .f32⟩
  | 127 => ⟨S2x64x256x1, .f32⟩
  | _ => ⟨S2x256x512, .bf16⟩

abbrev hbmTy0_1 (i : Nat) : BufTy := match i % 128 with
  | 0 => ⟨S2x64x256x256, .f32⟩
  | 1 => ⟨S2x64x256x256, .f32⟩
  | 2 => ⟨S1x1x256x1, .i1⟩
  | 3 => ⟨S_, .f32⟩
  | 4 => ⟨S_, .f32⟩
  | 5 => ⟨S2x64x256x256, .i1⟩
  | 6 => ⟨S2x64x256x256, .f32⟩
  | 7 => ⟨S2x64x256x256, .f32⟩
  | 8 => ⟨S2x64x64x256, .f32⟩
  | 9 => ⟨S2x256x64x64, .f32⟩
  | 10 => ⟨S2x256x4096, .f32⟩
  | 11 => ⟨S4096x512, .f32⟩
  | 12 => ⟨S2x256x512, .f32⟩
  | 13 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.KI.Sched.lean ====
/- The protocol of the sixteen-device attention kernel: which cells there are, what each one hands over, who waits at
   which level. Device `c`'s barrier cell gets one unit from every device `s`; with it comes the room on `s` that `c`
   will write: `s`'s landing slot `c` and `s`'s result block `c`. Device `c`'s landing cell `s` gets one transfer from
   `s`, handing over slot `s` holding block `c` of `s`'s partial product. Device `c`'s gather cell `s` gets one transfer
   from `s`, handing over result block `s`. The two families of source cells hand the source back. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Rounds
public import Idealize.ShloMosaic.Lib.Memref
public import Idealize.ShloMosaic.Lib.ShareLeaves
public import Idealize.ShloMosaic.Lib.Tactic
public import Idealize.ShloMosaic.Harness.Basic

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline's own rounds, and the protocol's, whose duties are named by devices. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Buffers and their blocks -/

/-- The kernel's own buffers: rounded partial product, rounded block, landing slots, partial product, result. -/
abbrev aP : Memref sig .tc .vmem S2x256x512 .bf16 := Memref.whole cc0_scratch0
abbrev aB : Memref sig .tc .vmem S32x512 .bf16 := Memref.whole cc0_scratch1
abbrev aR : Memref sig .tc .vmem S16x32x512 .bf16 := Memref.whole cc0_scratch2
abbrev aT : Memref sig .tc .vmem S2x256x512 .f32 := Memref.whole cc0_scratch3
abbrev aO : Memref sig .tc .vmem S2x256x512 .bf16 := Memref.whole cc0_stg5_0

/-- Where device `d`'s block of 32 rows starts, and where landing slot `s` starts. -/
def offB (d : Dev nD) : Fin 3 → ℕ := ![d.val / 8, d.val % 8 * 32, 0]
def offR (s : Dev nD) : Fin 3 → ℕ := ![s.val, 0, 0]
def off1 (s : Dev nD) : Fin 1 → ℕ := ![s.val]
theorem offB_inb : ∀ (d : Dev nD) a, offB d a + S1x32x512.size a ≤ S2x256x512.size a := by decide +kernel
theorem offR_inb : ∀ (s : Dev nD) a, offR s a + S1x32x512.size a ≤ S16x32x512.size a := by decide +kernel
theorem off1_inb : ∀ (s : Dev nD) a, off1 s a + S1.size a ≤ S16.size a := by decide +kernel
abbrev rB (d : Dev nD) : Rect S2x256x512 := Rect.unit (s := S2x256x512) (offB d) S1x32x512.size (offB_inb d)
abbrev rR (s : Dev nD) : Rect S16x32x512 := Rect.unit (s := S16x32x512) (offR s) S1x32x512.size (offR_inb s)

abbrev srcM (d : Dev nD) : Memref sig .tc .vmem S32x512 .bf16 :=
  (aP.slice (rB d) (fun _ => rfl)).squeeze S32x512 squeezes_S1x32x512_S32x512
abbrev outM (d : Dev nD) : Memref sig .tc .vmem S32x512 .bf16 :=
  (aO.slice (rB d) (fun _ => rfl)).squeeze S32x512 squeezes_S1x32x512_S32x512
abbrev slotM (s : Dev nD) : Memref sig .tc .vmem S32x512 .bf16 :=
  (aR.slice (rR s) (fun _ => rfl)).squeeze S32x512 squeezes_S1x32x512_S32x512

/-! ## Cells -/

abbrev barS : Sem sig := (SemArray.scalar (sig.barrier 0 rfl) : Sems sig S_).sem
/-- Semaphore `j` of family `k`: 0 the first phase's sources, 1 its landings, 2 the second phase's sources, 3 its landings. -/
def dsem (k : Fin 4) (j : Dev nD) : DmaSem sig := ⟨6 + 16 * k.val + j.val, by
  have hk := k.isLt; have hj : j.val < 16 := j.isLt; show 6 + 16 * k.val + j.val < 70; omega⟩
abbrev barCell (c : Dev nD) : GSem nD τ sig := ((c : Thread nD τ), .reg barS)
abbrev cell (k : Fin 4) (c j : Dev nD) : GSem nD τ sig := ((c : Thread nD τ), .dma (dsem k j))

/-- Which family and which member a semaphore number belongs to. -/
def famOf (n : DmaSem sig) : ℕ := (n.val - 6) / 16
def memOf (n : DmaSem sig) : Dev nD := ⟨(n.val - 6) % 16, Nat.mod_lt _ (by decide)⟩
theorem famOf_dsem : ∀ (k : Fin 4) (j : Dev nD), famOf (dsem k j) = k.val := by decide +kernel
theorem memOf_dsem : ∀ (k : Fin 4) (j : Dev nD), memOf (dsem k j) = j := by decide +kernel
theorem six_le_dsem (k : Fin 4) (j : Dev nD) : 6 ≤ (dsem k j).val := by unfold dsem; dsimp only; omega

theorem sem4 : ∀ j : Dev nD, ((cc0_scratch4.slice (Rect.unit (s := S16) (off1 j) S1.size (off1_inb j))).squeeze S_ squeezes_S1_S_).sem = dsem 0 j := by decide +kernel
theorem sem5 : ∀ j : Dev nD, ((cc0_scratch5.slice (Rect.unit (s := S16) (off1 j) S1.size (off1_inb j))).squeeze S_ squeezes_S1_S_).sem = dsem 1 j := by decide +kernel
theorem sem6 : ∀ j : Dev nD, ((cc0_scratch6.slice (Rect.unit (s := S16) (off1 j) S1.size (off1_inb j))).squeeze S_ squeezes_S1_S_).sem = dsem 2 j := by decide +kernel
theorem sem7 : ∀ j : Dev nD, ((cc0_scratch7.slice (Rect.unit (s := S16) (off1 j) S1.size (off1_inb j))).squeeze S_ squeezes_S1_S_).sem = dsem 3 j := by decide +kernel

/-- What one transfer of a block counts. -/
abbrev N : ℕ := aB.view.dmaCredit
theorem N_pos : 0 < N := View.dmaCredit_pos _ (by decide +kernel)
theorem amount_slot (s : Dev nD) (n : DmaSem sig) : (slotM s).view.amount (.dma n) = N := rfl
theorem amount_src (s : Dev nD) (n : DmaSem sig) : (srcM s).view.amount (.dma n) = N := rfl
theorem amount_out (s : Dev nD) (n : DmaSem sig) : (outM s).view.amount (.dma n) = N := rfl
theorem amount_blk (n : DmaSem sig) : aB.view.amount (.dma n) = N := rfl

/-! ## The schedule -/

variable (pb : Dev nD → cc0_scratch0.ty.Contents (Elt F)) (bb : Dev nD → cc0_scratch1.ty.Contents (Elt F))

/-- The share of the rounded block that the transfer to device `d` reads through. -/
abbrev shr (d : Dev nD) : PosShare TreeShare := ShareLeaves.leaf 4 fullShare d

abbrev slotOwn (c s : Dev nD) (X : S32x512.Idx → Elt F .bf16) : sProp 𝕄 := owns (c : Thread nD τ) (slotM s) fullShare X
abbrev outOwn (c s : Dev nD) (X : S32x512.Idx → Elt F .bf16) : sProp 𝕄 := owns (c : Thread nD τ) (outM s) fullShare X

/-- Block `c` of device `s`'s rounded partial product. -/
abbrev sent (c s : Dev nD) : S32x512.Idx → Elt F .bf16 := (srcM c).view.read (Elt F) (pb s)

/-- Device `c`'s block for device `j`, and its rounded block as read through by the transfer to `j`. -/
abbrev srcOwn (c j : Dev nD) : sProp 𝕄 := owns (c : Thread nD τ) (srcM j) fullShare (sent pb j c)
abbrev blkOwn (c j : Dev nD) : sProp 𝕄 := owns (c : Thread nD τ) aB (shr j) (bb c)

def barPay (c s : Dev nD) : sProp 𝕄 :=
  iprop((∃ X, slotOwn s c X) ∗ (∃ X, outOwn s c X) ∗ reached ER (cell 1 s c) 0 ∗ reached ER (cell 3 s c) 0)

def dmaPay (k : ℕ) (c j : Dev nD) : sProp 𝕄 :=
  if k = 0 then srcOwn pb c j else if k = 1 then slotOwn c j (sent pb c j)
  else if k = 2 then blkOwn bb c j else outOwn c j (bb j)

abbrev hasDuty (c : Dev nD) (n : DmaSem sig) : Prop := 6 ≤ n.val ∧ c ≠ memOf n

/-- Round 0: sixteen duties on a barrier cell, one on every source or landing cell but a device's own. -/
def Rd : Rounds.Schedule (GSem nD τ sig) (Dev nD) 𝕄 where
  duties g r := if r = 0 ∧ g.1.2 = .tc then
      (match g.2 with | .reg _ => Finset.univ | .dma n => if hasDuty g.1.1 n then {0} else ∅) else ∅
  unitless _ := False
  amount g _ _ := match g.2 with | .reg _ => 1 | .dma _ => N
  payload g _ d := match g.2 with | .reg _ => barPay g.1.1 d | .dma n => dmaPay pb bb (famOf n) g.1.1 (memOf n)
  amount_pos g _ _ _ := by rcases g with ⟨_, _ | _⟩; exacts [Nat.one_pos, N_pos]

instance dmaPay_storable (k : ℕ) (c j : Dev nD) : BI.Storable (upEmb : UEmb _ 𝕄) (dmaPay pb bb k c j) := by
  unfold dmaPay; (repeat' split) <;> infer_instance
instance barPay_storable (c j : Dev nD) : BI.Storable (upEmb : UEmb _ 𝕄) (barPay (F := F) c j) := by
  unfold barPay; infer_instance
instance Rd_storable (g : GSem nD τ sig) (r : ℕ) (d : Dev nD) : BI.Storable (upEmb : UEmb _ 𝕄) ((Rd pb bb).payload g r d) := by
  rcases g with ⟨t, sm | n⟩
  · show BI.Storable upEmb (barPay t.1 d); infer_instance
  · show BI.Storable upEmb (dmaPay pb bb (famOf n) t.1 (memOf n)); infer_instance

theorem duties_bar (c : Dev nD) : (Rd pb bb).duties (barCell c) 0 = Finset.univ := by dsimp only [Rd]; exact if_pos ⟨rfl, rfl⟩
theorem duties_cell (k : Fin 4) {c j : Dev nD} (h : c ≠ j) : (Rd pb bb).duties (cell k c j) 0 = {0} := by
  dsimp only [Rd]; rw [if_pos ⟨rfl, rfl⟩]; exact if_pos ⟨six_le_dsem k j, by rw [memOf_dsem]; exact h⟩
theorem duties_own (k : Fin 4) (c : Dev nD) (r : ℕ) : (Rd pb bb).duties (cell k c c) r = ∅ := by
  dsimp only [Rd]; split
  · exact if_neg fun h => h.2 (memOf_dsem k c).symm
  · rfl
theorem duties_later (g : GSem nD τ sig) : ∀ r, 1 ≤ r → (Rd pb bb).duties g r = ∅ := fun r hr => by
  dsimp only [Rd]; exact if_neg fun h => by omega
theorem amount_bar (c d : Dev nD) : (Rd pb bb).amount (barCell c) 0 d = 1 := rfl
theorem amount_cell (k : Fin 4) (c j d : Dev nD) : (Rd pb bb).amount (cell k c j) 0 d = N := rfl
theorem payload_bar (c d : Dev nD) : (Rd pb bb).payload (barCell c) 0 d = barPay c d := rfl
theorem payload_cell (k : Fin 4) (c j d : Dev nD) : (Rd pb bb).payload (cell k c j) 0 d = dmaPay pb bb k.val c j := by
  show dmaPay pb bb (famOf (dsem k j)) c (memOf (dsem k j)) = _; rw [famOf_dsem, memOf_dsem]
theorem expect_bar (c : Dev nD) : (Rd pb bb).expect (barCell c) 0 = 16 := by
  unfold Schedule.expect Schedule.amountOf; rw [duties_bar]; rfl
theorem expect_cell (k : Fin 4) {c j : Dev nD} (h : c ≠ j) : (Rd pb bb).expect (cell k c j) 0 = N := by
  unfold Schedule.expect Schedule.amountOf; rw [duties_cell pb bb k h, Finset.sum_singleton, amount_cell]
theorem rest_bar (c : Dev nD) : bigSep ((Rd pb bb).duties (barCell c) 0 \ ∅) (fun u => (Rd pb bb).payload (barCell c) 0 u)
    = bigSep Finset.univ (fun s => barPay (F := F) c s) := by rw [Finset.sdiff_empty, duties_bar]; rfl
theorem rest_cell (k : Fin 4) {c j : Dev nD} (h : c ≠ j) :
    bigSep ((Rd pb bb).duties (cell k c j) 0 \ ∅) (fun u => (Rd pb bb).payload (cell k c j) 0 u) = dmaPay pb bb k.val c j := by
  rw [Finset.sdiff_empty, duties_cell pb bb k h, bigSep_singleton, payload_cell]

theorem dmaPay_zero (c j : Dev nD) : dmaPay pb bb 0 c j = srcOwn pb c j := if_pos rfl
theorem dmaPay_one (c j : Dev nD) : dmaPay pb bb 1 c j = slotOwn c j (sent pb c j) := rfl
theorem dmaPay_two (c j : Dev nD) : dmaPay pb bb 2 c j = blkOwn bb c j := rfl
theorem dmaPay_three (c j : Dev nD) : dmaPay pb bb 3 c j = outOwn c j (bb j) := rfl

/-! ## Dues and levels -/

/-- What a device owes the devices of a list, in the order it pays. -/
def due (f : Dev nD → CellTallies nD τ sig Unit) : List (Dev nD) → CellTallies nD τ sig Unit
  | [] => 0
  | d :: l => due f l + f d
def fBar (d : Dev nD) : CellTallies nD τ sig Unit := tallyAt (barCell d) () 1
def fCell (k : Fin 4) (c d : Dev nD) : CellTallies nD τ sig Unit := if c = d then 0 else tallyAt (cell k d c) () N
abbrev all : List (Dev nD) := [0, 1, 2, 3, 4, 5, 6, 7, 8, 9, 10, 11, 12, 13, 14, 15]

def L (g : GSem nD τ sig) : Finset Unit := if g.1.2 = .tc then {()} else ∅
/-- barrier cells at 1, landing cells of the first phase at 2, of the second at 3, the rest at 0. -/
def lv (g : GSem nD τ sig) (_ : Unit) : ℕ :=
  match g.2 with | .reg _ => 1 | .dma n => if n.val < 6 then 0 else if famOf n = 1 then 2 else if famOf n = 3 then 3 else 0

theorem L_of_ne (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _
theorem lv_cell (k : Fin 4) (c j : Dev nD) : lv (cell k c j) () = if k.val = 1 then 2 else if k.val = 3 then 3 else 0 := by
  show (if (dsem k j).val < 6 then 0 else if famOf (dsem k j) = 1 then 2 else if famOf (dsem k j) = 3 then 3 else 0) = _
  rw [if_neg (by have := six_le_dsem k j; omega), famOf_dsem]

theorem due_pos {f : Dev nD → CellTallies nD τ sig Unit} {l : List (Dev nD)} {g : GSem nD τ sig} {u : Unit} (h : 0 < due f l g u) :
    ∃ d ∈ l, 0 < f d g u := by
  induction l with
  | nil => exact absurd h (Nat.lt_irrefl 0)
  | cons d l ih =>
    unfold due at h; rw [Pi.add_apply, Finsupp.add_apply] at h
    rcases Nat.add_pos_iff_pos_or_pos.mp h with h | h
    · obtain ⟨d', hd, hp⟩ := ih h; exact ⟨d', List.mem_cons_of_mem _ hd, hp⟩
    · exact ⟨d, List.mem_cons_self, h⟩
theorem fCell_pos {k : Fin 4} {c d : Dev nD} {g : GSem nD τ sig} {u : Unit} (h : 0 < fCell k c d g u) : g = cell k d c := by
  unfold fCell at h; split at h
  · exact absurd h (Nat.lt_irrefl 0)
  · rw [tallyAt_apply] at h; split at h
    · next hg => exact hg.1
    · exact absurd h (Nat.lt_irrefl 0)
theorem fBar_pos {d : Dev nD} {g : GSem nD τ sig} {u : Unit} (h : 0 < fBar d g u) : g = barCell d := by
  unfold fBar at h; rw [tallyAt_apply] at h; split at h
  · next hg => exact hg.1
  · exact absurd h (Nat.lt_irrefl 0)

/-- Waiting at a cell while every due is at a cell of a higher level. -/
theorem mayWait (c : Dev nD) (sm : SemLoc sig) (O : CellTallies nD τ sig Unit) (cut : ℕ) (hc : lv ((c : Thread nD τ), sm) () ≤ cut)
    (hO : ∀ g u, 0 < O g u → ∃ (d : Dev nD) (sm' : SemLoc sig), g = ((d : Thread nD τ), sm') ∧ cut < lv g ()) :
    (levAts L lv : sProp 𝕄) ⊢ MayWait (c : Thread nD τ) sm () O :=
  MayOwe.of_cut (L := L) (lev := lv) cut
    (fun p hp => by rw [Finset.mem_singleton.mp hp]; exact L_tc _ _)
    (fun g u hg => by obtain ⟨d, sm', rfl, _⟩ := hO g u hg; exact L_tc _ _)
    (fun p hp => by rw [Finset.mem_singleton.mp hp]; exact hc)
    (fun g u hg => by obtain ⟨d, sm', rfl, h⟩ := hO g u hg; exact h)

end Cert.KernelIdeal.Talk

end
-- ==== Proof.KI.Steps.lean ====
/- One step of each phase: a transfer sent, a landing or a source waited for, at a symbolic device and peer. -/
module

public import proofs.«01_k».proof.Proof.KI.Sched

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of devices -/

/-- The separating conjunction over a list. -/
def sepL {I : Type} : List I → (I → sProp 𝕄) → sProp 𝕄
  | [], _ => iprop(emp)
  | a :: l, P => iprop(P a ∗ sepL l P)

theorem sepL_cons {I : Type} (a : I) (l : List I) (P : I → sProp 𝕄) : sepL (a :: l) P = iprop(P a ∗ sepL l P) := rfl
theorem sepL_bigSep {I : Type} [DecidableEq I] (l : List I) (hl : l.Nodup) (P : I → sProp 𝕄) : sepL l P = bigSep l.toFinset P := by
  induction l with
  | nil => exact bigSep_empty.symm
  | cons a l ih =>
    rw [sepL_cons, ih (List.nodup_cons.mp hl).2, List.toFinset_cons, bigSep_insert (by rw [List.mem_toFinset]; exact (List.nodup_cons.mp hl).1)]; rfl

theorem sepL_all (P : Dev nD → sProp 𝕄) : sepL all P = bigSep Finset.univ P := by
  rw [sepL_bigSep all (by decide)]; congr 1
theorem sepL_all_rev (P : Dev nD → sProp 𝕄) : sepL all.reverse P = bigSep Finset.univ P := by
  rw [sepL_bigSep _ (by decide)]; congr 1; decide

/-! ## The invariants -/

variable (pb : Dev nD → cc0_scratch0.ty.Contents (Elt F)) (bb : Dev nD → cc0_scratch1.ty.Contents (Elt F))

/-- The invariants of all cells of the protocol, under names `K`. -/
def invs (K : GSem nD τ sig → ℕ) : sProp 𝕄 :=
  iprop((bigSep Finset.univ fun d : Dev nD => cellInv ER (Rd pb bb) (K (barCell d)) (barCell d))
    ∗ bigSep Finset.univ fun x : Fin 4 × Dev nD × Dev nD => cellInv ER (Rd pb bb) (K (cell x.1 x.2.1 x.2.2)) (cell x.1 x.2.1 x.2.2))
instance invs_persistent (K : GSem nD τ sig → ℕ) : BI.Persistent (invs pb bb K) := by unfold invs; infer_instance
theorem at_bar (K : GSem nD τ sig → ℕ) (d : Dev nD) : (bigSep Finset.univ fun d : Dev nD => cellInv ER (Rd pb bb) (K (barCell d)) (barCell d))
    ⊢ cellInv ER (Rd pb bb) (K (barCell d)) (barCell d) := bigSep_elim (Finset.mem_univ d)
theorem at_cell (K : GSem nD τ sig → ℕ) (k : Fin 4) (c d : Dev nD) :
    (bigSep Finset.univ fun x : Fin 4 × Dev nD × Dev nD => cellInv ER (Rd pb bb) (K (cell x.1 x.2.1 x.2.2)) (cell x.1 x.2.1 x.2.2))
    ⊢ cellInv ER (Rd pb bb) (K (cell k c d)) (cell k c d) := bigSep_elim (Finset.mem_univ (k, c, d))
theorem invs_bar (K : GSem nD τ sig → ℕ) (d : Dev nD) : invs pb bb K ⊢ cellInv ER (Rd pb bb) (K (barCell d)) (barCell d) := by
  unfold invs; iintro ⟨H, -⟩; iapply (at_bar pb bb K d); iexact H
theorem invs_cell (K : GSem nD τ sig → ℕ) (k : Fin 4) (c d : Dev nD) : invs pb bb K ⊢ cellInv ER (Rd pb bb) (K (cell k c d)) (cell k c d) := by
  unfold invs; iintro ⟨-, H⟩; iapply (at_cell pb bb K k c d); iexact H

theorem owns_elim (c : Dev nD) {sp : Space} {sh : Shape} {e : EltTy} (m : Memref sig .tc sp sh e) (q : PosShare TreeShare) (X : sh.Idx → Elt F e) :
    (owns (c : Thread nD τ) m q X : sProp 𝕄) ⊢ iprop(∃ f, ⌜m.view.read (Elt F) f = X⌝ ∗ (m.view.loc (c : Thread nD τ) ↦[m.view.set]{q} f)) := .rfl

/-! ## What a device holds for a peer before and after each step -/

/-- A credit to wait for a transfer, with the wait's position. -/
def credPos (k : Fin 4) (c j : Dev nD) : sProp 𝕄 := iprop(cred (tallyAt (cell k c j) () N) ∗ atPos ER (cell k c j) 0 ∅ 0)
def donePos (k : Fin 4) (c j : Dev nD) : sProp 𝕄 := iprop(dmaPay pb bb k.val c j ∗ atPos ER (cell k c j) (0 + 1) ∅ 0)

/-- The two tokens of a transfer from `c` to `d`: source cell of family `k₁`, landing cell of family `k₂`. -/
def sendToks (k₁ k₂ : Fin 4) (c d : Dev nD) : sProp 𝕄 :=
  iprop(dutyTok ER (cell k₁ c d) 0 (0 : Dev nD) ∗ reached ER (cell k₁ c d) 0 ∗ dutyTok ER (cell k₂ d c) 0 (0 : Dev nD) ∗ reached ER (cell k₂ d c) 0
    ∗ atPos ER (cell k₁ c d) 0 ∅ 0)

def before1 (c d : Dev nD) : sProp 𝕄 :=
  if c = d then srcOwn pb c d else iprop(srcOwn pb c d ∗ (∃ X, slotOwn d c X) ∗ sendToks 0 1 c d)
def before2 (c d : Dev nD) : sProp 𝕄 :=
  if c = d then blkOwn bb c d else iprop(blkOwn bb c d ∗ (∃ X, outOwn d c X) ∗ sendToks 2 3 c d)

def waiting (k : Fin 4) (A : Dev nD → sProp 𝕄) (c j : Dev nD) : sProp 𝕄 := if c = j then A j else credPos k c j
def waited (k : Fin 4) (A : Dev nD → sProp 𝕄) (c j : Dev nD) : sProp 𝕄 := if c = j then A j else donePos pb bb k c j

/-! ## One transfer -/

theorem send1_core (K : GSem nD τ sig → ℕ) (c d : Dev nD) (hcd : c ≠ d) {so : Fin 3 → ℕ} (hso : so = offB d) {do' : Fin 3 → ℕ} (hdo : do' = offR c)
    {ss : Fin 1 → ℕ} (hss : ss = off1 d) {rr : Fin 1 → ℕ} (hrr : rr = off1 c) {n : Dev nD} (hn : n = d)
    {p1 p2 p3 p4 q1 q2 hsc hsrc hdst hsem} {O : CellTallies nD τ sig Unit} {W : Waits sig Unit}
    {α : Type} {Q : α → sProp 𝕄} {k : PUnit → Prog (TpuEff nD τ sig (Elt F) Λ₀ .tc) α} :
    iprop(invs pb bb K ∗ (srcOwn pb c d ∗ (∃ X, slotOwn d c X) ∗ sendToks 0 1 c d)
        ∗ owes (c : Thread nD τ) (O + tallyAt (cell 1 d c) () N) W)
      ⊢ iprop(((credPos 0 c d ∗ owes (c : Thread nD τ) O W) -∗ WP c (k ⟨⟩) Q)
        -∗ WP c
          (.op (.enqueueDma ((aP.slice (Rect.unit (s := S2x256x512) so S1x32x512.size p1) q1).squeeze S32x512 squeezes_S1x32x512_S32x512)
            (.remote (Dev.tc n) ((aR.slice (Rect.unit (s := S16x32x512) do' S1x32x512.size p2) q2).squeeze S32x512 squeezes_S1x32x512_S32x512)
              (.dma ((cc0_scratch4.slice (Rect.unit (s := S16) ss S1.size p3)).squeeze S_ squeezes_S1_S_).sem) hsc)
            (.dma ((cc0_scratch5.slice (Rect.unit (s := S16) rr S1.size p4)).squeeze S_ squeezes_S1_S_).sem) hsrc hdst hsem) k) Q) := by
  subst hso hdo hss hrr hn
  have e4 := sem4 n
  have e5 := sem5 c
  revert hsc hsrc hdst hsem
  rw [e4, e5]
  intro hsc hsrc hdst hsem
  unfold sendToks
  iintro ⟨#HI, ⟨Hs, ⟨%X, Hd⟩, Ht1, Hr1, Ht2, Hr2, Hat⟩, HO⟩ Hk
  ihave Hs' := (owns_elim c (srcM n) fullShare _) $$ Hs
  icases Hs' with ⟨%fs, %hfs, Hs⟩
  ihave Hd' := (owns_elim n (slotM c) fullShare X) $$ Hd
  icases Hd' with ⟨%fd, -, Hd⟩
  iapply (Rounds.wp_send_pointsTo 𝒱₀ ER (Rd pb bb) (c : Thread nD τ) none (c' := (n : Thread nD τ)) (src := srcM n) (dst := slotM c)
    (κ₁ := K (cell 0 c n)) (κ₂ := K (cell 1 n c))
    (r₁ := 0) (r₂ := 0) (d₁ := 0) (d₂ := 0) (fs := fs) (fd := fd)
    (by rw [duties_cell pb bb 0 hcd]; exact Finset.mem_singleton_self _) (by rw [duties_cell pb bb 1 hcd.symm]; exact Finset.mem_singleton_self _)
    () () N (amount_slot c _) (amount_cell pb bb 0 c n 0) (amount_cell pb bb 1 n c 0) O rfl (W := W)
    (by
      rw [payload_cell]
      show _ ⊢ dmaPay pb bb 0 c n
      rw [dmaPay_zero, srcOwn, ← hfs]; exact owns_intro (c : Thread nD τ) (srcM n) fullShare fs)
    (by
      rw [payload_cell]
      show _ ⊢ dmaPay pb bb 1 n c
      rw [dmaPay_one, hfs, slotOwn]
      refine (owns_intro (n : Thread nD τ) (slotM c) fullShare _).trans (Entails.of_eq ?_)
      rw [View.read_write_univ])) $$ [HI Hs Hd HO Ht1 Hr1 Ht2 Hr2]
  · isplitr; · iapply (invs_cell pb bb K 0 c n); iexact HI
    isplitr; · iapply (invs_cell pb bb K 1 n c); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk; unfold credPos
  isplitr [HO]
  · isplitl [Hc]; · iexact Hc
    iexact Hat
  iexact HO

theorem send2_core (K : GSem nD τ sig → ℕ) (c d : Dev nD) (hcd : c ≠ d) {do' : Fin 3 → ℕ} (hdo : do' = offB c)
    {ss : Fin 1 → ℕ} (hss : ss = off1 d) {rr : Fin 1 → ℕ} (hrr : rr = off1 c) {n : Dev nD} (hn : n = d)
    {p2 p3 p4 q2 hsc hsrc hdst hsem} {O : CellTallies nD τ sig Unit} {W : Waits sig Unit}
    {α : Type} {Q : α → sProp 𝕄} {k : PUnit → Prog (TpuEff nD τ sig (Elt F) Λ₀ .tc) α} :
    iprop(invs pb bb K ∗ (blkOwn bb c d ∗ (∃ X, outOwn d c X) ∗ sendToks 2 3 c d)
        ∗ owes (c : Thread nD τ) (O + tallyAt (cell 3 d c) () N) W)
      ⊢ iprop(((credPos 2 c d ∗ owes (c : Thread nD τ) O W) -∗ WP c (k ⟨⟩) Q)
        -∗ WP c (.op (.enqueueDma aB
            (.remote (Dev.tc n) ((aO.slice (Rect.unit (s := S2x256x512) do' S1x32x512.size p2) q2).squeeze S32x512 squeezes_S1x32x512_S32x512)
              (.dma ((cc0_scratch6.slice (Rect.unit (s := S16) ss S1.size p3)).squeeze S_ squeezes_S1_S_).sem) hsc)
            (.dma ((cc0_scratch7.slice (Rect.unit (s := S16) rr S1.size p4)).squeeze S_ squeezes_S1_S_).sem) hsrc hdst hsem) k) Q) := by
  subst hdo hss hrr hn
  have e4 := sem6 n
  have e5 := sem7 c
  revert hsc hsrc hdst hsem
  rw [e4, e5]
  intro hsc hsrc hdst hsem
  unfold sendToks
  iintro ⟨#HI, ⟨Hs, ⟨%X, Hd⟩, Ht1, Hr1, Ht2, Hr2, Hat⟩, HO⟩ Hk
  ihave Hs' := (owns_elim c aB (shr n) _) $$ Hs
  icases Hs' with ⟨%fs, %hfs, Hs⟩
  ihave Hd' := (owns_elim n (outM c) fullShare X) $$ Hd
  icases Hd' with ⟨%fd, -, Hd⟩
  iapply (Rounds.wp_send_pointsTo 𝒱₀ ER (Rd pb bb) (c : Thread nD τ) none (c' := (n : Thread nD τ)) (src := aB) (dst := outM c)
    (κ₁ := K (cell 2 c n)) (κ₂ := K (cell 3 n c))
    (r₁ := 0) (r₂ := 0) (d₁ := 0) (d₂ := 0) (fs := fs) (fd := fd)
    (by rw [duties_cell pb bb 2 hcd]; exact Finset.mem_singleton_self _) (by rw [duties_cell pb bb 3 hcd.symm]; exact Finset.mem_singleton_self _)
    () () N (amount_out c _) (amount_cell pb bb 2 c n 0) (amount_cell pb bb 3 n c 0) O rfl (W := W)
    (by
      rw [payload_cell]
      show _ ⊢ dmaPay pb bb 2 c n
      rw [dmaPay_two, blkOwn, ← hfs]; exact owns_intro (c : Thread nD τ) aB (shr n) fs)
    (by
      rw [payload_cell]
      show _ ⊢ dmaPay pb bb 3 n c
      rw [dmaPay_three, hfs, outOwn]
      refine (owns_intro (n : Thread nD τ) (outM c) fullShare _).trans (Entails.of_eq ?_)
      rw [View.read_write_univ])) $$ [HI Hs Hd HO Ht1 Hr1 Ht2 Hr2]
  · isplitr; · iapply (invs_cell pb bb K 2 c n); iexact HI
    isplitr; · iapply (invs_cell pb bb K 3 n c); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk; unfold credPos
  isplitr [HO]
  · isplitl [Hc]; · iexact Hc
    iexact Hat
  iexact HO

theorem credit_any (m : Memref sig .tc .vmem S32x512 .bf16) : m.view.dmaCredit = N := rfl

/-- The wait for the one transfer of cell `j` of family `k`. -/
theorem wait_core (K : GSem nD τ sig → ℕ) (k : Fin 4) (c j : Dev nD) (hcj : c ≠ j) {sm : DmaSem sig} (hsm : sm = dsem k j)
    {src dst : Memref sig .tc .vmem S32x512 .bf16} {hsrc hdst} {O : CellTallies nD τ sig Unit}
    (hO : (levAts L lv : sProp 𝕄) ⊢ MayWait (c : Thread nD τ) (.dma (dsem k j)) () O) {W : Waits sig Unit}
    {α : Type} {Q : α → sProp 𝕄} {kk : PUnit → Prog (TpuEff nD τ sig (Elt F) Λ₀ .tc) α} :
    iprop((invs pb bb K ∗ levAts L lv) ∗ credPos k c j ∗ owes (c : Thread nD τ) O W)
      ⊢ iprop(((donePos pb bb k c j ∗ ∃ W, owes (c : Thread nD τ) O W) -∗ WP c (kk ⟨⟩) Q)
        -∗ WP c (.op (.waitDma2 sm src dst hsrc hdst) kk) Q) := by
  subst hsm
  unfold credPos donePos
  iintro ⟨⟨#HI, #Hlev⟩, ⟨Hc, Hat⟩, HO⟩ Hk
  iapply (Rounds.wp_wait_rest_token 𝒱₀ ER (Rd pb bb) (c : Thread nD τ) none (κ := K (cell k c j))
      (wpE_waitDma2_eq 𝒱₀ (c : Thread nD τ) none Set.univ) (Set.mem_univ _) () (O := O) (W := W) (R := 0) (m := 0) (T := ∅)
      ((Nat.zero_add _).trans ((credit_any dst).trans (expect_cell pb bb k hcj).symm))) $$ [Hc HO Hat]
  · isplitr; · iapply (invs_cell pb bb K k c j); iexact HI
    isplitl [Hc]; · rw [credit_any dst]; iexact Hc
    isplitl [HO]; · iexact HO
    isplitr; · iapply hO; iexact Hlev
    iexact Hat
  iintro ⟨HO, Hat, -, Hpay⟩
  ihave Hp := (Entails.of_eq (rest_cell pb bb k hcj)) $$ Hpay
  iapply Hk
  isplitr [HO]
  · isplitl [Hp]; · iexact Hp
    iexact Hat
  iexists _; iexact HO

/-- Signalling device `d`'s barrier cell: handing over the room `d` will write. -/
def before0 (c d : Dev nD) : sProp 𝕄 :=
  iprop(dutyTok ER (barCell d) 0 c ∗ reached ER (barCell d) 0 ∗ barPay d c)

theorem signal (K : GSem nD τ sig → ℕ) (c d : Dev nD) {n : Dev nD} (hn : n = d) {l : List (Dev nD)} {O : CellTallies nD τ sig Unit}
    {α : Type} {Q : α → sProp 𝕄} {k : PUnit → Prog (TpuEff nD τ sig (Elt F) Λ₀ .tc) α} :
    iprop(invs pb bb K ∗ sepL (d :: l) (before0 c) ∗ ∃ W, owes (c : Thread nD τ) (O + due fBar (d :: l)) W)
      ⊢ iprop(((sepL l (before0 c) ∗ ∃ W, owes (c : Thread nD τ) (O + due fBar l) W) -∗ WP c (k ⟨⟩) Q)
        -∗ WP c (.op (.semSignal (Dev.tc n) barS (1#32).toInt) k) Q) := by
  subst hn
  rw [sepL_cons]; unfold before0
  iintro ⟨#HI, ⟨⟨Ht, Hr, Hp⟩, Hl⟩, %W, HO⟩ Hk
  iapply (Rounds.wp_signal 𝒱₀ ER (Rd pb bb) (c : Thread nD τ) none (dst := (n : Thread nD τ)) (sem := barS) (r := 0) (d := c) (k' := 1) (κ := K (barCell n))
      (by rw [duties_bar]; exact Finset.mem_univ _) (amount_bar pb bb n c) () (O₀ := O + due fBar (n :: l)) (O + due fBar l)
      (add_assoc _ _ _).symm (W := W)) $$ [HO Ht Hr Hp]
  · isplitr; · iapply (invs_bar pb bb K n); iexact HI
    isplitl [HO]; · iexact HO
    isplitl [Ht]; · iexact Ht
    isplitl [Hp]; · rw [payload_bar pb bb n c]; iexact Hp
    iexact Hr
  iintro HO
  iapply Hk
  isplitl [Hl]; · iexact Hl
  iexists W; iexact HO

/-! ## The conditional steps, over the list of peers still to come -/

theorem send1 (K : GSem nD τ sig → ℕ) (c d : Dev nD) {cond : BitVec 1} (hc : cond = 1#1 ↔ c ≠ d)
    {so : cond = 1#1 → Fin 3 → ℕ} (hso : ∀ h, so h = offB d) {do' : cond = 1#1 → Fin 3 → ℕ} (hdo : ∀ h, do' h = offR c)
    {ss : cond = 1#1 → Fin 1 → ℕ} (hss : ∀ h, ss h = off1 d) {rr : cond = 1#1 → Fin 1 → ℕ} (hrr : ∀ h, rr h = off1 c) {n : cond = 1#1 → Dev nD} (hn : ∀ h, n h = d)
    {p1 : ∀ h a, so h a + S1x32x512.size a ≤ S2x256x512.size a} {q1 : ∀ h a, (Rect.unit (s := S2x256x512) (so h) S1x32x512.size (p1 h)).stride a = 1}
    {p3 : ∀ h a, ss h a + S1.size a ≤ S16.size a} {p4 : ∀ h a, rr h a + S1.size a ≤ S16.size a}
    {p2 : ∀ h a, do' h a + S1x32x512.size a ≤ S16x32x512.size a} {q2 : ∀ h a, (Rect.unit (s := S16x32x512) (do' h) S1x32x512.size (p2 h)).stride a = 1}
    {hsc : ∀ h, ((aR.slice (Rect.unit (s := S16x32x512) (do' h) S1x32x512.size (p2 h)) (q2 h)).squeeze S32x512 squeezes_S1x32x512_S32x512).view.ref.isScScratch = false} {hsrc : ∀ h : cond = 1#1, ((aP.slice (Rect.unit (s := S2x256x512) (so h) S1x32x512.size (p1 h)) (q1 h)).squeeze S32x512 squeezes_S1x32x512_S32x512).view.WordExact} {hdst : ∀ h, ((aR.slice (Rect.unit (s := S16x32x512) (do' h) S1x32x512.size (p2 h)) (q2 h)).squeeze S32x512 squeezes_S1x32x512_S32x512).view.WordExact}
    {hsem : ∀ h, DmaTarget.Typed .vmem (.dma ((cc0_scratch5.slice (Rect.unit (s := S16) (rr h) S1.size (p4 h))).squeeze S_ squeezes_S1_S_).sem) (.remote (Dev.tc (n h) : Thread nD τ) ((aR.slice (Rect.unit (s := S16x32x512) (do' h) S1x32x512.size (p2 h)) (q2 h)).squeeze S32x512 squeezes_S1x32x512_S32x512) (.dma ((cc0_scratch4.slice (Rect.unit (s := S16) (ss h) S1.size (p3 h))).squeeze S_ squeezes_S1_S_).sem) (hsc h))}
    {O : CellTallies nD τ sig Unit} {l lb l' : List (Dev nD)}
    {α : Type} {Q : α → sProp 𝕄} {β : Type} {jp : PUnit → Prog (TpuEff nD τ sig (Elt F) Λ₀ .tc) β} {k : β → Prog (TpuEff nD τ sig (Elt F) Λ₀ .tc) α} :
    iprop(invs pb bb K ∗ sepL (d :: lb) (before1 pb c) ∗ sepL l' (waiting 0 (srcOwn pb c) c) ∗ ∃ W, owes (c : Thread nD τ) (O + due (fCell 1 c) (d :: l)) W)
      ⊢ iprop(((sepL lb (before1 pb c) ∗ sepL (d :: l') (waiting 0 (srcOwn pb c) c) ∗ ∃ W, owes (c : Thread nD τ) (O + due (fCell 1 c) l) W) -∗ WP c (jp ⟨⟩ >>= k) Q)
        -∗ WP c ((if h : cond = 1#1 then (Prog.lift (.enqueueDma ((aP.slice (Rect.unit (s := S2x256x512) (so h) S1x32x512.size (p1 h)) (q1 h)).squeeze S32x512 squeezes_S1x32x512_S32x512)
            (.remote (Dev.tc (n h)) ((aR.slice (Rect.unit (s := S16x32x512) (do' h) S1x32x512.size (p2 h)) (q2 h)).squeeze S32x512 squeezes_S1x32x512_S32x512)
              (.dma ((cc0_scratch4.slice (Rect.unit (s := S16) (ss h) S1.size (p3 h))).squeeze S_ squeezes_S1_S_).sem) (hsc h))
            (.dma ((cc0_scratch5.slice (Rect.unit (s := S16) (rr h) S1.size (p4 h))).squeeze S_ squeezes_S1_S_).sem) (hsrc h) (hdst h) (hsem h)) >>= fun _ => jp ⟨⟩)
          else jp ⟨⟩) >>= k) Q) := by
  rw [sepL_cons, sepL_cons]
  by_cases h : cond = 1#1
  · have hcd := hc.mp h
    rw [dif_pos h, Prog.lift, Prog.bind_op, Prog.bind_op]; unfold before1 waiting; rw [if_neg hcd, if_neg hcd, due, fCell, if_neg hcd, ← add_assoc]
    iintro ⟨#HI, ⟨Hd, Hl⟩, Hl', %W, HO⟩ Hk
    iapply (send1_core pb bb K c d hcd (hso h) (hdo h) (hss h) (hrr h) (hn h) (O := O + due (fCell 1 c) l) (W := W)) $$ [Hd HO]
    · isplitr; · iexact HI
      isplitl [Hd]; · iexact Hd
      iexact HO
    iintro ⟨Hc, HO⟩
    rw [Prog.bind_ret]
    iapply Hk
    isplitl [Hl]; · iexact Hl
    isplitr [HO]
    · isplitl [Hc]; · iexact Hc
      iexact Hl'
    iexists W; iexact HO
  · have hcd : c = d := by by_contra h'; exact h (hc.mpr h')
    rw [dif_neg h]; unfold before1 waiting; rw [if_pos hcd, if_pos hcd, due, fCell, if_pos hcd, add_zero]
    iintro ⟨#HI, ⟨Hd, Hl⟩, Hl', HO⟩ Hk
    iapply Hk
    isplitl [Hl]; · iexact Hl
    isplitr [HO]
    · isplitl [Hd]; · iexact Hd
      iexact Hl'
    iexact HO

theorem send2 (K : GSem nD τ sig → ℕ) (c d : Dev nD) {cond : BitVec 1} (hc : cond = 1#1 ↔ c ≠ d)
    {do' : cond = 1#1 → Fin 3 → ℕ} (hdo : ∀ h, do' h = offB c)
    {ss : cond = 1#1 → Fin 1 → ℕ} (hss : ∀ h, ss h = off1 d) {rr : cond = 1#1 → Fin 1 → ℕ} (hrr : ∀ h, rr h = off1 c) {n : cond = 1#1 → Dev nD} (hn : ∀ h, n h = d)
    {p3 : ∀ h a, ss h a + S1.size a ≤ S16.size a} {p4 : ∀ h a, rr h a + S1.size a ≤ S16.size a}
    {p2 : ∀ h a, do' h a + S1x32x512.size a ≤ S2x256x512.size a} {q2 : ∀ h a, (Rect.unit (s := S2x256x512) (do' h) S1x32x512.size (p2 h)).stride a = 1}
    {hsc : ∀ h, ((aO.slice (Rect.unit (s := S2x256x512) (do' h) S1x32x512.size (p2 h)) (q2 h)).squeeze S32x512 squeezes_S1x32x512_S32x512).view.ref.isScScratch = false} {hsrc : ∀ h : cond = 1#1, aB.view.WordExact} {hdst : ∀ h, ((aO.slice (Rect.unit (s := S2x256x512) (do' h) S1x32x512.size (p2 h)) (q2 h)).squeeze S32x512 squeezes_S1x32x512_S32x512).view.WordExact}
    {hsem : ∀ h, DmaTarget.Typed .vmem (.dma ((cc0_scratch7.slice (Rect.unit (s := S16) (rr h) S1.size (p4 h))).squeeze S_ squeezes_S1_S_).sem) (.remote (Dev.tc (n h) : Thread nD τ) ((aO.slice (Rect.unit (s := S2x256x512) (do' h) S1x32x512.size (p2 h)) (q2 h)).squeeze S32x512 squeezes_S1x32x512_S32x512) (.dma ((cc0_scratch6.slice (Rect.unit (s := S16) (ss h) S1.size (p3 h))).squeeze S_ squeezes_S1_S_).sem) (hsc h))}
    {O : CellTallies nD τ sig Unit} {l l' : List (Dev nD)}
    {α : Type} {Q : α → sProp 𝕄} {β : Type} {jp : PUnit → Prog (TpuEff nD τ sig (Elt F) Λ₀ .tc) β} {k : β → Prog (TpuEff nD τ sig (Elt F) Λ₀ .tc) α} :
    iprop(invs pb bb K ∗ sepL (d :: l) (before2 bb c) ∗ sepL l' (waiting 2 (blkOwn bb c) c) ∗ ∃ W, owes (c : Thread nD τ) (O + due (fCell 3 c) (d :: l)) W)
      ⊢ iprop(((sepL l (before2 bb c) ∗ sepL (d :: l') (waiting 2 (blkOwn bb c) c) ∗ ∃ W, owes (c : Thread nD τ) (O + due (fCell 3 c) l) W) -∗ WP c (jp ⟨⟩ >>= k) Q)
        -∗ WP c ((if h : cond = 1#1 then (Prog.lift (.enqueueDma aB
            (.remote (Dev.tc (n h)) ((aO.slice (Rect.unit (s := S2x256x512) (do' h) S1x32x512.size (p2 h)) (q2 h)).squeeze S32x512 squeezes_S1x32x512_S32x512)
              (.dma ((cc0_scratch6.slice (Rect.unit (s := S16) (ss h) S1.size (p3 h))).squeeze S_ squeezes_S1_S_).sem) (hsc h))
            (.dma ((cc0_scratch7.slice (Rect.unit (s := S16) (rr h) S1.size (p4 h))).squeeze S_ squeezes_S1_S_).sem) (hsrc h) (hdst h) (hsem h)) >>= fun _ => jp ⟨⟩)
          else jp ⟨⟩) >>= k) Q) := by
  rw [sepL_cons, sepL_cons]
  by_cases h : cond = 1#1
  · have hcd := hc.mp h
    rw [dif_pos h, Prog.lift, Prog.bind_op, Prog.bind_op]; unfold before2 waiting; rw [if_neg hcd, if_neg hcd, due, fCell, if_neg hcd, ← add_assoc]
    iintro ⟨#HI, ⟨Hd, Hl⟩, Hl', %W, HO⟩ Hk
    iapply (send2_core pb bb K c d hcd (hdo h) (hss h) (hrr h) (hn h) (O := O + due (fCell 3 c) l) (W := W)) $$ [Hd HO]
    · isplitr; · iexact HI
      isplitl [Hd]; · iexact Hd
      iexact HO
    iintro ⟨Hc, HO⟩
    rw [Prog.bind_ret]
    iapply Hk
    isplitl [Hl]; · iexact Hl
    isplitr [HO]
    · isplitl [Hc]; · iexact Hc
      iexact Hl'
    iexists W; iexact HO
  · have hcd : c = d := by by_contra h'; exact h (hc.mpr h')
    rw [dif_neg h]; unfold before2 waiting; rw [if_pos hcd, if_pos hcd, due, fCell, if_pos hcd, add_zero]
    iintro ⟨#HI, ⟨Hd, Hl⟩, Hl', HO⟩ Hk
    iapply Hk
    isplitl [Hl]; · iexact Hl
    isplitr [HO]
    · isplitl [Hd]; · iexact Hd
      iexact Hl'
    iexact HO

theorem waitFor (K : GSem nD τ sig → ℕ) (k : Fin 4) (A : Dev nD → sProp 𝕄) (c j : Dev nD) {cond : BitVec 1} (hc : cond = 1#1 ↔ c ≠ j)
    {sm : cond = 1#1 → DmaSem sig} (hsm : ∀ h, sm h = dsem k j)
    {src dst : cond = 1#1 → Memref sig .tc .vmem S32x512 .bf16} {hsrc : ∀ h, (src h).view.WordExact} {hdst : ∀ h, (dst h).view.WordExact} {O : CellTallies nD τ sig Unit}
    (hO : (levAts L lv : sProp 𝕄) ⊢ MayWait (c : Thread nD τ) (.dma (dsem k j)) () O) {l l' : List (Dev nD)}
    {α : Type} {Q : α → sProp 𝕄} {β : Type} {jp : PUnit → Prog (TpuEff nD τ sig (Elt F) Λ₀ .tc) β} {kk : β → Prog (TpuEff nD τ sig (Elt F) Λ₀ .tc) α} :
    iprop((invs pb bb K ∗ levAts L lv) ∗ sepL (j :: l) (waiting k A c) ∗ sepL l' (waited pb bb k A c) ∗ ∃ W, owes (c : Thread nD τ) O W)
      ⊢ iprop(((sepL l (waiting k A c) ∗ sepL (j :: l') (waited pb bb k A c) ∗ ∃ W, owes (c : Thread nD τ) O W) -∗ WP c (jp ⟨⟩ >>= kk) Q)
        -∗ WP c ((if h : cond = 1#1 then (Prog.lift (.waitDma2 (sm h) (src h) (dst h) (hsrc h) (hdst h)) >>= fun _ => jp ⟨⟩) else jp ⟨⟩) >>= kk) Q) := by
  rw [sepL_cons, sepL_cons]
  by_cases h : cond = 1#1
  · have hcd := hc.mp h
    rw [dif_pos h, Prog.lift, Prog.bind_op, Prog.bind_op]; unfold waiting waited; rw [if_neg hcd, if_neg hcd]
    iintro ⟨#HI, ⟨Hd, Hl⟩, Hl', %W, HO⟩ Hk
    iapply (wait_core pb bb K k c j hcd (hsm h) hO (W := W)) $$ [Hd HO]
    · isplitr; · iexact HI
      isplitl [Hd]; · iexact Hd
      iexact HO
    iintro ⟨Hc, HO⟩
    rw [Prog.bind_ret]
    iapply Hk
    isplitl [Hl]; · iexact Hl
    isplitr [HO]
    · isplitl [Hc]; · iexact Hc
      iexact Hl'
    iexact HO
  · have hcd : c = j := by by_contra h'; exact h (hc.mpr h')
    rw [dif_neg h]; unfold waiting waited; rw [if_pos hcd, if_pos hcd]
    iintro ⟨#HI, ⟨Hd, Hl⟩, Hl', HO⟩ Hk
    iapply Hk
    isplitl [Hl]; · iexact Hl
    isplitr [HO]
    · isplitl [Hd]; · iexact Hd
      iexact Hl'
    iexact HO

end Cert.KernelIdeal.Talk

end
-- ==== Proof.KI.Conds.lean ====
/- The printed conditions and offsets in closed form, and the levels a wait needs. -/
module

public import proofs.«01_k».proof.Proof.KI.Steps

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem cond1 : ∀ c : Dev nD, k0_cond1 c = 1#1 ↔ c ≠ 0 := by decide +kernel
theorem cond2 : ∀ c : Dev nD, k0_cond2 c = 1#1 ↔ c ≠ 1 := by decide +kernel
theorem cond3 : ∀ c : Dev nD, k0_cond3 c = 1#1 ↔ c ≠ 2 := by decide +kernel
theorem cond4 : ∀ c : Dev nD, k0_cond4 c = 1#1 ↔ c ≠ 3 := by decide +kernel
theorem cond5 : ∀ c : Dev nD, k0_cond5 c = 1#1 ↔ c ≠ 4 := by decide +kernel
theorem cond6 : ∀ c : Dev nD, k0_cond6 c = 1#1 ↔ c ≠ 5 := by decide +kernel
theorem cond7 : ∀ c : Dev nD, k0_cond7 c = 1#1 ↔ c ≠ 6 := by decide +kernel
theorem cond8 : ∀ c : Dev nD, k0_cond8 c = 1#1 ↔ c ≠ 7 := by decide +kernel
theorem cond9 : ∀ c : Dev nD, k0_cond9 c = 1#1 ↔ c ≠ 8 := by decide +kernel
theorem cond10 : ∀ c : Dev nD, k0_cond10 c = 1#1 ↔ c ≠ 9 := by decide +kernel
theorem cond11 : ∀ c : Dev nD, k0_cond11 c = 1#1 ↔ c ≠ 10 := by decide +kernel
theorem cond12 : ∀ c : Dev nD, k0_cond12 c = 1#1 ↔ c ≠ 11 := by decide +kernel
theorem cond13 : ∀ c : Dev nD, k0_cond13 c = 1#1 ↔ c ≠ 12 := by decide +kernel
theorem cond14 : ∀ c : Dev nD, k0_cond14 c = 1#1 ↔ c ≠ 13 := by decide +kernel
theorem cond15 : ∀ c : Dev nD, k0_cond15 c = 1#1 ↔ c ≠ 14 := by decide +kernel
theorem cond16 : ∀ c : Dev nD, k0_cond16 c = 1#1 ↔ c ≠ 15 := by decide +kernel
theorem cond33 : ∀ c : Dev nD, k0_cond33 c = 1#1 ↔ c ≠ 0 := by decide +kernel
theorem cond34 : ∀ c : Dev nD, k0_cond34 c = 1#1 ↔ c ≠ 1 := by decide +kernel
theorem cond35 : ∀ c : Dev nD, k0_cond35 c = 1#1 ↔ c ≠ 2 := by decide +kernel
theorem cond36 : ∀ c : Dev nD, k0_cond36 c = 1#1 ↔ c ≠ 3 := by decide +kernel
theorem cond37 : ∀ c : Dev nD, k0_cond37 c = 1#1 ↔ c ≠ 4 := by decide +kernel
theorem cond38 : ∀ c : Dev nD, k0_cond38 c = 1#1 ↔ c ≠ 5 := by decide +kernel
theorem cond39 : ∀ c : Dev nD, k0_cond39 c = 1#1 ↔ c ≠ 6 := by decide +kernel
theorem cond40 : ∀ c : Dev nD, k0_cond40 c = 1#1 ↔ c ≠ 7 := by decide +kernel
theorem cond41 : ∀ c : Dev nD, k0_cond41 c = 1#1 ↔ c ≠ 8 := by decide +kernel
theorem cond42 : ∀ c : Dev nD, k0_cond42 c = 1#1 ↔ c ≠ 9 := by decide +kernel
theorem cond43 : ∀ c : Dev nD, k0_cond43 c = 1#1 ↔ c ≠ 10 := by decide +kernel
theorem cond44 : ∀ c : Dev nD, k0_cond44 c = 1#1 ↔ c ≠ 11 := by decide +kernel
theorem cond45 : ∀ c : Dev nD, k0_cond45 c = 1#1 ↔ c ≠ 12 := by decide +kernel
theorem cond46 : ∀ c : Dev nD, k0_cond46 c = 1#1 ↔ c ≠ 13 := by decide +kernel
theorem cond47 : ∀ c : Dev nD, k0_cond47 c = 1#1 ↔ c ≠ 14 := by decide +kernel
theorem cond48 : ∀ c : Dev nD, k0_cond48 c = 1#1 ↔ c ≠ 15 := by decide +kernel
theorem cond65 : ∀ c : Dev nD, k0_cond65 c = 1#1 ↔ c ≠ 0 := by decide +kernel
theorem cond66 : ∀ c : Dev nD, k0_cond66 c = 1#1 ↔ c ≠ 0 := by decide +kernel
theorem cond67 : ∀ c : Dev nD, k0_cond67 c = 1#1 ↔ c ≠ 1 := by decide +kernel
theorem cond68 : ∀ c : Dev nD, k0_cond68 c = 1#1 ↔ c ≠ 1 := by decide +kernel
theorem cond69 : ∀ c : Dev nD, k0_cond69 c = 1#1 ↔ c ≠ 2 := by decide +kernel
theorem cond70 : ∀ c : Dev nD, k0_cond70 c = 1#1 ↔ c ≠ 2 := by decide +kernel
theorem cond71 : ∀ c : Dev nD, k0_cond71 c = 1#1 ↔ c ≠ 3 := by decide +kernel
theorem cond72 : ∀ c : Dev nD, k0_cond72 c = 1#1 ↔ c ≠ 3 := by decide +kernel
theorem cond73 : ∀ c : Dev nD, k0_cond73 c = 1#1 ↔ c ≠ 4 := by decide +kernel
theorem cond74 : ∀ c : Dev nD, k0_cond74 c = 1#1 ↔ c ≠ 4 := by decide +kernel
theorem cond75 : ∀ c : Dev nD, k0_cond75 c = 1#1 ↔ c ≠ 5 := by decide +kernel
theorem cond76 : ∀ c : Dev nD, k0_cond76 c = 1#1 ↔ c ≠ 5 := by decide +kernel
theorem cond77 : ∀ c : Dev nD, k0_cond77 c = 1#1 ↔ c ≠ 6 := by decide +kernel
theorem cond78 : ∀ c : Dev nD, k0_cond78 c = 1#1 ↔ c ≠ 6 := by decide +kernel
theorem cond79 : ∀ c : Dev nD, k0_cond79 c = 1#1 ↔ c ≠ 7 := by decide +kernel
theorem cond80 : ∀ c : Dev nD, k0_cond80 c = 1#1 ↔ c ≠ 7 := by decide +kernel
theorem cond81 : ∀ c : Dev nD, k0_cond81 c = 1#1 ↔ c ≠ 8 := by decide +kernel
theorem cond82 : ∀ c : Dev nD, k0_cond82 c = 1#1 ↔ c ≠ 8 := by decide +kernel
theorem cond83 : ∀ c : Dev nD, k0_cond83 c = 1#1 ↔ c ≠ 9 := by decide +kernel
theorem cond84 : ∀ c : Dev nD, k0_cond84 c = 1#1 ↔ c ≠ 9 := by decide +kernel
theorem cond85 : ∀ c : Dev nD, k0_cond85 c = 1#1 ↔ c ≠ 10 := by decide +kernel
theorem cond86 : ∀ c : Dev nD, k0_cond86 c = 1#1 ↔ c ≠ 10 := by decide +kernel
theorem cond87 : ∀ c : Dev nD, k0_cond87 c = 1#1 ↔ c ≠ 11 := by decide +kernel
theorem cond88 : ∀ c : Dev nD, k0_cond88 c = 1#1 ↔ c ≠ 11 := by decide +kernel
theorem cond89 : ∀ c : Dev nD, k0_cond89 c = 1#1 ↔ c ≠ 12 := by decide +kernel
theorem cond90 : ∀ c : Dev nD, k0_cond90 c = 1#1 ↔ c ≠ 12 := by decide +kernel
theorem cond91 : ∀ c : Dev nD, k0_cond91 c = 1#1 ↔ c ≠ 13 := by decide +kernel
theorem cond92 : ∀ c : Dev nD, k0_cond92 c = 1#1 ↔ c ≠ 13 := by decide +kernel
theorem cond93 : ∀ c : Dev nD, k0_cond93 c = 1#1 ↔ c ≠ 14 := by decide +kernel
theorem cond94 : ∀ c : Dev nD, k0_cond94 c = 1#1 ↔ c ≠ 14 := by decide +kernel
theorem cond95 : ∀ c : Dev nD, k0_cond95 c = 1#1 ↔ c ≠ 15 := by decide +kernel
theorem cond96 : ∀ c : Dev nD, k0_cond96 c = 1#1 ↔ c ≠ 15 := by decide +kernel
theorem off34_eq : ∀ c : Dev nD, k0_off34 c = offB c := by decide +kernel
theorem off36_eq : ∀ c : Dev nD, k0_off36 c = offB c := by decide +kernel
theorem off38_eq : ∀ c : Dev nD, k0_off38 c = offB c := by decide +kernel
theorem off40_eq : ∀ c : Dev nD, k0_off40 c = offB c := by decide +kernel
theorem off42_eq : ∀ c : Dev nD, k0_off42 c = offB c := by decide +kernel
theorem off44_eq : ∀ c : Dev nD, k0_off44 c = offB c := by decide +kernel
theorem off46_eq : ∀ c : Dev nD, k0_off46 c = offB c := by decide +kernel
theorem off48_eq : ∀ c : Dev nD, k0_off48 c = offB c := by decide +kernel
theorem off50_eq : ∀ c : Dev nD, k0_off50 c = offB c := by decide +kernel
theorem off52_eq : ∀ c : Dev nD, k0_off52 c = offB c := by decide +kernel
theorem off54_eq : ∀ c : Dev nD, k0_off54 c = offB c := by decide +kernel
theorem off56_eq : ∀ c : Dev nD, k0_off56 c = offB c := by decide +kernel
theorem off58_eq : ∀ c : Dev nD, k0_off58 c = offB c := by decide +kernel
theorem off60_eq : ∀ c : Dev nD, k0_off60 c = offB c := by decide +kernel
theorem off62_eq : ∀ c : Dev nD, k0_off62 c = offB c := by decide +kernel
theorem off64_eq : ∀ c : Dev nD, k0_off64 c = offB c := by decide +kernel
theorem off66_eq : ∀ c : Dev nD, k0_off66 c = offB c := by decide +kernel

/-- The word the body computes for its own place. -/
abbrev w (c : Dev nD) : BitVec 32 := Scalar.remsi (Scalar.divsi (Dev.word c) 1#32) 16#32
abbrev wc (c : Dev nD) (s : BitVec 32) : BitVec 1 := Scalar.cmpi .ne (Scalar.extui (Scalar.cmpi .ne (w c) s) : BitVec 32) 0#32
theorem wcond : ∀ c s : Dev nD, wc c (BitVec.ofNat 32 s.val) = 1#1 ↔ c ≠ s := by decide +kernel

theorem mwR (c j : Dev nD) : (levAts L lv : sProp 𝕄) ⊢ MayWait (c : Thread nD τ) (.dma (dsem 1 j)) () (due (fCell 3 c) all + due (fCell 1 c) []) :=
  mayWait c _ _ 2 (le_of_eq (lv_cell 1 c j)) fun g u h => by
    obtain ⟨d, -, hd⟩ := due_pos (f := fCell 3 c) (l := all) (by rwa [due, add_zero] at h)
    exact ⟨d, .dma (dsem 3 c), fCell_pos hd, by rw [fCell_pos hd, lv_cell]; decide⟩
theorem mwZ (c : Dev nD) (sm : SemLoc sig) : (levAts L lv : sProp 𝕄) ⊢ MayWait (c : Thread nD τ) sm () (0 + due (fCell 3 c) []) := by
  rw [due, add_zero, MayWait_zero]; iintro -; iempintro
theorem mwB (c : Dev nD) : (levAts L lv : sProp 𝕄) ⊢ MayWait (c : Thread nD τ) (.reg barS) () (due (fCell 3 c) all + due (fCell 1 c) all + due fBar []) :=
  mayWait c _ _ 1 le_rfl fun g u h => by
    rw [due, add_zero, Pi.add_apply, Finsupp.add_apply] at h
    rcases Nat.add_pos_iff_pos_or_pos.mp h with h | h
    · obtain ⟨d, -, hd⟩ := due_pos h
      exact ⟨d, .dma (dsem 3 c), fCell_pos hd, by rw [fCell_pos hd, lv_cell]; decide⟩
    · obtain ⟨d, -, hd⟩ := due_pos h
      exact ⟨d, .dma (dsem 1 c), fCell_pos hd, by rw [fCell_pos hd, lv_cell]; decide⟩

end Cert.KernelIdeal.Talk

end
-- ==== Proof.KI.Bufs.lean ====
/- The buffers cut into the blocks the devices exchange, and what each holds. -/
module

public import proofs.«01_k».proof.Proof.KI.Conds
public import Idealize.ShloMosaic.Lib.WritesUnit
public import Idealize.ShloMosaic.Lib.ValueLayout
public import Idealize.ShloMosaic.Lib.Pointwise.Index

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the device computes, by its five inputs -/

/-- One device's inputs: activations, its columns of the first matrix, its heads of the keys and of the values, its rows
    of the second matrix. -/
structure Ins (F : FTy → Type) where
  x0 : S2x256x512.Idx → Elt F .bf16
  x1 : S512x256.Idx → Elt F .bf16
  x2 : S2x256x4x64.Idx → Elt F .bf16
  x3 : S2x256x4x64.Idx → Elt F .bf16
  x4 : S256x512.Idx → Elt F .bf16

/-- The words the masks are formed of. -/
def i66 : IVec S256x256 32 := iota .tc S256x256 32 [1] iota_S256x256_d1_w32
def i77 : BitVec 32 := Scalar.extui (Scalar.cmpi .sgt 64#32 0#32)
def m91 : IVec S256x256 1 := k0_pay6 k0_pay2 i66 64#32 k0_pay3 k0_pay4 i77 0#32
def m107 : IVec S256x256 32 := k0_pay7 i66 64#32 k0_pay3 k0_pay4 i77 0#32
def m123 : IVec S256x256 32 := k0_pay8 k0_pay2
def m125 : IVec S256x256 1 := k0_pay9 m91 m107 m123

/-- The partial product of the first and of the second batch row. -/
def h0 (x : Ins F) : FVec F S1x256x512 .f32 :=
  k0_pay18 m125 (k0_pay10 x.x4) (k0_pay11 x.x2) (k0_pay12 x.x3) (k0_pay14 x.x1 x.x0)
    (k0_pay15 m91 m107 m123 x.x1 x.x2 x.x3 x.x0) (k0_pay16 x.x3) (k0_pay17 x.x1 x.x2 x.x0) (Scalar.ofBits .f32 0x00000000#32)
def h1 (x : Ins F) : FVec F S1x256x512 .f32 :=
  k0_pay26 m125 (k0_pay10 x.x4) (k0_pay12 x.x3)
    (k0_pay21 m125 (k0_pay11 x.x2) (k0_pay12 x.x3) (k0_pay13 x.x1 x.x0))
    (k0_pay22 m125 (k0_pay11 x.x2) (k0_pay12 x.x3) (k0_pay13 x.x1 x.x0))
    (k0_pay23 m125 (k0_pay11 x.x2) (k0_pay12 x.x3) (k0_pay13 x.x1 x.x0))
    (k0_pay24 (k0_pay13 x.x1 x.x0)) (k0_pay25 (k0_pay11 x.x2))

abbrev lo (i : S2x256x512.Idx) : S1x256x512.Idx := ix3 (0 : Fin 1) (i 1) (i 2)
/-- Two batch rows as one array. -/
def stack {A : Type} (a b : S1x256x512.Idx → A) : S2x256x512.Idx → A := fun i => if (i 0).val = 0 then a (lo i) else b (lo i)

/-- The device of a row, and the row within its block. -/
def blkOf (i : S2x256x512.Idx) : Dev nD := ⟨(i 0).val * 8 + (i 1).val / 32, by
  have h0 : (i 0).val < 2 := (i 0).isLt; have h1 : (i 1).val < 256 := (i 1).isLt; show _ < 16; omega⟩
abbrev inBlk (i : S2x256x512.Idx) : S32x512.Idx := ix2 (⟨(i 1).val % 32, Nat.mod_lt _ (by decide)⟩ : Fin 32) (i 2)

variable (X : Dev nD → Ins F)

def Tc (c : Dev nD) : S2x256x512.Idx → Elt F .f32 := stack (h0 (X c)) (h1 (X c))
def Pc (c : Dev nD) : cc0_scratch0.ty.Contents (Elt F) := (stack (k0_pay19 (h0 (X c))) (k0_pay27 (h1 (X c))) : S2x256x512.Idx → Elt F .bf16)
/-- The landing slots as summed: device `s`'s block in slot `s`, zero in the device's own. -/
def Rc (c : Dev nD) : S16x32x512.Idx → Elt F .bf16 := fun i =>
  if (i 0).val = c.val then (k0_pay1 (F := F)) (ix3 (0 : Fin 1) (i 1) (i 2)) else sent (Pc X) c ⟨(i 0).val, (i 0).isLt⟩ (ix2 (i 1) (i 2))
def Bc (c : Dev nD) : cc0_scratch1.ty.Contents (Elt F) :=
  (k0_pay30 (k0_pay28 (fun j => Tc X c ((rB c).emb j))) (k0_pay29 (Rc X c)) : S32x512.Idx → Elt F .bf16)
/-- The result, the same on every device. -/
def Oc : S2x256x512.Idx → Elt F .bf16 := fun i => Bc X (blkOf i) (inBlk i)

/-! ## Which elements a block has -/

abbrev H (b : ℕ) : Finset S2x256x512.Idx := Finset.univ.filter fun i => (i 0).val = b

theorem mem_rB (d : Dev nD) (i : S2x256x512.Idx) : i ∈ (rB d).set ↔ d = blkOf i := by
  have h0 : (i 0).val < 2 := (i 0).isLt
  have h1 : (i 1).val < 256 := (i 1).isLt
  have h2 : (i 2).val < 512 := (i 2).isLt
  have hd : d.val < 16 := d.isLt
  rw [Rect.mem_set_unit, Fin.forall_fin_succ, Fin.forall_fin_succ, Fin.forall_fin_one, Fin.ext_iff]
  show (d.val / 8 ≤ (i 0).val ∧ (i 0).val < d.val / 8 + 1) ∧ (d.val % 8 * 32 ≤ (i 1).val ∧ (i 1).val < d.val % 8 * 32 + 32)
    ∧ (0 ≤ (i 2).val ∧ (i 2).val < 0 + 512) ↔ d.val = (i 0).val * 8 + (i 1).val / 32
  omega

theorem mem_rR (s : Dev nD) (i : S16x32x512.Idx) : i ∈ (rR s).set ↔ s.val = (i 0).val := by
  have h1 : (i 1).val < 32 := (i 1).isLt
  have h2 : (i 2).val < 512 := (i 2).isLt
  rw [Rect.mem_set_unit, Fin.forall_fin_succ, Fin.forall_fin_succ, Fin.forall_fin_one]
  show (s.val ≤ (i 0).val ∧ (i 0).val < s.val + 1) ∧ (0 ≤ (i 1).val ∧ (i 1).val < 0 + 32)
    ∧ (0 ≤ (i 2).val ∧ (i 2).val < 0 + 512) ↔ s.val = (i 0).val
  omega

theorem set_src (d : Dev nD) : (srcM d).view.set = (rB d).set := by
  rw [← View.set_slice_whole cc0_scratch0 (rB d)]; exact View.set_reshape _ _
theorem set_out (d : Dev nD) : (outM d).view.set = (rB d).set := by
  rw [← View.set_slice_whole cc0_stg5_0 (rB d)]; exact View.set_reshape _ _
theorem set_slot (d : Dev nD) : (slotM d).view.set = (rR d).set := by
  rw [← View.set_slice_whole cc0_scratch2 (rR d)]; exact View.set_reshape _ _

theorem disjoint_rB (d d' : Dev nD) (h : d ≠ d') : Disjoint (rB d).set (rB d').set :=
  Finset.disjoint_left.mpr fun i hi hi' => h (((mem_rB d i).mp hi).trans ((mem_rB d' i).mp hi').symm)
theorem disjoint_rR (d d' : Dev nD) (h : d ≠ d') : Disjoint (rR d).set (rR d').set :=
  Finset.disjoint_left.mpr fun i hi hi' => h (Fin.ext (((mem_rR d i).mp hi).trans ((mem_rR d' i).mp hi').symm))

theorem cover_rB : (Finset.univ : Finset (Dev nD)).biUnion (fun d => (rB d).set) = Finset.univ := by
  ext i; simp only [Finset.mem_biUnion, Finset.mem_univ, true_and, iff_true]; exact ⟨_, (mem_rB _ i).mpr rfl⟩
theorem cover_rR : (Finset.univ : Finset (Dev nD)).biUnion (fun d => (rR d).set) = Finset.univ := by
  ext i; simp only [Finset.mem_biUnion, Finset.mem_univ, true_and, iff_true]
  exact ⟨⟨(i 0).val, (i 0).isLt⟩, (mem_rR _ i).mpr rfl⟩
theorem cover_half (b : ℕ) (l : List (Dev nD)) (h : ∀ d : Dev nD, d ∈ l ↔ d.val / 8 = b) :
    l.toFinset.biUnion (fun d => (rB d).set) = H b := by
  ext i
  have h1 : (i 1).val < 256 := (i 1).isLt
  simp only [Finset.mem_biUnion, List.mem_toFinset, Finset.mem_filter, Finset.mem_univ, true_and]
  constructor
  · rintro ⟨d, hd, hi⟩; rw [(mem_rB d i).mp hi] at hd; have := (h _).mp hd; unfold blkOf at this; dsimp only at this; omega
  · intro hi; refine ⟨blkOf i, (h _).mpr ?_, (mem_rB _ i).mpr rfl⟩; unfold blkOf; dsimp only; omega

/-! ## Owning a memref at what it reads -/

theorem owns_read (c : Dev nD) {sp : Space} {sh : Shape} {e : EltTy} (m : Memref sig .tc sp sh e) (q : PosShare TreeShare) (g : m.view.ty.Contents (Elt F)) :
    (owns (c : Thread nD τ) m q (m.view.read (Elt F) g) : sProp 𝕄) = (m.view.loc (c : Thread nD τ) ↦[m.view.set]{q} g) := by
  have h₁ : (owns (c : Thread nD τ) m q (m.view.read (Elt F) g) : sProp 𝕄) ⊢ (m.view.loc (c : Thread nD τ) ↦[m.view.set]{q} g) := by
    iintro H
    ihave H := (owns_elim c m q _) $$ [H]; · iexact H
    icases H with ⟨%f, %hf, H⟩
    have e : (m.view.loc (c : Thread nD τ) ↦[m.view.set]{q} f : sProp 𝕄) = (m.view.loc (c : Thread nD τ) ↦[m.view.set]{q} g) :=
      pointsTo_congr fun i hi => by
        rw [View.set, Finset.mem_map] at hi
        obtain ⟨x, -, rfl⟩ := hi
        have := congrFun hf x
        simp only [View.read] at this
        exact (cast_inj _).mp this
    rw [← e]; iexact H
  exact BI.equiv_iff.mp ⟨h₁, owns_intro _ _ _ _⟩

end Cert.KernelIdeal.Talk

end
-- ==== Proof.KI.Blocks.lean ====
/- The buffers cut into the blocks the devices exchange, and put together again. -/
module

public import proofs.«01_k».proof.Proof.KI.Bufs

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Ins F)

theorem off1_eq : ∀ c : Dev nD, k0_off1 c = offR c := by decide +kernel

/-! ## Reading and writing at an index -/

theorem emb_blk (s : Dev nD) (j : S32x512.Idx) (h : S32x512.numel = S1x32x512.numel) :
    blkOf ((rB s).emb (Shape.reshapeEquiv h j)) = s ∧ inBlk ((rB s).emb (Shape.reshapeEquiv h j)) = j := by
  have hj : Shape.reshapeEquiv h j = ix3 (0 : Fin 1) (j 0) (j 1) := by
    conv_lhs => rw [eq_ix2 j]
    exact ValueIdx.reshapeEquiv_ix2_1ab h (j 0) (j 1)
  rw [hj]
  have h0 : (j 0).val < 32 := (j 0).isLt
  have hs : s.val < 16 := s.isLt
  constructor
  · apply Fin.ext
    show (s.val / 8 + 1 * 0) * 8 + (s.val % 8 * 32 + 1 * (j 0).val) / 32 = s.val
    omega
  · conv_rhs => rw [eq_ix2 j]
    refine congrArg₂ ix2 (Fin.ext ?_) (Fin.ext ?_)
    · show (s.val % 8 * 32 + 1 * (j 0).val) % 32 = (j 0).val
      omega
    · show 0 + 1 * (j 1).val = (j 1).val
      omega

theorem emb_slot (s : Dev nD) (j : S32x512.Idx) (h : S32x512.numel = S1x32x512.numel) :
    (rR s).emb (Shape.reshapeEquiv h j) = ix3 (⟨s.val, s.isLt⟩ : Fin 16) (j 0) (j 1) := by
  have hj : Shape.reshapeEquiv h j = ix3 (0 : Fin 1) (j 0) (j 1) := by
    conv_lhs => rw [eq_ix2 j]
    exact ValueIdx.reshapeEquiv_ix2_1ab h (j 0) (j 1)
  rw [hj]; refine (eq_ix3 _).trans ?_
  refine congr (congrArg₂ ix3 (Fin.ext ?_) (Fin.ext ?_)) (Fin.ext ?_)
  · show s.val + 1 * 0 = s.val
    omega
  · show 0 + 1 * (j 0).val = (j 0).val
    omega
  · show 0 + 1 * (j 1).val = (j 1).val
    omega

theorem read_out (s : Dev nD) : (outM s).view.read (Elt F) (Oc X) = Bc X s := by
  funext j
  have e := emb_blk s j (squeezes_S1x32x512_S32x512).numel_eq.symm
  show Oc X ((rB s).emb (Shape.reshapeEquiv _ j)) = Bc X s j
  unfold Oc; rw [e.1, e.2]

theorem read_slot (c s : Dev nD) (h : c ≠ s) : (slotM s).view.read (Elt F) (Rc X c) = sent (Pc X) c s := by
  funext j
  show Rc X c ((rR s).emb (Shape.reshapeEquiv _ j)) = sent (Pc X) c s j
  rw [emb_slot s j]
  unfold Rc
  rw [if_neg (fun e => h (Fin.ext e.symm))]
  exact congrArg (sent (Pc X) c s) (eq_ix2 j).symm

/-- A half written reads the payload there, and the rest as before. -/
theorem read_half {sp : Space} {e : EltTy} (v : View sig .tc sp S2x256x512 e) (f : v.ty.Contents (Elt F)) (b : ℕ)
    (inb : ∀ a, (![b, 0, 0] : Fin 3 → ℕ) a + S1x256x512.size a ≤ S2x256x512.size a) (w : S1x256x512.Idx → Elt F e)
    (i : S2x256x512.Idx) (hi : (i 0).val = b) :
    v.read (Elt F) ((v.slice (Rect.unit (s := S2x256x512) ![b, 0, 0] S1x256x512.size inb)).write (Elt F) f w Finset.univ) i = w (lo i) :=
  View.read_writes_cons_unit_of_mem v f inb w [] i (lo i) rfl fun a => by
    fin_cases a
    · show (i 0).val = b + 0; omega
    · show (i 1).val = 0 + (i 1).val; omega
    · show (i 2).val = 0 + (i 2).val; omega
theorem read_half_ne {sp : Space} {e : EltTy} (v : View sig .tc sp S2x256x512 e) (f : v.ty.Contents (Elt F)) (b : ℕ)
    (inb : ∀ a, (![b, 0, 0] : Fin 3 → ℕ) a + S1x256x512.size a ≤ S2x256x512.size a) (w : S1x256x512.Idx → Elt F e)
    (i : S2x256x512.Idx) (hi : (i 0).val ≠ b) :
    v.read (Elt F) ((v.slice (Rect.unit (s := S2x256x512) ![b, 0, 0] S1x256x512.size inb)).write (Elt F) f w Finset.univ) i = v.read (Elt F) f i :=
  View.read_writes_cons_unit_of_not_mem v f inb w [] i rfl (0 : Fin 3) (by
    show (i 0).val < b ∨ b + 1 ≤ (i 0).val; omega)

theorem ne_zero_one (i : S2x256x512.Idx) (h : (i 0).val ≠ 0) : (i 0).val = 1 := by
  have h0 : (i 0).val < 2 := (i 0).isLt
  omega

abbrev half (b : ℕ) (inb : ∀ a, (![b, 0, 0] : Fin 3 → ℕ) a + S1x256x512.size a ≤ S2x256x512.size a) : Rect S2x256x512 :=
  Rect.unit (s := S2x256x512) ![b, 0, 0] S1x256x512.size inb
theorem mem_half (b : ℕ) (inb) (i : S2x256x512.Idx) : i ∈ (half b inb).set ↔ (i 0).val = b := by
  have h1 : (i 1).val < 256 := (i 1).isLt
  have h2 : (i 2).val < 512 := (i 2).isLt
  rw [Rect.mem_set_unit, Fin.forall_fin_succ, Fin.forall_fin_succ, Fin.forall_fin_one]
  show (b ≤ (i 0).val ∧ (i 0).val < b + 1) ∧ (0 ≤ (i 1).val ∧ (i 1).val < 0 + 256)
    ∧ (0 ≤ (i 2).val ∧ (i 2).val < 0 + 512) ↔ (i 0).val = b
  omega
theorem set_half (b : ℕ) (inb) : (half b inb).set = H b := by
  ext i; rw [mem_half, Finset.mem_filter]; simp

/-- A half read is the half of the whole. -/
theorem stack_zero {A : Type} (a b : S1x256x512.Idx → A) (g : S2x256x512.Idx → A) (inb) (h : ∀ i, (i 0).val = 0 → g i = stack a b i) :
    (fun j => g ((half 0 inb).emb j)) = a := by
  funext j
  have h0 : (j 0).val < 1 := (j 0).isLt
  have e : (((half 0 inb).emb j) 0).val = 0 := by show 0 + 1 * (j 0).val = 0; omega
  rw [h _ e]; unfold stack; rw [if_pos e]
  refine congrArg a ?_
  rw [eq_ix3 j]
  refine congr (congrArg₂ ix3 (Fin.ext ?_) (Fin.ext ?_)) (Fin.ext ?_)
  · show 0 = (j 0).val; omega
  · show 0 + 1 * (j 1).val = (j 1).val; omega
  · show 0 + 1 * (j 2).val = (j 2).val; omega
theorem stack_one {A : Type} (a b : S1x256x512.Idx → A) (g : S2x256x512.Idx → A) (inb) (h : ∀ i, (i 0).val = 1 → g i = stack a b i) :
    (fun j => g ((half 1 inb).emb j)) = b := by
  funext j
  have h0 : (j 0).val < 1 := (j 0).isLt
  have e : (((half 1 inb).emb j) 0).val = 1 := by show 1 + 1 * (j 0).val = 1; omega
  rw [h _ e]; unfold stack; rw [if_neg (by rw [e]; decide)]
  refine congrArg b ?_
  rw [eq_ix3 j]
  refine congr (congrArg₂ ix3 (Fin.ext ?_) (Fin.ext ?_)) (Fin.ext ?_)
  · show 0 = (j 0).val; omega
  · show 0 + 1 * (j 1).val = (j 1).val; omega
  · show 0 + 1 * (j 2).val = (j 2).val; omega

theorem read_blk {sp : Space} {e : EltTy} (v : View sig .tc sp S2x256x512 e) (f : v.ty.Contents (Elt F)) (c : Dev nD)
    (w : S1x32x512.Idx → Elt F e) (i : S2x256x512.Idx) (hi : i ∈ (rB c).set) :
    v.read (Elt F) ((v.slice (rB c)).write (Elt F) f w Finset.univ) i
      = w (ix3 (0 : Fin 1) (⟨(i 1).val % 32, Nat.mod_lt _ (by decide)⟩ : Fin 32) (i 2)) :=
  View.read_writes_cons_unit_of_mem v f (offB_inb c) w [] i
    (ix3 (0 : Fin 1) (⟨(i 1).val % 32, Nat.mod_lt _ (by decide)⟩ : Fin 32) (i 2)) rfl fun a => by
    have h0 : (i 0).val < 2 := (i 0).isLt
    have h1 : (i 1).val < 256 := (i 1).isLt
    have hb' : c.val = (i 0).val * 8 + (i 1).val / 32 := congrArg Fin.val ((mem_rB c i).mp hi)
    fin_cases a
    · show (i 0).val = c.val / 8 + 0; omega
    · show (i 1).val = c.val % 8 * 32 + (i 1).val % 32; omega
    · show (i 2).val = 0 + (i 2).val; omega
theorem read_slt {sp : Space} {e : EltTy} (v : View sig .tc sp S16x32x512 e) (f : v.ty.Contents (Elt F)) (c : Dev nD)
    (w : S1x32x512.Idx → Elt F e) (i : S16x32x512.Idx) (hi : i ∈ (rR c).set) :
    v.read (Elt F) ((v.slice (rR c)).write (Elt F) f w Finset.univ) i = w (ix3 (0 : Fin 1) (i 1) (i 2)) :=
  View.read_writes_cons_unit_of_mem v f (offR_inb c) w [] i (ix3 (0 : Fin 1) (i 1) (i 2)) rfl fun a => by
    have hb : c.val = (i 0).val := (mem_rR c i).mp hi
    fin_cases a
    · show (i 0).val = c.val + 0; omega
    · show (i 1).val = 0 + (i 1).val; omega
    · show (i 2).val = 0 + (i 2).val; omega

theorem pay31_at (v : S32x512.Idx → Elt F .bf16) (a : Fin 32) (b : Fin 512) : (k0_pay31 v : S1x32x512.Idx → Elt F .bf16) (ix3 (0 : Fin 1) a b) = v (ix2 a b) :=
  ValueIdx.shapeCast_ab_1ab_apply _ _ _ _ _

theorem read_wh (b : Ref sig .tc) (r : Rect b.ty.shape) (f : b.ty.Contents (Elt F)) (w : r.shape.Idx → Elt F b.ty.elt) :
    (View.whole b).read (Elt F) (((View.whole b).slice r).write (Elt F) f w Finset.univ) = ((View.whole b).slice r).write (Elt F) f w Finset.univ := rfl

theorem write_blk (c : Dev nD) (f : cc0_stg5_0.ty.Contents (Elt F)) (w : S1x32x512.Idx → Elt F .bf16) (i : S2x256x512.Idx) (hi : i ∈ (rB c).set) :
    (aO.view.slice (rB c)).write (Elt F) f w Finset.univ i = w (ix3 (0 : Fin 1) (⟨(i 1).val % 32, Nat.mod_lt _ (by decide)⟩ : Fin 32) (i 2)) := by
  have h := read_blk aO.view f c w i hi
  have e := congrFun (read_wh cc0_stg5_0 (rB c) f w) i
  exact e.symm.trans h
theorem write_slt (c : Dev nD) (f : cc0_scratch2.ty.Contents (Elt F)) (w : S1x32x512.Idx → Elt F .bf16) (i : S16x32x512.Idx) (hi : i ∈ (rR c).set) :
    (aR.view.slice (rR c)).write (Elt F) f w Finset.univ i = w (ix3 (0 : Fin 1) (i 1) (i 2)) := by
  have h := read_slt aR.view f c w i hi
  have e := congrFun (read_wh cc0_scratch2 (rR c) f w) i
  exact e.symm.trans h

/-- The device's own result block written. -/
theorem write_out (c : Dev nD) (f : cc0_stg5_0.ty.Contents (Elt F)) (i : S2x256x512.Idx) (hi : i ∈ (rB c).set) :
    (aO.view.slice (rB c)).write (Elt F) f (k0_pay31 (Bc X c)) Finset.univ i = Oc X i := by
  have hb : blkOf i = c := ((mem_rB c i).mp hi).symm
  have e : Oc X i = Bc X c (inBlk i) := by unfold Oc; rw [hb]
  rw [e, write_blk c f _ i hi]; exact pay31_at _ _ _

/-- The device's own landing slot zeroed. -/
theorem write_slot (c : Dev nD) (f : cc0_scratch2.ty.Contents (Elt F)) (i : S16x32x512.Idx) (hi : i ∈ (rR c).set) :
    (aR.view.slice (rR c)).write (Elt F) f (k0_pay1 (F := F)) Finset.univ i = Rc X c i := by
  have e : Rc X c i = (k0_pay1 (F := F)) (ix3 (0 : Fin 1) (i 1) (i 2)) := by
    unfold Rc; rw [if_pos ((mem_rR c i).mp hi).symm]
  rw [e, write_slt c f _ i hi]

/-! ## Buffers and their blocks -/

theorem P_halves (c : Dev nD) (g : cc0_scratch0.ty.Contents (Elt F)) :
    (aP.view.loc (c : Thread nD τ) ↦[Finset.univ]{fullShare} g : sProp 𝕄)
      ⊢ iprop((aP.view.loc (c : Thread nD τ) ↦[H 0]{fullShare} g) ∗ (aP.view.loc (c : Thread nD τ) ↦[H 1]{fullShare} g)) := by
  have hd : Disjoint (H 0) (H 1) := Finset.disjoint_left.mpr fun i h h' => by
    rw [Finset.mem_filter] at h h'; omega
  have hu : (Finset.univ : Finset S2x256x512.Idx) = H 0 ∪ H 1 := by
    ext i; simp only [Finset.mem_univ, Finset.mem_union, Finset.mem_filter, true_and, true_iff]
    by_cases h : (i 0).val = 0
    · exact .inl h
    · exact .inr (ne_zero_one i h)
  have e : (aP.view.loc (c : Thread nD τ) ↦[Finset.univ]{fullShare} g : sProp 𝕄) = (aP.view.loc (c : Thread nD τ) ↦[H 0 ∪ H 1]{fullShare} g) := by
    rw [← hu]
  rw [e]; exact (pointsTo_union hd).1

theorem P_blocks (pb : Dev nD → cc0_scratch0.ty.Contents (Elt F)) (c : Dev nD) (b : ℕ) (l : List (Dev nD)) (hl : l.Nodup) (h : ∀ d : Dev nD, d ∈ l ↔ d.val / 8 = b) :
    (aP.view.loc (c : Thread nD τ) ↦[H b]{fullShare} (pb c) : sProp 𝕄) ⊢ sepL l (srcOwn pb c) := by
  rw [sepL_bigSep l hl, ← cover_half b l h, pointsTo_biUnion _ _ fun d _ d' _ hh => disjoint_rB d d' hh]
  refine (BI.bigSep_congr fun d _ => ?_).le
  rw [← set_src d]; exact (owns_read c (srcM d) fullShare (pb c)).symm

theorem P_join (pb : Dev nD → cc0_scratch0.ty.Contents (Elt F)) (c : Dev nD) : (bigSep Finset.univ (srcOwn pb c) : sProp 𝕄) = (aP.view.loc (c : Thread nD τ) ↦[Finset.univ]{fullShare} (pb c)) := by
  have e : (aP.view.loc (c : Thread nD τ) ↦[Finset.univ]{fullShare} (pb c) : sProp 𝕄)
      = (aP.view.loc (c : Thread nD τ) ↦[(Finset.univ : Finset (Dev nD)).biUnion (fun d => (rB d).set)]{fullShare} (pb c)) := by
    rw [cover_rB]
  rw [e, pointsTo_biUnion _ _ fun d _ d' _ hh => disjoint_rB d d' hh]
  refine BI.bigSep_congr fun d _ => ?_
  rw [← set_src d]; exact owns_read c (srcM d) fullShare (pb c)

theorem O_split (c : Dev nD) (g : cc0_stg5_0.ty.Contents (Elt F)) :
    (aO.view.loc (c : Thread nD τ) ↦[Finset.univ]{fullShare} g : sProp 𝕄)
      = bigSep Finset.univ fun d => outOwn c d ((outM d).view.read (Elt F) g) := by
  have e : (aO.view.loc (c : Thread nD τ) ↦[Finset.univ]{fullShare} g : sProp 𝕄)
      = (aO.view.loc (c : Thread nD τ) ↦[(Finset.univ : Finset (Dev nD)).biUnion (fun d => (rB d).set)]{fullShare} g) := by
    rw [cover_rB]
  rw [e, pointsTo_biUnion _ _ fun d _ d' _ hh => disjoint_rB d d' hh]
  refine BI.bigSep_congr fun d _ => ?_
  rw [← set_out d]; exact (owns_read c (outM d) fullShare g).symm
theorem O_join (c : Dev nD) : (bigSep Finset.univ (fun d => outOwn c d (Bc X d)) : sProp 𝕄) = (aO.view.loc (c : Thread nD τ) ↦[Finset.univ]{fullShare} (Oc X)) := by
  rw [O_split]; exact BI.bigSep_congr fun d _ => by rw [read_out]

theorem R_split (c : Dev nD) (g : cc0_scratch2.ty.Contents (Elt F)) :
    (aR.view.loc (c : Thread nD τ) ↦[Finset.univ]{fullShare} g : sProp 𝕄)
      = bigSep Finset.univ fun d => slotOwn c d ((slotM d).view.read (Elt F) g) := by
  have e : (aR.view.loc (c : Thread nD τ) ↦[Finset.univ]{fullShare} g : sProp 𝕄)
      = (aR.view.loc (c : Thread nD τ) ↦[(Finset.univ : Finset (Dev nD)).biUnion (fun d => (rR d).set)]{fullShare} g) := by
    rw [cover_rR]
  rw [e, pointsTo_biUnion _ _ fun d _ d' _ hh => disjoint_rR d d' hh]
  refine BI.bigSep_congr fun d _ => ?_
  rw [← set_slot d]; exact (owns_read c (slotM d) fullShare g).symm

theorem leaves16 (ℓ : Loc nD τ sig) (I : Finset (Idx ℓ)) (f : Buf (Elt F) ℓ) :
    (ℓ ↦[I]{fullShare} f : sProp 𝕄) = bigSep Finset.univ fun d : Dev nD => (ℓ ↦[I]{shr d} f : sProp 𝕄) :=
  ShareLeaves.pointsTo_leaves I f 4 fullShare

theorem B_split (bb : Dev nD → cc0_scratch1.ty.Contents (Elt F)) (c : Dev nD) :
    (aB.view.loc (c : Thread nD τ) ↦[Finset.univ]{fullShare} (bb c) : sProp 𝕄) = bigSep Finset.univ (blkOwn bb c) := by
  have hs : aB.view.set = Finset.univ := View.set_whole _
  have h : ∀ d : Dev nD, blkOwn bb c d = (aB.view.loc (c : Thread nD τ) ↦[Finset.univ]{shr d} (bb c) : sProp 𝕄) := fun d => by
    have := owns_read c aB (shr d) (bb c)
    rw [hs] at this
    exact this
  rw [BI.bigSep_congr fun d _ => h d]
  exact leaves16 _ _ _

end Cert.KernelIdeal.Talk

end
-- ==== Proof.KI.Room.lean ====
/- Room, tokens and steps at the head of a bind. -/
module

public import proofs.«01_k».proof.Proof.KI.Blocks

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))

variable (X : Dev nD → Ins F)

/-! ## Loads and stores at the head of a bind -/

theorem load_st (c : Dev nD) {cs : CoreSpace} {s : Shape} {e : EltTy} (m : Memref sig .tc cs s e) {r : LoadRect s} {hl : m.view.LoadsAt r}
    {S : Finset (Idx (m.view.loc (c : Thread nD τ)))} {q : PosShare TreeShare} {g : Buf (Elt F) (m.view.loc (c : Thread nD τ))} (hS : m.view.setOn r.set ⊆ S)
    {v : r.shape.Idx → Elt F e} (hv : m.view.readAt (Elt F) r g = v)
    {α β : Type} {Q : α → sProp 𝕄} {f : (r.shape.Idx → Elt F e) → Prog (TpuEff nD τ sig (Elt F) Λ₀ .tc) β} {k : β → Prog (TpuEff nD τ sig (Elt F) Λ₀ .tc) α} :
    (m.view.loc (c : Thread nD τ) ↦[S]{q} g : sProp 𝕄)
      ⊢ iprop(((m.view.loc (c : Thread nD τ) ↦[S]{q} g) -∗ WP c (f v >>= k) Q)
        -∗ WP c ((Prog.lift (.load m r hl) >>= f) >>= k) Q) := by
  subst hv
  exact wp_load (defs := defs₀ (F := F)) 𝒱₀ (c : Thread nD τ) none Set.univ (k := fun x => f x >>= k) (hl := hl) hS

theorem ld (c : Dev nD) {cs : CoreSpace} {s : Shape} {e : EltTy} (m : Memref sig .tc cs s e) {r : LoadRect s} {hl : m.view.LoadsAt r}
    {S : Finset (Idx (m.view.loc (c : Thread nD τ)))} {q : PosShare TreeShare} {g : Buf (Elt F) (m.view.loc (c : Thread nD τ))} (hS : m.view.setOn r.set ⊆ S)
    {v : r.shape.Idx → Elt F e} (hv : m.view.readAt (Elt F) r g = v)
    {α : Type} {Q : α → sProp 𝕄} {k : (r.shape.Idx → Elt F e) → Prog (TpuEff nD τ sig (Elt F) Λ₀ .tc) α} :
    (m.view.loc (c : Thread nD τ) ↦[S]{q} g : sProp 𝕄)
      ⊢ iprop(((m.view.loc (c : Thread nD τ) ↦[S]{q} g) -∗ WP c (k v) Q) -∗ WP c (.op (.load m r hl) k) Q) := by
  subst hv
  exact wp_load (defs := defs₀ (F := F)) 𝒱₀ (c : Thread nD τ) none Set.univ (hl := hl) hS

theorem store_st (c : Dev nD) {cs : CoreSpace} {s : Shape} {e : EltTy} (m : Memref sig .tc cs s e) {r : Rect s} {w : r.shape.Idx → Elt F e} {hx : (m.access r).Stores Finset.univ} {hm}
    {S : Finset (Idx ((m.access r).loc (c : Thread nD τ)))} {g : Buf (Elt F) ((m.access r).loc (c : Thread nD τ))} (hS : (m.access r).set ⊆ S)
    {α β : Type} {Q : α → sProp 𝕄} {f : PUnit → Prog (TpuEff nD τ sig (Elt F) Λ₀ .tc) β} {k : β → Prog (TpuEff nD τ sig (Elt F) Λ₀ .tc) α} :
    ((m.access r).loc (c : Thread nD τ) ↦[S]{fullShare} g : sProp 𝕄)
      ⊢ iprop((((m.access r).loc (c : Thread nD τ) ↦[S]{fullShare} ((m.access r).write (Elt F) g w Finset.univ)) -∗ WP c (f ⟨⟩ >>= k) Q)
        -∗ WP c ((Prog.lift (.store m r w Finset.univ hx hm) >>= f) >>= k) Q) :=
  wp_store (defs := defs₀ (F := F)) 𝒱₀ (c : Thread nD τ) none Set.univ (k := fun x => f x >>= k) (hx := hx) (hm := hm) (Mk := Finset.univ) hS

/-! ## The room on the other devices, and the tokens of a transfer -/

def room1 (c d : Dev nD) : sProp 𝕄 := if c = d then iprop(emp) else iprop((∃ X, slotOwn d c X) ∗ reached ER (cell 1 d c) 0)
def room2 (c d : Dev nD) : sProp 𝕄 := if c = d then iprop(emp) else iprop((∃ X, outOwn d c X) ∗ reached ER (cell 3 d c) 0)
/-- The tokens of the transfer from `c` to `d` that the launch deals `c`. -/
def tok (k₁ k₂ : Fin 4) (c d : Dev nD) : sProp 𝕄 :=
  if c = d then iprop(emp) else iprop(dutyTok ER (cell k₁ c d) 0 (0 : Dev nD) ∗ reached ER (cell k₁ c d) 0 ∗ dutyTok ER (cell k₂ d c) 0 (0 : Dev nD)
    ∗ atPos ER (cell k₁ c d) 0 ∅ 0)

theorem bigMono {I : Type} {s : Finset I} {Φ Ψ : I → sProp 𝕄} (h : ∀ i ∈ s, Φ i ⊢ Ψ i) : bigSep s Φ ⊢ bigSep s Ψ := bigSep_mono h
theorem sepL_mono {I : Type} (l : List I) {A B : I → sProp 𝕄} (h : ∀ i, A i ⊢ B i) : sepL l A ⊢ sepL l B := by
  induction l with
  | nil => exact .rfl
  | cons a l ih => rw [sepL_cons, sepL_cons]; exact BIClass.sep_mono (h a) ih
theorem sepL_sep {I : Type} (l : List I) {A B : I → sProp 𝕄} : iprop(sepL l A ∗ sepL l B) ⊢ sepL l (fun i => iprop(A i ∗ B i)) := by
  induction l with
  | nil => exact BIClass.emp_sep.1
  | cons a l ih =>
    rw [sepL_cons, sepL_cons, sepL_cons]
    iintro ⟨⟨HA, HAs⟩, HB, HBs⟩
    isplitl [HA HB]
    · isplitl [HA]; · iexact HA
      iexact HB
    iapply ih
    isplitl [HAs]; · iexact HAs
    iexact HBs

theorem before1_intro (c d : Dev nD) : iprop(srcOwn pb c d ∗ room1 (F := F) c d ∗ tok 0 1 c d) ⊢ before1 pb c d := by
  unfold room1 tok before1 sendToks
  by_cases h : c = d
  · rw [if_pos h, if_pos h, if_pos h]; iintro ⟨H, -, -⟩; iexact H
  · rw [if_neg h, if_neg h, if_neg h]
    iintro ⟨Hs, ⟨Hr, Hq⟩, Ha, Hb, Hc, Hd⟩
    isplitl [Hs]; · iexact Hs
    isplitl [Hr]; · iexact Hr
    isplitl [Ha]; · iexact Ha
    isplitl [Hb]; · iexact Hb
    isplitl [Hc]; · iexact Hc
    isplitl [Hq]; · iexact Hq
    iexact Hd
theorem before2_intro (c d : Dev nD) : iprop(blkOwn bb c d ∗ room2 (F := F) c d ∗ tok 2 3 c d) ⊢ before2 bb c d := by
  unfold room2 tok before2 sendToks
  by_cases h : c = d
  · rw [if_pos h, if_pos h, if_pos h]; iintro ⟨H, -, -⟩; iexact H
  · rw [if_neg h, if_neg h, if_neg h]
    iintro ⟨Hs, ⟨Hr, Hq⟩, Ha, Hb, Hc, Hd⟩
    isplitl [Hs]; · iexact Hs
    isplitl [Hr]; · iexact Hr
    isplitl [Ha]; · iexact Ha
    isplitl [Hb]; · iexact Hb
    isplitl [Hc]; · iexact Hc
    isplitl [Hq]; · iexact Hq
    iexact Hd
theorem before1_list (c : Dev nD) (l : List (Dev nD)) : iprop(sepL l (srcOwn pb c) ∗ sepL l (room1 (F := F) c) ∗ sepL l (tok 0 1 c)) ⊢ sepL l (before1 pb c) :=
  (BIClass.sep_mono .rfl (sepL_sep l)).trans ((sepL_sep l).trans (sepL_mono l (before1_intro pb c)))
theorem before2_list (c : Dev nD) (l : List (Dev nD)) : iprop(sepL l (blkOwn bb c) ∗ sepL l (room2 (F := F) c) ∗ sepL l (tok 2 3 c)) ⊢ sepL l (before2 bb c) :=
  (BIClass.sep_mono .rfl (sepL_sep l)).trans ((sepL_sep l).trans (sepL_mono l (before2_intro bb c)))

theorem univ_split (c : Dev nD) (Φ : Dev nD → sProp 𝕄) : bigSep Finset.univ Φ = iprop(Φ c ∗ bigSep (Finset.univ.erase c) Φ) := by
  conv_lhs => rw [← Finset.insert_erase (Finset.mem_univ c)]
  exact bigSep_insert (Finset.notMem_erase _ _)

/-- All but the device's own member, and its own. -/
theorem at_join (c : Dev nD) (Φ : Dev nD → sProp 𝕄) : iprop(Φ c ∗ bigSep Finset.univ fun d => if c = d then iprop(emp) else Φ d) ⊢ bigSep Finset.univ Φ := by
  rw [univ_split c Φ, univ_split c (fun d => if c = d then iprop(emp) else Φ d), if_pos rfl]
  rw [BI.bigSep_congr (Φ := fun d => if c = d then iprop(emp) else Φ d) (Ψ := Φ) fun d hd => if_neg (Finset.ne_of_mem_erase hd).symm]
  iintro ⟨H, -, Hs⟩
  isplitl [H]; · iexact H
  iexact Hs

theorem bar_split (c : Dev nD) : (bigSep Finset.univ (fun s => barPay (F := F) c s) : sProp 𝕄)
    ⊢ iprop(sepL all (room1 (F := F) c) ∗ sepL all (room2 (F := F) c) ∗ (∃ X, slotOwn c c X) ∗ (∃ X, outOwn c c X)) := by
  rw [sepL_all, sepL_all, univ_split c (room1 (F := F) c), univ_split c (room2 (F := F) c), univ_split c (fun s => barPay (F := F) c s)]
  have h : (bigSep (Finset.univ.erase c) (fun s => barPay (F := F) c s) : sProp 𝕄)
      ⊢ iprop(bigSep (Finset.univ.erase c) (room1 (F := F) c) ∗ bigSep (Finset.univ.erase c) (room2 (F := F) c)) := by
    refine BIBase.Entails.trans (bigMono (Ψ := fun d => iprop(room1 (F := F) c d ∗ room2 (F := F) c d)) fun d hd => ?_) (Entails.of_eq (bigSep_sep _ _ _))
    unfold room1 room2 barPay
    rw [if_neg (Finset.ne_of_mem_erase hd).symm, if_neg (Finset.ne_of_mem_erase hd).symm]
    iintro ⟨Ha, Hb, Hc, Hd⟩
    isplitl [Ha Hc]
    · isplitl [Ha]; · iexact Ha
      iexact Hc
    isplitl [Hb]; · iexact Hb
    iexact Hd
  iintro ⟨H, Hs⟩
  ihave Hs := h $$ Hs
  icases Hs with ⟨H1, H2⟩
  unfold barPay
  icases H with ⟨Ha, Hb, -, -⟩
  isplitl [H1]
  · isplitr; · unfold room1; rw [if_pos rfl]; iempintro
    iexact H1
  isplitl [H2]
  · isplitr; · unfold room2; rw [if_pos rfl]; iempintro
    iexact H2
  isplitl [Ha]; · iexact Ha
  iexact Hb

/-- What is left of a cell once its transfer has been waited for. -/
def clo (k : Fin 4) (c j : Dev nD) : sProp 𝕄 := if c = j then iprop(emp) else atPos ER (cell k c j) (0 + 1) ∅ 0

theorem waited_split (k : Fin 4) (A : Dev nD → sProp 𝕄) (c : Dev nD) :
    (bigSep Finset.univ (waited pb bb k A c) : sProp 𝕄)
      ⊢ iprop((bigSep Finset.univ fun j => if c = j then A j else dmaPay pb bb k.val c j) ∗ bigSep Finset.univ (clo (F := F) k c)) := by
  refine BIBase.Entails.trans (bigMono (Ψ := fun j => iprop((if c = j then A j else dmaPay pb bb k.val c j) ∗ clo (F := F) k c j)) fun j _ => ?_) (Entails.of_eq (bigSep_sep _ _ _))
  unfold waited clo
  by_cases h : c = j
  · rw [if_pos h, if_pos h, if_pos h]; iintro H; isplitl [H]; · iexact H
    iempintro
  · rw [if_neg h, if_neg h, if_neg h]; exact .rfl

/-! ## Halves written -/

theorem wP (b : ℕ) (inb) (f : cc0_scratch0.ty.Contents (Elt F)) (w : S1x256x512.Idx → Elt F .bf16) (i : S2x256x512.Idx) (hi : (i 0).val = b) :
    (aP.view.slice (half b inb)).write (Elt F) f w Finset.univ i = w (lo i) := by
  have h := read_half aP.view f b inb w i hi
  have e := congrFun (read_wh cc0_scratch0 (half b inb) f w) i
  exact e.symm.trans h
theorem wT (b : ℕ) (inb) (f : cc0_scratch3.ty.Contents (Elt F)) (w : S1x256x512.Idx → Elt F .f32) (i : S2x256x512.Idx) (hi : (i 0).val = b) :
    (aT.view.slice (half b inb)).write (Elt F) f w Finset.univ i = w (lo i) := by
  have h := read_half aT.view f b inb w i hi
  have e := congrFun (read_wh cc0_scratch3 (half b inb) f w) i
  exact e.symm.trans h
theorem wT_ne (b : ℕ) (inb) (f : cc0_scratch3.ty.Contents (Elt F)) (w : S1x256x512.Idx → Elt F .f32) (i : S2x256x512.Idx) (hi : (i 0).val ≠ b) :
    (aT.view.slice (half b inb)).write (Elt F) f w Finset.univ i = f i := by
  have h := read_half_ne aT.view f b inb w i hi
  have e := congrFun (read_wh cc0_scratch3 (half b inb) f w) i
  exact e.symm.trans h
theorem set_accP (b : ℕ) (inb) : (aP.access (half b inb)).set ⊆ H b := by
  rw [← set_half b inb]; exact (View.set_slice_whole cc0_scratch0 (half b inb)).le

end Cert.KernelIdeal.Talk

end
-- ==== Proof.KI.Cells.lean ====
/- The cells' life around the body: opened, their tokens sorted by the peer they serve, closed at zero. -/
module

public import proofs.«01_k».proof.Proof.KI.Blocks
public import proofs.«01_k».proof.Proof.KI.Room

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))

/-- What a device owes at launch. -/
abbrev O₀ (c : Dev nD) : CellTallies nD τ sig Unit := due (fCell 3 c) all + due (fCell 1 c) all + due fBar all

/-- The kernel's own counters. -/
abbrev osem (x : Fin 4 × Dev nD) : SemLoc sig := .dma (dsem x.1 x.2)

/-- The duties a device pays: one on every barrier cell, and for each family of cells those of its own transfers. -/
def duties (c : Dev nD) : sProp 𝕄 :=
  iprop((bigSep Finset.univ fun d : Dev nD => dutyTok ER (barCell d) 0 c)
    ∗ (bigSep Finset.univ fun d : Dev nD => dutyTok ER (cell 0 c d) 0 (0 : Dev nD)) ∗ (bigSep Finset.univ fun d : Dev nD => dutyTok ER (cell 1 d c) 0 (0 : Dev nD))
    ∗ (bigSep Finset.univ fun d : Dev nD => dutyTok ER (cell 2 c d) 0 (0 : Dev nD)) ∗ (bigSep Finset.univ fun d : Dev nD => dutyTok ER (cell 3 d c) 0 (0 : Dev nD)))

/-- The credit for what a peer owes one of the device's landing cells. -/
def credOf (k : Fin 4) (c d : Dev nD) : sProp 𝕄 := if c = d then iprop(emp) else cred (tallyAt (cell k c d) () N)
def credits (c : Dev nD) : sProp 𝕄 :=
  iprop(cred (tallyAt (barCell c) () 16) ∗ (bigSep Finset.univ fun d : Dev nD => credOf 1 c d) ∗ (bigSep Finset.univ fun d : Dev nD => credOf 3 c d))

/-- Round 0 of every barrier cell is reached; of every cell of the device. -/
def barsReached : sProp 𝕄 := bigSep Finset.univ fun d : Dev nD => reached ER (barCell d) 0
def ownReached (c : Dev nD) : sProp 𝕄 := bigSep Finset.univ fun x : Fin 4 × Dev nD => reached ER (cell x.1 c x.2) 0
instance barsReached_persistent : BI.Persistent (barsReached (F := F)) := by unfold barsReached; infer_instance
instance ownReached_persistent (c : Dev nD) : BI.Persistent (ownReached (F := F) c) := by unfold ownReached; infer_instance
theorem bars_at (d : Dev nD) : (barsReached : sProp 𝕄) ⊢ reached ER (barCell d) 0 := by
  unfold barsReached; exact bigSep_elim (Φ := fun d : Dev nD => (reached ER (barCell d) 0 : sProp 𝕄)) (Finset.mem_univ d)
theorem own_at (k : Fin 4) (c d : Dev nD) : (ownReached c : sProp 𝕄) ⊢ reached ER (cell k c d) 0 := by
  unfold ownReached
  exact bigSep_elim (Φ := fun x : Fin 4 × Dev nD => (reached ER (cell x.1 c x.2) 0 : sProp 𝕄)) (Finset.mem_univ (k, d))

/-- What the launch deals a device. -/
def Tk (c : Dev nD) : sProp 𝕄 :=
  iprop((∃ K, invs pb bb K ∗ barsReached ∗ atPos ER (barCell c) 0 ∅ 0 ∗ (bigSep Finset.univ fun x : Fin 4 × Dev nD => openTok ER (cell x.1 c x.2)) ∗ duties c) ∗ credits c)
/-- The same once its cells are open. -/
def Xk (c : Dev nD) : sProp 𝕄 :=
  iprop((∃ K, (invs pb bb K ∗ levAts L lv) ∗ (barsReached ∗ ownReached c) ∗ atPos ER (barCell c) 0 ∅ 0
    ∗ (bigSep Finset.univ fun x : Fin 4 × Dev nD => atPos ER (cell x.1 c x.2) 0 ∅ 0) ∗ duties c) ∗ credits c)

theorem bigSep_join {I : Type} [Fintype I] [DecidableEq I] {A B : I → sProp 𝕄} : iprop(bigSep Finset.univ A ∗ bigSep Finset.univ B) ⊢ bigSep Finset.univ fun i => iprop(A i ∗ B i) :=
  Entails.of_eq (bigSep_sep _ _ _).symm
theorem bigSep_part {I : Type} [Fintype I] [DecidableEq I] {A B : I → sProp 𝕄} : (bigSep Finset.univ fun i => iprop(A i ∗ B i)) ⊢ iprop(bigSep Finset.univ A ∗ bigSep Finset.univ B) :=
  Entails.of_eq (bigSep_sep _ _ _)

/-- A family of updates made from persistent knowledge. -/
theorem updates {I : Type} [Fintype I] [DecidableEq I] (R : sProp 𝕄) [BI.Persistent R] {A B : I → sProp 𝕄} (h : ∀ i, iprop(R ∗ A i) ⊢ |={Set.univ}[frame]=> B i) :
    iprop(R ∗ bigSep Finset.univ A) ⊢ |={Set.univ}[frame]=> bigSep Finset.univ B :=
  (bigSep_with_persistent (R := R) (Φ := A) (fun i _ => h i)).trans (bigSep_fupd Finset.univ B)

theorem open_one (K : GSem nD τ sig → ℕ) (c : Dev nD) (x : Fin 4 × Dev nD) :
    iprop(invs pb bb K ∗ (openTok ER (cell x.1 c x.2) ∗ semVal ((c : Thread nD τ), osem x) 0))
      ⊢ |={Set.univ}[frame]=> iprop(atPos ER (cell x.1 c x.2) 0 ∅ 0 ∗ reached ER (cell x.1 c x.2) 0) := by
  iintro ⟨#HI, Ho, Hv⟩
  iapply (Rounds.cell_open ER (Rd pb bb) (g := cell x.1 c x.2) (Set.mem_univ (K (cell x.1 c x.2))))
  isplitr; · iapply (invs_cell pb bb K x.1 c x.2); iexact HI
  isplitl [Ho] <;> iassumption

theorem hopen (c : Dev nD) : iprop(Tk pb bb c ∗ Pipeline.ownSems0 osem c ∗ levAts L lv) ⊢ (|={Set.univ}[frame]=> Xk pb bb c : sProp 𝕄) := by
  unfold Tk Xk Pipeline.ownSems0
  iintro ⟨⟨⟨%K, #HI, #HR, Hat, Ho, Hd⟩, Hc⟩, Hv, #Hlev⟩
  ihave H := (bigSep_join (F := F) (A := fun x : Fin 4 × Dev nD => openTok ER (cell x.1 c x.2)) (B := fun x => semVal ((c : Thread nD τ), osem x) 0)) $$ [Ho Hv]
  · isplitl [Ho]; · iexact Ho
    iexact Hv
  imod (updates (invs pb bb K) (open_one pb bb K c)) $$ [H] with H
  · isplitr; · iexact HI
    iexact H
  ihave H := (bigSep_part (F := F) (A := fun x : Fin 4 × Dev nD => atPos ER (cell x.1 c x.2) 0 ∅ 0) (B := fun x => reached ER (cell x.1 c x.2) 0)) $$ H
  icases H with ⟨H1, #H2⟩
  imodintro
  isplitr [Hc]
  · iexists K
    isplitr
    · isplitr; · iexact HI
      iexact Hlev
    isplitr
    · isplitr; · iexact HR
      unfold ownReached; iexact H2
    isplitl [Hat]; · iexact Hat
    isplitl [H1]; · iexact H1
    iexact Hd
  iexact Hc

/-! ## From the opened state to what the body takes -/

/-- The position of a device's cell of its own, which no transfer uses. -/
def own (k : Fin 4) (c d : Dev nD) : sProp 𝕄 := if c = d then atPos ER (cell k c d) 0 ∅ 0 else iprop(emp)

theorem mk_before0 (c d : Dev nD) : iprop((barsReached ∗ ownReached c) ∗ (dutyTok ER (barCell d) 0 c ∗ (∃ X, slotOwn c d X) ∗ (∃ X, outOwn c d X))) ⊢ (before0 c d : sProp 𝕄) := by
  unfold before0 barPay
  iintro ⟨⟨#HB, #HR⟩, Ht, Hs, Ho⟩
  isplitl [Ht]; · iexact Ht
  isplitr; · iapply (bars_at d); iexact HB
  isplitl [Hs]; · iexact Hs
  isplitl [Ho]; · iexact Ho
  isplitr; · iapply (own_at 1 c d); iexact HR
  iapply (own_at 3 c d); iexact HR

theorem mk_tok (k₁ k₂ : Fin 4) (c d : Dev nD) : iprop((barsReached ∗ ownReached c) ∗ (dutyTok ER (cell k₁ c d) 0 (0 : Dev nD) ∗ dutyTok ER (cell k₂ d c) 0 (0 : Dev nD) ∗ atPos ER (cell k₁ c d) 0 ∅ 0))
    ⊢ (iprop(tok k₁ k₂ c d ∗ own k₁ c d) : sProp 𝕄) := by
  unfold tok own
  by_cases h : c = d
  · rw [if_pos h, if_pos h]
    iintro ⟨-, -, -, H⟩
    isplitr; · iempintro
    iexact H
  · rw [if_neg h, if_neg h]
    iintro ⟨⟨#HB, #HR⟩, H1, H2, H3⟩
    isplitl
    · isplitl [H1]; · iexact H1
      isplitr; · iapply (own_at k₁ c d); iexact HR
      isplitl [H2]; · iexact H2
      iexact H3
    iempintro

theorem mk_waiting (k : Fin 4) (c d : Dev nD) : iprop(credOf k c d ∗ atPos ER (cell k c d) 0 ∅ 0) ⊢ (iprop(waiting k (fun _ => iprop(emp)) c d ∗ own k c d) : sProp 𝕄) := by
  unfold waiting own credPos credOf
  by_cases h : c = d
  · rw [if_pos h, if_pos h, if_pos h]
  · rw [if_neg h, if_neg h, if_neg h]
    iintro ⟨H1, H2⟩
    isplitl
    · isplitl [H1]; · iexact H1
      iexact H2
    iempintro

theorem fam4 (Φ : Fin 4 × Dev nD → sProp 𝕄) : bigSep Finset.univ Φ
    = iprop((bigSep Finset.univ fun d => Φ (0, d)) ∗ (bigSep Finset.univ fun d => Φ (1, d)) ∗ (bigSep Finset.univ fun d => Φ (2, d)) ∗ (bigSep Finset.univ fun d => Φ (3, d))) := by
  rw [BI.bigSep_univ_prod, bigSep_univ_eq_bigSepL [(0 : Fin 4), 1, 2, 3] (by decide) (by decide)]
  rfl

/-- Every cell of the device closed. -/
theorem close_one (K : GSem nD τ sig → ℕ) (k : Fin 4) (c d : Dev nD) :
    iprop(invs pb bb K ∗ (own k c d ∗ clo k c d)) ⊢ |={Set.univ}[frame]=> (semVal (cell k c d) 0 : sProp 𝕄) := by
  unfold own clo
  by_cases h : c = d
  · rw [if_pos h, if_pos h]
    iintro ⟨#HI, H, -⟩
    iapply (Rounds.cell_close ER (Rd pb bb) (g := cell k c d) (Set.mem_univ (K (cell k c d))) id (R := 0) (fun r _ => by subst h; exact duties_own pb bb k c r))
    isplitr; · iapply (invs_cell pb bb K k c d); iexact HI
    iexact H
  · rw [if_neg h, if_neg h]
    iintro ⟨#HI, -, H⟩
    iapply (Rounds.cell_close ER (Rd pb bb) (g := cell k c d) (Set.mem_univ (K (cell k c d))) id (R := 0 + 1) (duties_later pb bb (cell k c d)))
    isplitr; · iapply (invs_cell pb bb K k c d); iexact HI
    iexact H

theorem close_fam (K : GSem nD τ sig → ℕ) (k : Fin 4) (c : Dev nD) :
    iprop(invs pb bb K ∗ bigSep Finset.univ (own k c) ∗ bigSep Finset.univ (clo k c)) ⊢ |={Set.univ}[frame]=> bigSep Finset.univ fun d => (semVal (cell k c d) 0 : sProp 𝕄) := by
  iintro ⟨#HI, H1, H2⟩
  ihave H := (bigSep_join (F := F) (A := own k c) (B := clo k c)) $$ [H1 H2]
  · isplitl [H1]; · iexact H1
    iexact H2
  iapply (updates (invs pb bb K) (close_one pb bb K k c))
  isplitr; · iexact HI
  iexact H

theorem close_bar (K : GSem nD τ sig → ℕ) (c : Dev nD) :
    iprop(invs pb bb K ∗ atPos ER (barCell c) (0 + 1) ∅ 0) ⊢ |={Set.univ}[frame]=> (semVal (barCell c) 0 : sProp 𝕄) := by
  iintro ⟨#HI, H⟩
  iapply (Rounds.cell_close ER (Rd pb bb) (g := barCell c) (Set.mem_univ (K (barCell c))) id (R := 0 + 1) (duties_later pb bb (barCell c)))
  isplitr; · iapply (invs_bar pb bb K c); iexact HI
  iexact H

theorem close_all (K : GSem nD τ sig → ℕ) (c : Dev nD) :
    iprop(invs pb bb K ∗ (bigSep Finset.univ (own 0 c) ∗ bigSep Finset.univ (own 1 c) ∗ bigSep Finset.univ (own 2 c) ∗ bigSep Finset.univ (own 3 c))
      ∗ (atPos ER (barCell c) (0 + 1) ∅ 0 ∗ bigSep Finset.univ (clo 0 c) ∗ bigSep Finset.univ (clo 1 c) ∗ bigSep Finset.univ (clo 2 c) ∗ bigSep Finset.univ (clo 3 c)))
      ⊢ |={Set.univ}[frame]=> (iprop(semVal (barCell c) 0 ∗ Pipeline.ownSems0 osem c) : sProp 𝕄) := by
  unfold Pipeline.ownSems0
  rw [fam4]
  iintro ⟨#HI, ⟨A0, A1, A2, A3⟩, Hb, B0, B1, B2, B3⟩
  imod (close_bar pb bb K c) $$ [Hb] with Hb
  · isplitr; · iexact HI
    iexact Hb
  imod (close_fam pb bb K 0 c) $$ [A0 B0] with C0
  · isplitr; · iexact HI
    isplitl [A0] <;> iassumption
  imod (close_fam pb bb K 1 c) $$ [A1 B1] with C1
  · isplitr; · iexact HI
    isplitl [A1] <;> iassumption
  imod (close_fam pb bb K 2 c) $$ [A2 B2] with C2
  · isplitr; · iexact HI
    isplitl [A2] <;> iassumption
  imod (close_fam pb bb K 3 c) $$ [A3 B3] with C3
  · isplitr; · iexact HI
    isplitl [A3] <;> iassumption
  imodintro
  isplitl [Hb]; · iexact Hb
  isplitl [C0]; · iexact C0
  isplitl [C1]; · iexact C1
  isplitl [C2]; · iexact C2
  iexact C3

/-- The tokens, credits and positions sorted by the peer they serve. -/
theorem sort_toks (k₁ k₂ : Fin 4) (c : Dev nD) :
    iprop((barsReached ∗ ownReached c) ∗ (bigSep Finset.univ fun d : Dev nD => dutyTok ER (cell k₁ c d) 0 (0 : Dev nD)) ∗ (bigSep Finset.univ fun d : Dev nD => dutyTok ER (cell k₂ d c) 0 (0 : Dev nD))
      ∗ bigSep Finset.univ fun d : Dev nD => atPos ER (cell k₁ c d) 0 ∅ 0)
      ⊢ (iprop(sepL all (tok k₁ k₂ c) ∗ bigSep Finset.univ (own k₁ c)) : sProp 𝕄) := by
  rw [sepL_all]
  iintro ⟨#HR, H1, H2, H3⟩
  iapply bigSep_part
  iapply (bigSep_with_persistent (R := iprop(barsReached ∗ ownReached c))
    (Φ := fun d => iprop(dutyTok ER (cell k₁ c d) 0 (0 : Dev nD) ∗ dutyTok ER (cell k₂ d c) 0 (0 : Dev nD) ∗ atPos ER (cell k₁ c d) 0 ∅ 0)) fun d _ => mk_tok k₁ k₂ c d)
  isplitr; · iexact HR
  iapply bigSep_join
  isplitl [H1]; · iexact H1
  iapply bigSep_join
  isplitl [H2]; · iexact H2
  iexact H3
theorem sort_waits (k : Fin 4) (c : Dev nD) :
    iprop((bigSep Finset.univ fun d : Dev nD => credOf k c d) ∗ bigSep Finset.univ fun d : Dev nD => atPos ER (cell k c d) 0 ∅ 0)
      ⊢ (iprop(sepL all (waiting k (fun _ => iprop(emp)) c) ∗ bigSep Finset.univ (own k c)) : sProp 𝕄) := by
  rw [sepL_all]
  iintro H
  iapply bigSep_part
  ihave H := (bigSep_join (F := F) (A := fun d : Dev nD => credOf k c d) (B := fun d => atPos ER (cell k c d) 0 ∅ 0)) $$ H
  iapply (bigMono (s := Finset.univ) fun d _ => mk_waiting k c d)
  iexact H
theorem sort_bars (c : Dev nD) (r : cc0_scratch2.ty.Contents (Elt F)) (o : cc0_stg5_0.ty.Contents (Elt F)) :
    iprop((barsReached ∗ ownReached c) ∗ (bigSep Finset.univ fun d : Dev nD => dutyTok ER (barCell d) 0 c)
      ∗ (aR.view.loc (c : Thread nD τ) ↦[Finset.univ]{fullShare} r) ∗ (aO.view.loc (c : Thread nD τ) ↦[Finset.univ]{fullShare} o))
      ⊢ (sepL all (before0 c) : sProp 𝕄) := by
  rw [sepL_all, R_split, O_split]
  iintro ⟨#HR, H1, H2, H3⟩
  iapply (bigSep_with_persistent (R := iprop(barsReached ∗ ownReached c))
    (Φ := fun d => iprop(dutyTok ER (barCell d) 0 c ∗ (∃ X, slotOwn c d X) ∗ (∃ X, outOwn c d X))) fun d _ => mk_before0 c d)
  isplitr; · iexact HR
  iapply bigSep_join
  isplitl [H1]; · iexact H1
  iapply bigSep_join
  isplitl [H2]
  · iapply (bigMono (s := Finset.univ) (Φ := fun d => slotOwn c d ((slotM d).view.read (Elt F) r)) fun d _ => by iintro H; iexists _; iexact H) $$ H2
  · iapply (bigMono (s := Finset.univ) (Φ := fun d => outOwn c d ((outM d).view.read (Elt F) o)) fun d _ => by iintro H; iexists _; iexact H) $$ H3

end Cert.KernelIdeal.Talk

end
-- ==== Proof.KI.Credit.lean ====
/- What the devices owe each cell at launch, and the credit its owner waits on. -/
module

public import proofs.«01_k».proof.Proof.KI.Cells

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem dsem_inj {k k' : Fin 4} {j j' : Dev nD} (h : dsem k j = dsem k' j') : k = k' ∧ j = j' := by
  have h1 := congrArg famOf h; have h2 := congrArg memOf h
  rw [famOf_dsem, famOf_dsem] at h1; rw [memOf_dsem, memOf_dsem] at h2
  exact ⟨Fin.ext h1, h2⟩
theorem cell_inj {k k' : Fin 4} {c c' j j' : Dev nD} (h : cell k c j = cell k' c' j') : k = k' ∧ c = c' ∧ j = j' := by
  have h1 : c = c' := congrArg (fun g : GSem nD τ sig => g.1.1) h
  have h2 : (SemLoc.dma (dsem k j) : SemLoc sig) = .dma (dsem k' j') := congrArg Prod.snd h
  injection h2 with h2
  exact ⟨(dsem_inj h2).1, h1, (dsem_inj h2).2⟩
theorem cell_ne_bar (k : Fin 4) (c j d : Dev nD) : cell k c j ≠ barCell d := fun h => by
  have h2 : (SemLoc.dma (dsem k j) : SemLoc sig) = .reg barS := congrArg Prod.snd h
  injection h2
theorem bar_inj {c d : Dev nD} (h : barCell c = barCell d) : c = d := congrArg (fun g : GSem nD τ sig => g.1.1) h

/-! ## What the devices owe a cell, summed -/

theorem due_sum (f : Dev nD → CellTallies nD τ sig Unit) (l : List (Dev nD)) (g : GSem nD τ sig) :
    due f l g () = (l.map fun d => f d g ()).sum := by
  induction l with
  | nil => rfl
  | cons d l ih => unfold due; rw [Pi.add_apply, Finsupp.add_apply, ih, List.map_cons, List.sum_cons, Nat.add_comm]
theorem due_all (f : Dev nD → CellTallies nD τ sig Unit) (g : GSem nD τ sig) : due f all g () = ∑ d : Dev nD, f d g () := by
  rw [due_sum, ← List.sum_toFinset _ (by decide)]; congr 1

theorem fBar_bar (d c : Dev nD) : fBar d (barCell c) () = if d = c then 1 else 0 := by
  unfold fBar; rw [tallyAt_apply]
  by_cases h : d = c
  · subst h; rw [if_pos ⟨rfl, rfl⟩, if_pos rfl]
  · rw [if_neg fun e => h (bar_inj e.1).symm, if_neg h]
theorem fBar_cell (d : Dev nD) (k : Fin 4) (c j : Dev nD) : fBar d (cell k c j) () = 0 := by
  unfold fBar; rw [tallyAt_apply, if_neg fun e => cell_ne_bar k c j d e.1]
theorem fCell_bar (k : Fin 4) (e d c : Dev nD) : fCell k e d (barCell c) () = 0 := by
  unfold fCell; split
  · rfl
  · rw [tallyAt_apply, if_neg fun h => cell_ne_bar k d e c h.1.symm]
theorem fCell_other {k k' : Fin 4} (h : k ≠ k') (e d c j : Dev nD) : fCell k e d (cell k' c j) () = 0 := by
  unfold fCell; split
  · rfl
  · rw [tallyAt_apply, if_neg fun e => h (cell_inj e.1).1.symm]
theorem fCell_same (k : Fin 4) {c j : Dev nD} (hcj : c ≠ j) (e d : Dev nD) : fCell k e d (cell k c j) () = if d = c then (if e = j then N else 0) else 0 := by
  unfold fCell
  by_cases h : d = c
  · subst h; rw [if_pos rfl]
    by_cases h' : e = j
    · subst h'; rw [if_neg (Ne.symm hcj), if_pos rfl, tallyAt_apply, if_pos ⟨rfl, rfl⟩]
    · rw [if_neg h']; split
      · rfl
      · rw [tallyAt_apply, if_neg fun x => h' (cell_inj x.1).2.2.symm]
  · rw [if_neg h]; split
    · rfl
    · rw [tallyAt_apply, if_neg fun x => h (cell_inj x.1).2.1.symm]

theorem owed_bar (e c : Dev nD) : O₀ e (barCell c) () = 1 := by
  unfold O₀
  rw [Pi.add_apply, Finsupp.add_apply, Pi.add_apply, Finsupp.add_apply, due_all, due_all, due_all]
  rw [Finset.sum_congr rfl fun d _ => fCell_bar 3 e d c, Finset.sum_congr rfl fun d _ => fCell_bar 1 e d c, Finset.sum_congr rfl fun d _ => fBar_bar d c,
    Finset.sum_const_zero, Finset.sum_ite_eq' Finset.univ c fun _ => 1, if_pos (Finset.mem_univ _), Nat.add_zero, Nat.zero_add]
theorem owed_one {c j : Dev nD} (h : c ≠ j) (e : Dev nD) : O₀ e (cell 1 c j) () = if e = j then N else 0 := by
  unfold O₀
  rw [Pi.add_apply, Finsupp.add_apply, Pi.add_apply, Finsupp.add_apply, due_all, due_all, due_all]
  rw [Finset.sum_congr rfl fun d _ => fCell_other (k := 3) (k' := 1) (by decide) e d c j, Finset.sum_congr rfl fun d _ => fCell_same 1 h e d,
    Finset.sum_congr rfl fun d _ => fBar_cell d 1 c j, Finset.sum_const_zero, Finset.sum_ite_eq' Finset.univ c fun _ => (if e = j then N else 0),
    if_pos (Finset.mem_univ _), Nat.zero_add, Nat.add_zero]
theorem owed_three {c j : Dev nD} (h : c ≠ j) (e : Dev nD) : O₀ e (cell 3 c j) () = if e = j then N else 0 := by
  unfold O₀
  rw [Pi.add_apply, Finsupp.add_apply, Pi.add_apply, Finsupp.add_apply, due_all, due_all, due_all]
  rw [Finset.sum_congr rfl fun d _ => fCell_same 3 h e d, Finset.sum_congr rfl fun d _ => fCell_other (k := 1) (k' := 3) (by decide) e d c j,
    Finset.sum_congr rfl fun d _ => fBar_cell d 3 c j, Finset.sum_const_zero, Finset.sum_ite_eq' Finset.univ c fun _ => (if e = j then N else 0),
    if_pos (Finset.mem_univ _), Nat.add_zero, Nat.add_zero]

theorem launch_bar (c : Dev nD) : tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]; rfl
theorem launch_one {c j : Dev nD} (h : c ≠ j) : tallyOn (cell 1 c j) (launchCredit (Pipeline.owing O₀) 0 (cell 1 c j)) = (tallyAt (cell 1 c j) () N : CellTallies nD τ sig Unit) := by
  unfold tallyAt; refine congrArg _ (Finsupp.ext fun u => ?_); cases u
  rw [Pipeline.launchCredit_owing, Finsupp.single_eq_same, Finset.sum_congr rfl fun d _ => owed_one h d, Finset.sum_ite_eq' Finset.univ j fun _ => N, if_pos (Finset.mem_univ _)]
theorem launch_three {c j : Dev nD} (h : c ≠ j) : tallyOn (cell 3 c j) (launchCredit (Pipeline.owing O₀) 0 (cell 3 c j)) = (tallyAt (cell 3 c j) () N : CellTallies nD τ sig Unit) := by
  unfold tallyAt; refine congrArg _ (Finsupp.ext fun u => ?_); cases u
  rw [Pipeline.launchCredit_owing, Finsupp.single_eq_same, Finset.sum_congr rfl fun d _ => owed_three h d, Finset.sum_ite_eq' Finset.univ j fun _ => N, if_pos (Finset.mem_univ _)]

/-- The landing cells' semaphores of one family. -/
def famEmb (k : Fin 4) : Dev nD ↪ SemLoc sig := ⟨fun j => .dma (dsem k j), fun a b h => by injection h with h; exact (dsem_inj h).2⟩

theorem creds (c : Dev nD) : (Pipeline.launchCred O₀ c : sProp 𝕄) ⊢ credits c := by
  unfold Pipeline.launchCred credits
  rw [bigSep_univ_at _ (SemLoc.reg barS), launch_bar]
  refine BIClass.sep_mono .rfl ?_
  have hd : Disjoint (Finset.univ.map (famEmb 1)) (Finset.univ.map (famEmb 3)) := by
    rw [Finset.disjoint_left]
    rintro g h₁ h₂
    obtain ⟨a, -, rfl⟩ := Finset.mem_map.mp h₁
    obtain ⟨b, -, h⟩ := Finset.mem_map.mp h₂
    have h' : (SemLoc.dma (dsem 3 b) : SemLoc sig) = .dma (dsem 1 a) := h
    injection h' with h'
    exact absurd (dsem_inj h').1 (by decide)
  have hs : (Finset.univ.map (famEmb 1) ∪ Finset.univ.map (famEmb 3) : Finset (SemLoc sig)) ⊆ Finset.univ.erase (SemLoc.reg barS) := fun g hg => by
    refine Finset.mem_erase.mpr ⟨fun e => ?_, Finset.mem_univ _⟩
    subst e
    rcases Finset.mem_union.mp hg with h | h <;>
    · obtain ⟨a, -, h⟩ := Finset.mem_map.mp h
      injection (show (SemLoc.dma _ : SemLoc sig) = .reg barS from h)
  refine (bigSep_subset hs).trans ?_
  rw [bigSep_union hd, bigSep_map, bigSep_map]
  refine BIClass.sep_mono (bigMono fun j _ => ?_) (bigMono fun j _ => ?_)
  · unfold credOf
    by_cases h : c = j
    · rw [if_pos h]; iintro -; iempintro
    · rw [if_neg h, ← launch_one h]; exact .rfl
  · unfold credOf
    by_cases h : c = j
    · rw [if_pos h]; iintro -; iempintro
    · rw [if_neg h, ← launch_three h]; exact .rfl

end Cert.KernelIdeal.Talk

end
-- ==== Proof.KI.Launch.lean ====
/- The protocol's launch: its cells funded, every device dealt its tokens and credit. -/
module

public import proofs.«01_k».proof.Proof.KI.Credit
public import proofs.«01_k».proof.Proof.Gen.KernelIdeal.Regions

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))

def barEmb : Dev nD ↪ GSem nD τ sig := ⟨fun c => barCell c, fun _ _ h => bar_inj h⟩
def cellEmb : Dev nD × Fin 4 × Dev nD ↪ GSem nD τ sig :=
  ⟨fun x => cell x.2.1 x.1 x.2.2, fun x y h => Prod.ext (cell_inj h).2.1 (Prod.ext (cell_inj h).1 (cell_inj h).2.2)⟩

abbrev barCells : Finset (GSem nD τ sig) := Finset.univ.map barEmb
abbrev dmaCells : Finset (GSem nD τ sig) := Finset.univ.map cellEmb

/-- The tokens of the barrier's duties, by payer and cell, and of the transfers'. -/
def barTokEmb : Dev nD × Dev nD ↪ GSem nD τ sig × ℕ × Dev nD :=
  ⟨fun x => (barCell x.2, 0, x.1), fun x y h => Prod.ext (congrArg (fun t : GSem nD τ sig × ℕ × Dev nD => t.2.2) h) (bar_inj (congrArg Prod.fst h))⟩
def cellTokEmb : Dev nD × Fin 4 × Dev nD ↪ GSem nD τ sig × ℕ × Dev nD :=
  ⟨fun x => (cell x.2.1 x.1 x.2.2, 0, 0), fun x y h => cellEmb.injective (congrArg Prod.fst h)⟩
abbrev barToks : Finset (GSem nD τ sig × ℕ × Dev nD) := Finset.univ.map barTokEmb
abbrev cellToks : Finset (GSem nD τ sig × ℕ × Dev nD) := Finset.univ.map cellTokEmb

theorem disjoint_cells : Disjoint barCells dmaCells := by
  rw [Finset.disjoint_left]
  rintro g h₁ h₂
  obtain ⟨c, -, rfl⟩ := Finset.mem_map.mp h₁
  obtain ⟨x, -, h⟩ := Finset.mem_map.mp h₂
  exact cell_ne_bar _ _ _ _ h
theorem disjoint_toks : Disjoint barToks cellToks := by
  rw [Finset.disjoint_left]
  rintro g h₁ h₂
  obtain ⟨c, -, rfl⟩ := Finset.mem_map.mp h₁
  obtain ⟨x, -, h⟩ := Finset.mem_map.mp h₂
  exact cell_ne_bar _ _ _ _ (congrArg Prod.fst h)

/-- The launch element: the pipeline's at its staging cells, the protocol's at its own. -/
def u₀ : UU :=
  (initOf (Pipeline.cells cfgs cellOf_inj) (Pipeline.launchToks cfgs cellOf_inj), launchOf barCells dmaCells (barToks ∪ cellToks))

/-- The protocol's launch element, given to the first device until every device is dealt its part. -/
def G (c : Dev nD) : sProp (MT nD τ sig Unit (Elt F) ℕ UU ℕ) := if c = 0 then BI.own (ER (launchOf barCells dmaCells (barToks ∪ cellToks))) else iprop(emp)
theorem bigSep_G : (bigSep Finset.univ G : sProp 𝕄) = BI.own (ER (launchOf barCells dmaCells (barToks ∪ cellToks))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem hu₀ : (ownU u₀ : sProp 𝕄) ⊢ |={Set.univ}[frame]=> iprop(BI.own (EP (initOf (Pipeline.cells cfgs cellOf_inj) (Pipeline.launchToks cfgs cellOf_inj))) ∗ bigSep Finset.univ G) := by
  rw [bigSep_G]; unfold u₀
  iintro Hu
  ihave H := (ownU_pair _ _) $$ Hu
  icases H with ⟨HP, HX⟩
  imodintro
  isplitl [HP]; · iexact HP
  iexact HX

/-- What every device may consult. -/
def records (κ : GSem nD τ sig → ℕ) : sProp 𝕄 := iprop(invs pb bb κ ∗ barsReached)
instance records_persistent (κ : GSem nD τ sig → ℕ) : BI.Persistent (records pb bb κ) := by unfold records; infer_instance

def swapEquiv : Fin 4 × Dev nD × Dev nD ≃ Dev nD × Fin 4 × Dev nD :=
  ⟨fun x => (x.2.1, x.1, x.2.2), fun y => (y.2.1, y.1, y.2.2), fun _ => rfl, fun _ => rfl⟩
theorem invs_of (κ : GSem nD τ sig → ℕ) : (bigSep (barCells ∪ dmaCells) fun g => cellInv ER (Rd pb bb) (κ g) g : sProp 𝕄) ⊢ invs pb bb κ := by
  unfold invs
  rw [bigSep_union disjoint_cells, bigSep_map, bigSep_map]
  refine BIClass.sep_mono .rfl ?_
  refine Entails.of_eq ?_
  have e : (fun x : Fin 4 × Dev nD × Dev nD => (cellInv ER (Rd pb bb) (κ (cell x.1 x.2.1 x.2.2)) (cell x.1 x.2.1 x.2.2) : sProp 𝕄))
      = fun x => (fun y : Dev nD × Fin 4 × Dev nD => cellInv ER (Rd pb bb) (κ (cell y.2.1 y.1 y.2.2)) (cell y.2.1 y.1 y.2.2)) (swapEquiv x) := rfl
  rw [e, ← BI.bigSep_univ_equiv swapEquiv (fun y : Dev nD × Fin 4 × Dev nD => (cellInv ER (Rd pb bb) (κ (cell y.2.1 y.1 y.2.2)) (cell y.2.1 y.1 y.2.2) : sProp 𝕄))]
  rfl

/-- What stays with device `c`. -/
def linear (c : Dev nD) : sProp 𝕄 :=
  iprop(atPos ER (barCell c) 0 ∅ 0 ∗ (bigSep Finset.univ fun x : Fin 4 × Dev nD => openTok ER (cell x.1 c x.2)) ∗ duties c)

theorem toks_bar : (bigSep barToks (fun x => dutyTok ER x.1 x.2.1 x.2.2) : sProp 𝕄) = bigSep Finset.univ fun c : Dev nD => bigSep Finset.univ fun d : Dev nD => dutyTok ER (barCell d) 0 c := by
  rw [bigSep_map, bigSep_univ_prod]; rfl
theorem toks_cell : (bigSep cellToks (fun x => dutyTok ER x.1 x.2.1 x.2.2) : sProp 𝕄)
    ⊢ bigSep Finset.univ fun c : Dev nD => iprop((bigSep Finset.univ fun d : Dev nD => dutyTok ER (cell 0 c d) 0 (0 : Dev nD)) ∗ (bigSep Finset.univ fun d : Dev nD => dutyTok ER (cell 1 d c) 0 (0 : Dev nD))
      ∗ (bigSep Finset.univ fun d : Dev nD => dutyTok ER (cell 2 c d) 0 (0 : Dev nD)) ∗ (bigSep Finset.univ fun d : Dev nD => dutyTok ER (cell 3 d c) 0 (0 : Dev nD))) := by
  rw [bigSep_map, bigSep_univ_prod]
  have e : (bigSep Finset.univ fun c : Dev nD => bigSep Finset.univ fun x : Fin 4 × Dev nD => (dutyTok ER (cell x.1 c x.2) 0 (0 : Dev nD) : sProp 𝕄))
      = iprop((bigSep Finset.univ fun c : Dev nD => bigSep Finset.univ fun d : Dev nD => dutyTok ER (cell 0 c d) 0 (0 : Dev nD)) ∗ (bigSep Finset.univ fun c : Dev nD => bigSep Finset.univ fun d : Dev nD => dutyTok ER (cell 1 c d) 0 (0 : Dev nD))
        ∗ (bigSep Finset.univ fun c : Dev nD => bigSep Finset.univ fun d : Dev nD => dutyTok ER (cell 2 c d) 0 (0 : Dev nD)) ∗ (bigSep Finset.univ fun c : Dev nD => bigSep Finset.univ fun d : Dev nD => dutyTok ER (cell 3 c d) 0 (0 : Dev nD))) := by
    rw [← bigSep_sep', ← bigSep_sep', ← bigSep_sep']
    exact bigSep_congr fun c _ => fam4 (fun x => dutyTok ER (cell x.1 c x.2) 0 (0 : Dev nD))
  refine (Entails.of_eq e).trans ?_
  rw [BI.bigSep_univ_comm (fun c d : Dev nD => (dutyTok ER (cell 1 c d) 0 (0 : Dev nD) : sProp 𝕄)), BI.bigSep_univ_comm (fun c d : Dev nD => (dutyTok ER (cell 3 c d) 0 (0 : Dev nD) : sProp 𝕄)),
    ← bigSep_sep', ← bigSep_sep', ← bigSep_sep']
theorem open_eq : (bigSep dmaCells (fun g => openTok ER g) : sProp 𝕄) = bigSep Finset.univ fun c : Dev nD => bigSep Finset.univ fun x : Fin 4 × Dev nD => openTok ER (cell x.1 c x.2) := by
  rw [bigSep_map, bigSep_univ_prod]; rfl

theorem unscoped_eq : ∀ sm : SemLoc sig, sm.isScoped .tc = false → sm = .reg barS := by decide +kernel
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The state beside the buffers before the region. -/
def E0 (c : Dev nD) : sProp 𝕄 := iprop((∃ r, prngReg c r) ∗ Tk pb bb c ∗ ∃ W, owes (c : Thread nD τ) (O₀ c) W)

def bundle (c : Dev nD) : sProp 𝕄 := iprop(credits c ∗ owes (c : Thread nD τ) (O₀ c) ∅ ∗ ∃ r, prngReg c r)

theorem E0_intro (κ : GSem nD τ sig → ℕ) (c : Dev nD) : iprop(records pb bb κ ∗ (linear c ∗ bundle c)) ⊢ E0 pb bb c := by
  unfold records linear bundle E0 Tk
  iintro ⟨⟨#HI, #HR⟩, ⟨Hat, Ho, Hd⟩, Hc, HO, Hp⟩
  isplitl [Hp]; · iexact Hp
  isplitr [HO]
  · isplitr [Hc]
    · iexists κ
      isplitr; · iexact HI
      isplitr; · iexact HR
      isplitl [Hat]; · iexact Hat
      isplitl [Ho] <;> iassumption
    iexact Hc
  iexists ∅; iexact HO

theorem core (ρ : Dev nD → PrngReg) (c : Dev nD) : iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
  rw [unscopedSems0_eq]; unfold bundle
  iintro ⟨Hus, HO, Hcr, Hp, HG⟩
  ihave Hc := (creds (F := F) c) $$ Hcr
  isplitl [Hc HO Hp]
  · isplitl [Hc]; · iexact Hc
    isplitl [HO]; · iexact HO
    iexists (ρ c); iexact Hp
  isplitl [Hus] <;> iassumption
theorem bars_val : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bars_pos : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem bars_reached : bigSep barCells (fun g => (reached ER g 0 : sProp 𝕄)) ⊢ barsReached :=
  Entails.of_eq (bigSep_map (s := Finset.univ) barEmb (Φ := fun g : GSem nD τ sig => (reached ER g 0 : sProp 𝕄)))
theorem toks_all : bigSep (barToks ∪ cellToks) (fun x => (dutyTok ER x.1 x.2.1 x.2.2 : sProp 𝕄)) ⊢ bigSep Finset.univ fun c : Dev nD => duties c := by
  rw [bigSep_union disjoint_toks, toks_bar]
  unfold duties
  refine (BIClass.sep_mono .rfl toks_cell).trans ?_
  exact bigSep_join
/-- Protocol resources funded from the barrier counters and the launch element. -/
theorem fund : iprop(bigSep barCells (fun g => (semVal g 0 : sProp 𝕄)) ∗ BI.own (ER (launchOf barCells dmaCells (barToks ∪ cellToks))))
    ⊢ (|={Set.univ}[frame]=> ∃ κ : GSem nD τ sig → ℕ, (bigSep (barCells ∪ dmaCells) fun g => cellInv ER (Rd pb bb) (κ g) g)
      ∗ bigSep barCells (fun g => reached ER g 0) ∗ bigSep barCells (fun g => atPos ER g 0 ∅ 0) ∗ bigSep dmaCells (fun g => openTok ER g)
      ∗ bigSep (barToks ∪ cellToks) (fun x => dutyTok ER x.1 x.2.1 x.2.2) : sProp 𝕄) := by
  generalize barToks ∪ cellToks = T
  have hd := disjoint_cells
  revert hd
  generalize barCells = A
  generalize dmaCells = B
  intro hd
  iintro H
  imod (Rounds.fund_launch ER (Rd pb bb) hd (fun g _ h => h) T) $$ H with ⟨%κ, -, H⟩
  imodintro
  iexists κ; iexact H
theorem deal (κ : GSem nD τ sig → ℕ) : iprop((bigSep (barCells ∪ dmaCells) fun g => cellInv ER (Rd pb bb) (κ g) g) ∗ bigSep barCells (fun g => reached ER g 0)
      ∗ bigSep barCells (fun g => atPos ER g 0 ∅ 0) ∗ bigSep dmaCells (fun g => openTok ER g)
      ∗ bigSep (barToks ∪ cellToks) (fun x => dutyTok ER x.1 x.2.1 x.2.2) ∗ bigSep Finset.univ bundle)
    ⊢ (bigSep Finset.univ (E0 pb bb) : sProp 𝕄) := by
  refine BIBase.Entails.trans (Q := iprop((invs pb bb κ ∗ barsReached) ∗ (bigSep Finset.univ (fun c : Dev nD => (atPos ER (barCell c) 0 ∅ 0 : sProp 𝕄)))
    ∗ (bigSep Finset.univ fun c : Dev nD => bigSep Finset.univ fun x : Fin 4 × Dev nD => openTok ER (cell x.1 c x.2)) ∗ (bigSep Finset.univ fun c : Dev nD => duties c) ∗ bigSep Finset.univ bundle)) ?_ ?_
  · refine BIBase.Entails.trans ?_ (BIClass.sep_mono (BIClass.sep_mono (invs_of pb bb κ) bars_reached) (BIClass.sep_mono bars_pos (BIClass.sep_mono (Entails.of_eq open_eq) (BIClass.sep_mono toks_all .rfl))))
    iintro ⟨H1, H2, H3, H4, H5, H6⟩
    isplitl [H1 H2]; · isplitl [H1] <;> iassumption
    isplitl [H3]; · iexact H3
    isplitl [H4]; · iexact H4
    isplitl [H5] <;> iassumption
  · iintro ⟨#HR, Hat, Ho, Hd, HB⟩
    iapply (bigSep_with_persistent (R := records pb bb κ) (Φ := fun c => iprop(linear c ∗ bundle c)) fun c _ => E0_intro pb bb κ c)
    isplitr
    · unfold records; iexact HR
    iapply bigSep_join
    isplitr [HB]
    · unfold linear
      iapply bigSep_join; isplitl [Hat]; · iexact Hat
      iapply bigSep_join; isplitl [Ho]; · iexact Ho
      iexact Hd
    iexact HB
/-- Every device dealt its part at launch. -/
theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}[frame]=> bigSep Finset.univ (E0 pb bb) : sProp 𝕄) := by
  have h1 : (bigSep Finset.univ fun c : Dev nD => iprop(unscopedSems0 c ∗ owes (c : Thread nD τ) (O₀ c) ∅ ∗ Pipeline.launchCred O₀ c ∗ prngReg c (ρ c) ∗ G c))
      ⊢ (iprop(bigSep Finset.univ bundle ∗ (bigSep barCells (fun g => semVal g 0) ∗ BI.own (ER (launchOf barCells dmaCells (barToks ∪ cellToks))))) : sProp 𝕄) :=
    (bigMono (s := Finset.univ) fun c _ => core ρ c).trans (bigSep_part.trans (BIClass.sep_mono .rfl (bigSep_part.trans (BIClass.sep_mono bars_val (Entails.of_eq bigSep_G)))))
  iintro ⟨H, -⟩
  ihave H := h1 $$ H
  icases H with ⟨HB, H⟩
  imod (fund pb bb) $$ H with ⟨%κ, H1, H2, H3, H4, H5⟩
  imodintro
  iapply (deal pb bb κ)
  isplitl [H1]; · iexact H1
  isplitl [H2]; · iexact H2
  isplitl [H3]; · iexact H3
  isplitl [H4]; · iexact H4
  isplitl [H5] <;> iassumption

end Cert.KernelIdeal.Talk

end
-- ==== Proof.KI.PartsA.lean ====
/- The signals, and the last transfers of the first phase with the first waits. -/
module

public import proofs.«01_k».proof.Proof.KI.Conds

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem part1_wp (K : GSem nD τ sig → ℕ) (c : Dev nD) {α : Type} {Q : α → sProp 𝕄} {k : (Σ' (d0 : Dev nD) (v2 : BitVec 32) (v3 : Sems sig S_), BitVec 32) → Prog (TpuEff nD τ sig (Elt F) Λ₀ .tc) α} :
    iprop(invs pb bb K ∗ sepL [0, 1, 2, 3, 4, 5, 6, 7, 8, 9, 10, 11, 12, 13, 14, 15] (before0 c) ∗ ∃ W, owes (c : Thread nD τ) (due (fCell 3 c) all + due (fCell 1 c) all + due fBar [0, 1, 2, 3, 4, 5, 6, 7, 8, 9, 10, 11, 12, 13, 14, 15]) W)
      ⊢ iprop(((sepL [7, 8, 9, 10, 11, 12, 13, 14, 15] (before0 c) ∗ ∃ W, owes (c : Thread nD τ) (due (fCell 3 c) all + due (fCell 1 c) all + due fBar [7, 8, 9, 10, 11, 12, 13, 14, 15]) W) -∗ WP c (k ⟨c, w c, (SemArray.scalar (sig.barrier 0 rfl) : Sems sig S_), Scalar.muli 7#32 1#32⟩) Q)
        -∗ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7  >>= k) Q) := by
  rw [k0_part1_eq_skeleton]; unfold k0_part1_skel; simp only [semSignalWord, Prog.lift, Prog.bind_op, Prog.bind_ret, Prog.pure_eq_ret, wp_deviceId]
  iintro ⟨#HI, B0, HO⟩ Hk
  iapply (signal pb bb K c 0 (Fin.ext k0_dev1_eq)) $$ [B0 HO]
  · isplitr; · iexact HI
    isplitl [B0]; · iexact B0
    iexact HO
  iintro ⟨B0, HO⟩
  iapply (signal pb bb K c 1 (Fin.ext k0_dev2_eq)) $$ [B0 HO]
  · isplitr; · iexact HI
    isplitl [B0]; · iexact B0
    iexact HO
  iintro ⟨B0, HO⟩
  iapply (signal pb bb K c 2 (Fin.ext k0_dev3_eq)) $$ [B0 HO]
  · isplitr; · iexact HI
    isplitl [B0]; · iexact B0
    iexact HO
  iintro ⟨B0, HO⟩
  iapply (signal pb bb K c 3 (Fin.ext k0_dev4_eq)) $$ [B0 HO]
  · isplitr; · iexact HI
    isplitl [B0]; · iexact B0
    iexact HO
  iintro ⟨B0, HO⟩
  iapply (signal pb bb K c 4 (Fin.ext k0_dev5_eq)) $$ [B0 HO]
  · isplitr; · iexact HI
    isplitl [B0]; · iexact B0
    iexact HO
  iintro ⟨B0, HO⟩
  iapply (signal pb bb K c 5 (Fin.ext k0_dev6_eq)) $$ [B0 HO]
  · isplitr; · iexact HI
    isplitl [B0]; · iexact B0
    iexact HO
  iintro ⟨B0, HO⟩
  iapply (signal pb bb K c 6 (Fin.ext k0_dev7_eq)) $$ [B0 HO]
  · isplitr; · iexact HI
    isplitl [B0]; · iexact B0
    iexact HO
  iintro ⟨B0, HO⟩
  iapply Hk
  isplitl [B0]; · iexact B0
  iexact HO

theorem part2_wp (K : GSem nD τ sig → ℕ) (c : Dev nD) {α : Type} {Q : α → sProp 𝕄} {k : PUnit → Prog (TpuEff nD τ sig (Elt F) Λ₀ .tc) α} :
    iprop(invs pb bb K ∗ sepL [7, 8, 9, 10, 11, 12, 13, 14, 15] (before0 c) ∗ ∃ W, owes (c : Thread nD τ) (due (fCell 3 c) all + due (fCell 1 c) all + due fBar [7, 8, 9, 10, 11, 12, 13, 14, 15]) W)
      ⊢ iprop(((sepL [] (before0 c) ∗ ∃ W, owes (c : Thread nD τ) (due (fCell 3 c) all + due (fCell 1 c) all + due fBar []) W) -∗ WP c (k ⟨⟩) Q)
        -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (SemArray.scalar (sig.barrier 0 rfl) : Sems sig S_) (Scalar.muli 7#32 1#32) >>= k) Q) := by
  rw [k0_part2_eq_skeleton]; unfold k0_part2_skel; simp only [semSignalWord, Prog.lift, Prog.bind_op, Prog.bind_ret, Prog.pure_eq_ret, wp_deviceId]
  iintro ⟨#HI, B0, HO⟩ Hk
  iapply (signal pb bb K c 7 (Fin.ext k0_dev8_eq)) $$ [B0 HO]
  · isplitr; · iexact HI
    isplitl [B0]; · iexact B0
    iexact HO
  iintro ⟨B0, HO⟩
  iapply (signal pb bb K c 8 (Fin.ext k0_dev9_eq)) $$ [B0 HO]
  · isplitr; · iexact HI
    isplitl [B0]; · iexact B0
    iexact HO
  iintro ⟨B0, HO⟩
  iapply (signal pb bb K c 9 (Fin.ext k0_dev10_eq)) $$ [B0 HO]
  · isplitr; · iexact HI
    isplitl [B0]; · iexact B0
    iexact HO
  iintro ⟨B0, HO⟩
  iapply (signal pb bb K c 10 (Fin.ext k0_dev11_eq)) $$ [B0 HO]
  · isplitr; · iexact HI
    isplitl [B0]; · iexact B0
    iexact HO
  iintro ⟨B0, HO⟩
  iapply (signal pb bb K c 11 (Fin.ext k0_dev12_eq)) $$ [B0 HO]
  · isplitr; · iexact HI
    isplitl [B0]; · iexact B0
    iexact HO
  iintro ⟨B0, HO⟩
  iapply (signal pb bb K c 12 (Fin.ext k0_dev13_eq)) $$ [B0 HO]
  · isplitr; · iexact HI
    isplitl [B0]; · iexact B0
    iexact HO
  iintro ⟨B0, HO⟩
  iapply (signal pb bb K c 13 (Fin.ext k0_dev14_eq)) $$ [B0 HO]
  · isplitr; · iexact HI
    isplitl [B0]; · iexact B0
    iexact HO
  iintro ⟨B0, HO⟩
  iapply (signal pb bb K c 14 (Fin.ext k0_dev15_eq)) $$ [B0 HO]
  · isplitr; · iexact HI
    isplitl [B0]; · iexact B0
    iexact HO
  iintro ⟨B0, HO⟩
  iapply (signal pb bb K c 15 (Fin.ext k0_dev16_eq)) $$ [B0 HO]
  · isplitr; · iexact HI
    isplitl [B0]; · iexact B0
    iexact HO
  iintro ⟨B0, HO⟩
  iapply Hk
  isplitl [B0]; · iexact B0
  iexact HO

theorem part10_wp (K : GSem nD τ sig → ℕ) (c : Dev nD) {α : Type} {Q : α → sProp 𝕄} {k : BitVec 32 → Prog (TpuEff nD τ sig (Elt F) Λ₀ .tc) α} :
    iprop((invs pb bb K ∗ levAts L lv) ∗ sepL [11, 12, 13, 14, 15] (before1 pb c) ∗ sepL [10, 9, 8, 7, 6, 5, 4, 3, 2, 1, 0] (waiting 0 (srcOwn pb c) c) ∗ sepL [0, 1, 2, 3, 4, 5, 6, 7, 8, 9, 10, 11, 12, 13, 14, 15] (waiting 1 (fun _ => iprop(emp)) c) ∗ sepL [] (waited pb bb 1 (fun _ => iprop(emp)) c) ∗ ∃ W, owes (c : Thread nD τ) (due (fCell 3 c) all + due (fCell 1 c) [11, 12, 13, 14, 15]) W)
      ⊢ iprop(((sepL [] (before1 pb c) ∗ sepL [15, 14, 13, 12, 11, 10, 9, 8, 7, 6, 5, 4, 3, 2, 1, 0] (waiting 0 (srcOwn pb c) c) ∗ sepL [5, 6, 7, 8, 9, 10, 11, 12, 13, 14, 15] (waiting 1 (fun _ => iprop(emp)) c) ∗ sepL [4, 3, 2, 1, 0] (waited pb bb 1 (fun _ => iprop(emp)) c) ∗ ∃ W, owes (c : Thread nD τ) (due (fCell 3 c) all + due (fCell 1 c) []) W) -∗ WP c (k 5#32) Q)
        -∗ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) 11#32 >>= k) Q) := by
  rw [k0_part10_eq_skeleton]; unfold k0_part10_skel
  iintro ⟨⟨#HI, #Hlev⟩, B1, D1, P1, R1, HO⟩ Hk
  extract_lets
  iapply (send1 pb bb K c 11 (cond12 c) (so := fun _ => ![1, 96, 0]) (do' := fun _ => k0_off25 c) (ss := fun _ => ![11]) (rr := fun _ => k0_off24 c) (n := fun h => ⟨k0_dev28, k0_dev28_lt c h⟩) (fun _ => rfl) (fun _ => k0_off25_eq c) (fun _ => rfl) (fun _ => k0_off24_eq c) (fun _ => Fin.ext k0_dev28_eq)) $$ [B1 D1 HO]
  · isplitr; · iexact HI
    isplitl [B1]; · iexact B1
    isplitl [D1]; · iexact D1
    iexact HO
  iintro ⟨B1, D1, HO⟩
  iapply (send1 pb bb K c 12 (cond13 c) (so := fun _ => ![1, 128, 0]) (do' := fun _ => k0_off27 c) (ss := fun _ => ![12]) (rr := fun _ => k0_off26 c) (n := fun h => ⟨k0_dev29, k0_dev29_lt c h⟩) (fun _ => rfl) (fun _ => k0_off27_eq c) (fun _ => rfl) (fun _ => k0_off26_eq c) (fun _ => Fin.ext k0_dev29_eq)) $$ [B1 D1 HO]
  · isplitr; · iexact HI
    isplitl [B1]; · iexact B1
    isplitl [D1]; · iexact D1
    iexact HO
  iintro ⟨B1, D1, HO⟩
  iapply (send1 pb bb K c 13 (cond14 c) (so := fun _ => ![1, 160, 0]) (do' := fun _ => k0_off29 c) (ss := fun _ => ![13]) (rr := fun _ => k0_off28 c) (n := fun h => ⟨k0_dev30, k0_dev30_lt c h⟩) (fun _ => rfl) (fun _ => k0_off29_eq c) (fun _ => rfl) (fun _ => k0_off28_eq c) (fun _ => Fin.ext k0_dev30_eq)) $$ [B1 D1 HO]
  · isplitr; · iexact HI
    isplitl [B1]; · iexact B1
    isplitl [D1]; · iexact D1
    iexact HO
  iintro ⟨B1, D1, HO⟩
  iapply (send1 pb bb K c 14 (cond15 c) (so := fun _ => ![1, 192, 0]) (do' := fun _ => k0_off31 c) (ss := fun _ => ![14]) (rr := fun _ => k0_off30 c) (n := fun h => ⟨k0_dev31, k0_dev31_lt c h⟩) (fun _ => rfl) (fun _ => k0_off31_eq c) (fun _ => rfl) (fun _ => k0_off30_eq c) (fun _ => Fin.ext k0_dev31_eq)) $$ [B1 D1 HO]
  · isplitr; · iexact HI
    isplitl [B1]; · iexact B1
    isplitl [D1]; · iexact D1
    iexact HO
  iintro ⟨B1, D1, HO⟩
  iapply (send1 pb bb K c 15 (cond16 c) (so := fun _ => ![1, 224, 0]) (do' := fun _ => k0_off33 c) (ss := fun _ => ![15]) (rr := fun _ => k0_off32 c) (n := fun h => ⟨k0_dev32, k0_dev32_lt c h⟩) (fun _ => rfl) (fun _ => k0_off33_eq c) (fun _ => rfl) (fun _ => k0_off32_eq c) (fun _ => Fin.ext k0_dev32_eq)) $$ [B1 D1 HO]
  · isplitr; · iexact HI
    isplitl [B1]; · iexact B1
    isplitl [D1]; · iexact D1
    iexact HO
  iintro ⟨B1, D1, HO⟩
  iapply (waitFor pb bb K 1 (fun _ => iprop(emp)) c 0 (wcond c 0) (fun _ => sem5 0) (mwR c 0)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 1 (wcond c 1) (fun _ => sem5 1) (mwR c 1)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 2 (wcond c 2) (fun _ => sem5 2) (mwR c 2)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 3 (wcond c 3) (fun _ => sem5 3) (mwR c 3)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 4 (wcond c 4) (fun _ => sem5 4) (mwR c 4)) $$ [P1 R1 HO]
  · isplitr; · (isplitr; · iexact HI); iexact Hlev
    isplitl [P1]; · iexact P1
    isplitl [R1]; · iexact R1
    iexact HO
  iintro ⟨P1, R1, HO⟩
  iapply Hk
  isplitl [B1]; · iexact B1
  isplitl [D1]; · iexact D1
  isplitl [P1]; · iexact P1
  isplitl [R1]; · iexact R1
  iexact HO

end Cert.KernelIdeal.Talk

end
-- ==== Proof.KI.PartsB.lean ====
/- The waits of the first phase, and the last transfers of the second with the first waits. -/
module

public import proofs.«01_k».proof.Proof.KI.Conds

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem part11_wp (K : GSem nD τ sig → ℕ) (c : Dev nD) {α : Type} {Q : α → sProp 𝕄} {k : BitVec 32 → Prog (TpuEff nD τ sig (Elt F) Λ₀ .tc) α} :
    iprop((invs pb bb K ∗ levAts L lv) ∗ sepL [5, 6, 7, 8, 9, 10, 11, 12, 13, 14, 15] (waiting 1 (fun _ => iprop(emp)) c) ∗ sepL [4, 3, 2, 1, 0] (waited pb bb 1 (fun _ => iprop(emp)) c) ∗ ∃ W, owes (c : Thread nD τ) (due (fCell 3 c) all + due (fCell 1 c) []) W)
      ⊢ iprop(((sepL [15] (waiting 1 (fun _ => iprop(emp)) c) ∗ sepL [14, 13, 12, 11, 10, 9, 8, 7, 6, 5, 4, 3, 2, 1, 0] (waited pb bb 1 (fun _ => iprop(emp)) c) ∗ ∃ W, owes (c : Thread nD τ) (due (fCell 3 c) all + due (fCell 1 c) []) W) -∗ WP c (k 15#32) Q)
        -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (w c) 5#32 >>= k) Q) := by
  rw [k0_part11_eq_skeleton]; unfold k0_part11_skel
  iintro ⟨⟨#HI, #Hlev⟩, P1, R1, HO⟩ Hk
  extract_lets
  iapply (waitFor pb bb K 1 (fun _ => iprop(emp)) c 5 (wcond c 5) (fun _ => sem5 5) (mwR c 5)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 6 (wcond c 6) (fun _ => sem5 6) (mwR c 6)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 7 (wcond c 7) (fun _ => sem5 7) (mwR c 7)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 8 (wcond c 8) (fun _ => sem5 8) (mwR c 8)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 9 (wcond c 9) (fun _ => sem5 9) (mwR c 9)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 10 (wcond c 10) (fun _ => sem5 10) (mwR c 10)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 11 (wcond c 11) (fun _ => sem5 11) (mwR c 11)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 12 (wcond c 12) (fun _ => sem5 12) (mwR c 12)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 13 (wcond c 13) (fun _ => sem5 13) (mwR c 13)) $$ [P1 R1 HO]
  · isplitr; · (isplitr; · iexact HI); iexact Hlev
    isplitl [P1]; · iexact P1
    isplitl [R1]; · iexact R1
    iexact HO
  iintro ⟨P1, R1, HO⟩
  iapply (waitFor pb bb K 1 (fun _ => iprop(emp)) c 14 (wcond c 14) (fun _ => sem5 14) (mwR c 14)) $$ [P1 R1 HO]
  · isplitr; · (isplitr; · iexact HI); iexact Hlev
    isplitl [P1]; · iexact P1
    isplitl [R1]; · iexact R1
    iexact HO
  iintro ⟨P1, R1, HO⟩
  iapply Hk
  isplitl [P1]; · iexact P1
  isplitl [R1]; · iexact R1
  iexact HO

theorem part15_wp (K : GSem nD τ sig → ℕ) (c : Dev nD) {α : Type} {Q : α → sProp 𝕄} {k : BitVec 1 → Prog (TpuEff nD τ sig (Elt F) Λ₀ .tc) α} :
    iprop((invs pb bb K ∗ levAts L lv) ∗ sepL [9, 10, 11, 12, 13, 14, 15] (before2 bb c) ∗ sepL [8, 7, 6, 5, 4, 3, 2, 1, 0] (waiting 2 (blkOwn bb c) c) ∗ sepL [0, 1, 2, 3, 4, 5, 6, 7, 8, 9, 10, 11, 12, 13, 14, 15] (waiting 3 (fun _ => iprop(emp)) c) ∗ sepL [] (waited pb bb 3 (fun _ => iprop(emp)) c) ∗ ∃ W, owes (c : Thread nD τ) (0 + due (fCell 3 c) [9, 10, 11, 12, 13, 14, 15]) W)
      ⊢ iprop(((sepL [] (before2 bb c) ∗ sepL [15, 14, 13, 12, 11, 10, 9, 8, 7, 6, 5, 4, 3, 2, 1, 0] (waiting 2 (blkOwn bb c) c) ∗ sepL [3, 4, 5, 6, 7, 8, 9, 10, 11, 12, 13, 14, 15] (waiting 3 (fun _ => iprop(emp)) c) ∗ sepL [2, 1, 0] (waited pb bb 3 (fun _ => iprop(emp)) c) ∗ ∃ W, owes (c : Thread nD τ) (0 + due (fCell 3 c) []) W) -∗ WP c (k (wc c 3#32)) Q)
        -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) >>= k) Q) := by
  rw [k0_part15_eq_skeleton]; unfold k0_part15_skel
  iintro ⟨⟨#HI, #Hlev⟩, B2, D2, P3, R3, HO⟩ Hk
  extract_lets
  iapply (send2 pb bb K c 9 (cond42 c) (do' := fun _ => k0_off54 c) (ss := fun _ => ![9]) (rr := fun _ => k0_off53 c) (n := fun h => ⟨k0_dev42, k0_dev42_lt c h⟩) (fun _ => off54_eq c) (fun _ => rfl) (fun _ => k0_off53_eq c) (fun _ => Fin.ext k0_dev42_eq)) $$ [B2 D2 HO]
  · isplitr; · iexact HI
    isplitl [B2]; · iexact B2
    isplitl [D2]; · iexact D2
    iexact HO
  iintro ⟨B2, D2, HO⟩
  iapply (send2 pb bb K c 10 (cond43 c) (do' := fun _ => k0_off56 c) (ss := fun _ => ![10]) (rr := fun _ => k0_off55 c) (n := fun h => ⟨k0_dev43, k0_dev43_lt c h⟩) (fun _ => off56_eq c) (fun _ => rfl) (fun _ => k0_off55_eq c) (fun _ => Fin.ext k0_dev43_eq)) $$ [B2 D2 HO]
  · isplitr; · iexact HI
    isplitl [B2]; · iexact B2
    isplitl [D2]; · iexact D2
    iexact HO
  iintro ⟨B2, D2, HO⟩
  iapply (send2 pb bb K c 11 (cond44 c) (do' := fun _ => k0_off58 c) (ss := fun _ => ![11]) (rr := fun _ => k0_off57 c) (n := fun h => ⟨k0_dev44, k0_dev44_lt c h⟩) (fun _ => off58_eq c) (fun _ => rfl) (fun _ => k0_off57_eq c) (fun _ => Fin.ext k0_dev44_eq)) $$ [B2 D2 HO]
  · isplitr; · iexact HI
    isplitl [B2]; · iexact B2
    isplitl [D2]; · iexact D2
    iexact HO
  iintro ⟨B2, D2, HO⟩
  iapply (send2 pb bb K c 12 (cond45 c) (do' := fun _ => k0_off60 c) (ss := fun _ => ![12]) (rr := fun _ => k0_off59 c) (n := fun h => ⟨k0_dev45, k0_dev45_lt c h⟩) (fun _ => off60_eq c) (fun _ => rfl) (fun _ => k0_off59_eq c) (fun _ => Fin.ext k0_dev45_eq)) $$ [B2 D2 HO]
  · isplitr; · iexact HI
    isplitl [B2]; · iexact B2
    isplitl [D2]; · iexact D2
    iexact HO
  iintro ⟨B2, D2, HO⟩
  iapply (send2 pb bb K c 13 (cond46 c) (do' := fun _ => k0_off62 c) (ss := fun _ => ![13]) (rr := fun _ => k0_off61 c) (n := fun h => ⟨k0_dev46, k0_dev46_lt c h⟩) (fun _ => off62_eq c) (fun _ => rfl) (fun _ => k0_off61_eq c) (fun _ => Fin.ext k0_dev46_eq)) $$ [B2 D2 HO]
  · isplitr; · iexact HI
    isplitl [B2]; · iexact B2
    isplitl [D2]; · iexact D2
    iexact HO
  iintro ⟨B2, D2, HO⟩
  iapply (send2 pb bb K c 14 (cond47 c) (do' := fun _ => k0_off64 c) (ss := fun _ => ![14]) (rr := fun _ => k0_off63 c) (n := fun h => ⟨k0_dev47, k0_dev47_lt c h⟩) (fun _ => off64_eq c) (fun _ => rfl) (fun _ => k0_off63_eq c) (fun _ => Fin.ext k0_dev47_eq)) $$ [B2 D2 HO]
  · isplitr; · iexact HI
    isplitl [B2]; · iexact B2
    isplitl [D2]; · iexact D2
    iexact HO
  iintro ⟨B2, D2, HO⟩
  iapply (send2 pb bb K c 15 (cond48 c) (do' := fun _ => k0_off66 c) (ss := fun _ => ![15]) (rr := fun _ => k0_off65 c) (n := fun h => ⟨k0_dev48, k0_dev48_lt c h⟩) (fun _ => off66_eq c) (fun _ => rfl) (fun _ => k0_off65_eq c) (fun _ => Fin.ext k0_dev48_eq)) $$ [B2 D2 HO]
  · isplitr; · iexact HI
    isplitl [B2]; · iexact B2
    isplitl [D2]; · iexact D2
    iexact HO
  iintro ⟨B2, D2, HO⟩
  iapply (waitFor pb bb K 3 (fun _ => iprop(emp)) c 0 (wcond c 0) (fun _ => sem7 0) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 1 (wcond c 1) (fun _ => sem7 1) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 2 (wcond c 2) (fun _ => sem7 2) (mwZ c _)) $$ [P3 R3 HO]
  · isplitr; · (isplitr; · iexact HI); iexact Hlev
    isplitl [P3]; · iexact P3
    isplitl [R3]; · iexact R3
    iexact HO
  iintro ⟨P3, R3, HO⟩
  iapply Hk
  isplitl [B2]; · iexact B2
  isplitl [D2]; · iexact D2
  isplitl [P3]; · iexact P3
  isplitl [R3]; · iexact R3
  iexact HO

end Cert.KernelIdeal.Talk

end
-- ==== Proof.KI.PartsC.lean ====
/- The waits of the second phase and the first source waits. -/
module

public import proofs.«01_k».proof.Proof.KI.Conds

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem part16_wp (K : GSem nD τ sig → ℕ) (c : Dev nD) {α : Type} {Q : α → sProp 𝕄} {k : BitVec 1 → Prog (TpuEff nD τ sig (Elt F) Λ₀ .tc) α} :
    iprop((invs pb bb K ∗ levAts L lv) ∗ sepL [3, 4, 5, 6, 7, 8, 9, 10, 11, 12, 13, 14, 15] (waiting 3 (fun _ => iprop(emp)) c) ∗ sepL [2, 1, 0] (waited pb bb 3 (fun _ => iprop(emp)) c) ∗ ∃ W, owes (c : Thread nD τ) (0 + due (fCell 3 c) []) W)
      ⊢ iprop(((sepL [13, 14, 15] (waiting 3 (fun _ => iprop(emp)) c) ∗ sepL [12, 11, 10, 9, 8, 7, 6, 5, 4, 3, 2, 1, 0] (waited pb bb 3 (fun _ => iprop(emp)) c) ∗ ∃ W, owes (c : Thread nD τ) (0 + due (fCell 3 c) []) W) -∗ WP c (k (wc c 13#32)) Q)
        -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (w c) (wc c 3#32) >>= k) Q) := by
  rw [k0_part16_eq_skeleton]; unfold k0_part16_skel
  iintro ⟨⟨#HI, #Hlev⟩, P3, R3, HO⟩ Hk
  extract_lets
  iapply (waitFor pb bb K 3 (fun _ => iprop(emp)) c 3 (wcond c 3) (fun _ => sem7 3) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 4 (wcond c 4) (fun _ => sem7 4) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 5 (wcond c 5) (fun _ => sem7 5) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 6 (wcond c 6) (fun _ => sem7 6) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 7 (wcond c 7) (fun _ => sem7 7) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 8 (wcond c 8) (fun _ => sem7 8) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 9 (wcond c 9) (fun _ => sem7 9) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 10 (wcond c 10) (fun _ => sem7 10) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 11 (wcond c 11) (fun _ => sem7 11) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 12 (wcond c 12) (fun _ => sem7 12) (mwZ c _)) $$ [P3 R3 HO]
  · isplitr; · (isplitr; · iexact HI); iexact Hlev
    isplitl [P3]; · iexact P3
    isplitl [R3]; · iexact R3
    iexact HO
  iintro ⟨P3, R3, HO⟩
  iapply Hk
  isplitl [P3]; · iexact P3
  isplitl [R3]; · iexact R3
  iexact HO

theorem part17_wp (K : GSem nD τ sig → ℕ) (c : Dev nD) {α : Type} {Q : α → sProp 𝕄} {k : PUnit → Prog (TpuEff nD τ sig (Elt F) Λ₀ .tc) α} :
    iprop((invs pb bb K ∗ levAts L lv) ∗ sepL [13, 14, 15] (waiting 3 (fun _ => iprop(emp)) c) ∗ sepL [12, 11, 10, 9, 8, 7, 6, 5, 4, 3, 2, 1, 0] (waited pb bb 3 (fun _ => iprop(emp)) c) ∗ sepL [0, 1, 2, 3, 4, 5, 6, 7, 8, 9, 10, 11, 12, 13, 14, 15] (waiting 0 (srcOwn pb c) c) ∗ sepL [] (waited pb bb 0 (srcOwn pb c) c) ∗ sepL [0, 1, 2, 3, 4, 5, 6, 7, 8, 9, 10, 11, 12, 13, 14, 15] (waiting 2 (blkOwn bb c) c) ∗ sepL [] (waited pb bb 2 (blkOwn bb c) c) ∗ ∃ W, owes (c : Thread nD τ) (0 + due (fCell 3 c) []) W)
      ⊢ iprop(((sepL [] (waiting 3 (fun _ => iprop(emp)) c) ∗ sepL [15, 14, 13, 12, 11, 10, 9, 8, 7, 6, 5, 4, 3, 2, 1, 0] (waited pb bb 3 (fun _ => iprop(emp)) c) ∗ sepL [4, 5, 6, 7, 8, 9, 10, 11, 12, 13, 14, 15] (waiting 0 (srcOwn pb c) c) ∗ sepL [3, 2, 1, 0] (waited pb bb 0 (srcOwn pb c) c) ∗ sepL [3, 4, 5, 6, 7, 8, 9, 10, 11, 12, 13, 14, 15] (waiting 2 (blkOwn bb c) c) ∗ sepL [2, 1, 0] (waited pb bb 2 (blkOwn bb c) c) ∗ ∃ W, owes (c : Thread nD τ) (0 + due (fCell 3 c) []) W) -∗ WP c (k ⟨⟩) Q)
        -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) (wc c 13#32) >>= k) Q) := by
  rw [k0_part17_eq_skeleton]; unfold k0_part17_skel
  iintro ⟨⟨#HI, #Hlev⟩, P3, R3, P0, R0, P2, R2, HO⟩ Hk
  extract_lets
  iapply (waitFor pb bb K 3 (fun _ => iprop(emp)) c 13 (wcond c 13) (fun _ => sem7 13) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 14 (wcond c 14) (fun _ => sem7 14) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 3 (fun _ => iprop(emp)) c 15 (wcond c 15) (fun _ => sem7 15) (mwZ c _)) $$ [P3 R3 HO]
  · isplitr; · (isplitr; · iexact HI); iexact Hlev
    isplitl [P3]; · iexact P3
    isplitl [R3]; · iexact R3
    iexact HO
  iintro ⟨P3, R3, HO⟩
  iapply (waitFor pb bb K 0 (srcOwn pb c) c 0 (cond65 c) (fun _ => sem4 0) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 0 (cond66 c) (fun _ => sem6 0) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 1 (cond67 c) (fun _ => sem4 1) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 1 (cond68 c) (fun _ => sem6 1) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 2 (cond69 c) (fun _ => sem4 2) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 2 (cond70 c) (fun _ => sem6 2) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 3 (cond71 c) (fun _ => sem4 3) (mwZ c _)) $$ [P0 R0 HO]
  · isplitr; · (isplitr; · iexact HI); iexact Hlev
    isplitl [P0]; · iexact P0
    isplitl [R0]; · iexact R0
    iexact HO
  iintro ⟨P0, R0, HO⟩
  iapply Hk
  isplitl [P3]; · iexact P3
  isplitl [R3]; · iexact R3
  isplitl [P0]; · iexact P0
  isplitl [R0]; · iexact R0
  isplitl [P2]; · iexact P2
  isplitl [R2]; · iexact R2
  iexact HO

end Cert.KernelIdeal.Talk

end
-- ==== Proof.KI.PartsD.lean ====
/- The source waits. -/
module

public import proofs.«01_k».proof.Proof.KI.Conds

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem part18_wp (K : GSem nD τ sig → ℕ) (c : Dev nD) {α : Type} {Q : α → sProp 𝕄} {k : PUnit → Prog (TpuEff nD τ sig (Elt F) Λ₀ .tc) α} :
    iprop((invs pb bb K ∗ levAts L lv) ∗ sepL [4, 5, 6, 7, 8, 9, 10, 11, 12, 13, 14, 15] (waiting 0 (srcOwn pb c) c) ∗ sepL [3, 2, 1, 0] (waited pb bb 0 (srcOwn pb c) c) ∗ sepL [3, 4, 5, 6, 7, 8, 9, 10, 11, 12, 13, 14, 15] (waiting 2 (blkOwn bb c) c) ∗ sepL [2, 1, 0] (waited pb bb 2 (blkOwn bb c) c) ∗ ∃ W, owes (c : Thread nD τ) (0 + due (fCell 3 c) []) W)
      ⊢ iprop(((sepL [9, 10, 11, 12, 13, 14, 15] (waiting 0 (srcOwn pb c) c) ∗ sepL [8, 7, 6, 5, 4, 3, 2, 1, 0] (waited pb bb 0 (srcOwn pb c) c) ∗ sepL [8, 9, 10, 11, 12, 13, 14, 15] (waiting 2 (blkOwn bb c) c) ∗ sepL [7, 6, 5, 4, 3, 2, 1, 0] (waited pb bb 2 (blkOwn bb c) c) ∗ ∃ W, owes (c : Thread nD τ) (0 + due (fCell 3 c) []) W) -∗ WP c (k ⟨⟩) Q)
        -∗ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) >>= k) Q) := by
  rw [k0_part18_eq_skeleton]; unfold k0_part18_skel
  iintro ⟨⟨#HI, #Hlev⟩, P0, R0, P2, R2, HO⟩ Hk
  extract_lets
  iapply (waitFor pb bb K 2 (blkOwn bb c) c 3 (cond72 c) (fun _ => sem6 3) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 4 (cond73 c) (fun _ => sem4 4) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 4 (cond74 c) (fun _ => sem6 4) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 5 (cond75 c) (fun _ => sem4 5) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 5 (cond76 c) (fun _ => sem6 5) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 6 (cond77 c) (fun _ => sem4 6) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 6 (cond78 c) (fun _ => sem6 6) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 7 (cond79 c) (fun _ => sem4 7) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 7 (cond80 c) (fun _ => sem6 7) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 8 (cond81 c) (fun _ => sem4 8) (mwZ c _)) $$ [P0 R0 HO]
  · isplitr; · (isplitr; · iexact HI); iexact Hlev
    isplitl [P0]; · iexact P0
    isplitl [R0]; · iexact R0
    iexact HO
  iintro ⟨P0, R0, HO⟩
  iapply Hk
  isplitl [P0]; · iexact P0
  isplitl [R0]; · iexact R0
  isplitl [P2]; · iexact P2
  isplitl [R2]; · iexact R2
  iexact HO

theorem part19_wp (K : GSem nD τ sig → ℕ) (c : Dev nD) {α : Type} {Q : α → sProp 𝕄} {k : PUnit → Prog (TpuEff nD τ sig (Elt F) Λ₀ .tc) α} :
    iprop((invs pb bb K ∗ levAts L lv) ∗ sepL [9, 10, 11, 12, 13, 14, 15] (waiting 0 (srcOwn pb c) c) ∗ sepL [8, 7, 6, 5, 4, 3, 2, 1, 0] (waited pb bb 0 (srcOwn pb c) c) ∗ sepL [8, 9, 10, 11, 12, 13, 14, 15] (waiting 2 (blkOwn bb c) c) ∗ sepL [7, 6, 5, 4, 3, 2, 1, 0] (waited pb bb 2 (blkOwn bb c) c) ∗ ∃ W, owes (c : Thread nD τ) (0 + due (fCell 3 c) []) W)
      ⊢ iprop(((sepL [14, 15] (waiting 0 (srcOwn pb c) c) ∗ sepL [13, 12, 11, 10, 9, 8, 7, 6, 5, 4, 3, 2, 1, 0] (waited pb bb 0 (srcOwn pb c) c) ∗ sepL [13, 14, 15] (waiting 2 (blkOwn bb c) c) ∗ sepL [12, 11, 10, 9, 8, 7, 6, 5, 4, 3, 2, 1, 0] (waited pb bb 2 (blkOwn bb c) c) ∗ ∃ W, owes (c : Thread nD τ) (0 + due (fCell 3 c) []) W) -∗ WP c (k ⟨⟩) Q)
        -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) >>= k) Q) := by
  rw [k0_part19_eq_skeleton]; unfold k0_part19_skel
  iintro ⟨⟨#HI, #Hlev⟩, P0, R0, P2, R2, HO⟩ Hk
  extract_lets
  iapply (waitFor pb bb K 2 (blkOwn bb c) c 8 (cond82 c) (fun _ => sem6 8) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 9 (cond83 c) (fun _ => sem4 9) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 9 (cond84 c) (fun _ => sem6 9) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 10 (cond85 c) (fun _ => sem4 10) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 10 (cond86 c) (fun _ => sem6 10) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 11 (cond87 c) (fun _ => sem4 11) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 11 (cond88 c) (fun _ => sem6 11) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 12 (cond89 c) (fun _ => sem4 12) (mwZ c _)) $$ [P0 R0 HO]
  · isplitr; · (isplitr; · iexact HI); iexact Hlev
    isplitl [P0]; · iexact P0
    isplitl [R0]; · iexact R0
    iexact HO
  iintro ⟨P0, R0, HO⟩
  iapply (waitFor pb bb K 2 (blkOwn bb c) c 12 (cond90 c) (fun _ => sem6 12) (mwZ c _)) $$ [P2 R2 HO]
  · isplitr; · (isplitr; · iexact HI); iexact Hlev
    isplitl [P2]; · iexact P2
    isplitl [R2]; · iexact R2
    iexact HO
  iintro ⟨P2, R2, HO⟩
  iapply (waitFor pb bb K 0 (srcOwn pb c) c 13 (cond91 c) (fun _ => sem4 13) (mwZ c _)) $$ [P0 R0 HO]
  · isplitr; · (isplitr; · iexact HI); iexact Hlev
    isplitl [P0]; · iexact P0
    isplitl [R0]; · iexact R0
    iexact HO
  iintro ⟨P0, R0, HO⟩
  iapply Hk
  isplitl [P0]; · iexact P0
  isplitl [R0]; · iexact R0
  isplitl [P2]; · iexact P2
  isplitl [R2]; · iexact R2
  iexact HO

end Cert.KernelIdeal.Talk

end
-- ==== Proof.KI.MemA.lean ====
/- The barrier wait and the loads of the inputs. -/
module

public import proofs.«01_k».proof.Proof.KI.Room

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Ins F)
set_option maxHeartbeats 4000000

/-- The staged inputs. -/
def stg5 (c : Dev nD) (x : Ins F) (q0 q1 q2 q3 q4 : PosShare TreeShare) : sProp 𝕄 :=
  iprop((((Memref.whole cc0_stg0_0).view.loc (c : Thread nD τ)) ↦[Finset.univ]{q0} x.x0) ∗ (((Memref.whole cc0_stg1_0).view.loc (c : Thread nD τ)) ↦[Finset.univ]{q1} x.x1)
    ∗ (((Memref.whole cc0_stg2_0).view.loc (c : Thread nD τ)) ↦[Finset.univ]{q2} x.x2) ∗ (((Memref.whole cc0_stg3_0).view.loc (c : Thread nD τ)) ↦[Finset.univ]{q3} x.x3)
    ∗ (((Memref.whole cc0_stg4_0).view.loc (c : Thread nD τ)) ↦[Finset.univ]{q4} x.x4))
theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

theorem mem_own_slot (c : Dev nD) (f : cc0_scratch2.ty.Contents (Elt F)) {o : Fin 3 → ℕ} (ho : o = offR c) {inb : ∀ a, o a + S1x32x512.size a ≤ S16x32x512.size a} :
    (aR.access (Rect.unit (s := S16x32x512) o S1x32x512.size inb)).set = (rR c).set ∧ ((aR.access (Rect.unit (s := S16x32x512) o S1x32x512.size inb)).loc (c : Thread nD τ) ↦[(rR c).set]{fullShare} ((aR.access (Rect.unit (s := S16x32x512) o S1x32x512.size inb)).write (Elt F) f (k0_pay1 (F := F)) Finset.univ) : sProp 𝕄) = (aR.view.loc (c : Thread nD τ) ↦[(rR c).set]{fullShare} (Rc X c)) := by
  subst ho
  exact ⟨View.set_slice_whole cc0_scratch2 (rR c), pointsTo_congr fun i hi => write_slot X c f i hi⟩

theorem part3_wp (K : GSem nD τ sig → ℕ) (c : Dev nD) {α : Type} {Q : α → sProp 𝕄} {k : (Σ' (v65 : IVec S256x256 32) (v66 : IVec S256x256 32) (c64_i32_57 : BitVec 32) (v68 : IVec S256x256 32) (v75 : IVec S256x256 32) (v77 : BitVec 32), BitVec 32) → Prog (TpuEff nD τ sig (Elt F) Λ₀ .tc) α} :
    iprop((invs (Pc X) (Bc X) K ∗ levAts L lv) ∗ (cred (tallyAt (barCell c) () 16) ∗ atPos ER (barCell c) 0 ∅ 0) ∗ ∃ W, owes (c : Thread nD τ) (due (fCell 3 c) all + due (fCell 1 c) all + due fBar []) W)
      ⊢ iprop(((atPos ER (barCell c) (0 + 1) ∅ 0 ∗ sepL all (room1 (F := F) c) ∗ sepL all (room2 (F := F) c) ∗ (aR.view.loc (c : Thread nD τ) ↦[(rR c).set]{fullShare} (Rc X c)) ∗ (∃ Y, outOwn c c Y)
          ∗ ∃ W, owes (c : Thread nD τ) (due (fCell 3 c) all + due (fCell 1 c) all) W) -∗ WP c (k ⟨k0_pay2, i66, 64#32, k0_pay3, k0_pay4, i77, 0#32⟩) Q)
        -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) (SemArray.scalar (sig.barrier 0 rfl) : Sems sig S_) >>= k) Q) := by
  rw [k0_part3_eq_skeleton]; unfold k0_part3_skel; simp only [semWaitWord, Prog.lift, Prog.bind_op, Prog.bind_ret, Prog.pure_eq_ret]
  iintro ⟨⟨#HI, #Hlev⟩, ⟨Hc, Hat⟩, %W, HO⟩ Hk
  iapply (Rounds.wp_wait_rest_token 𝒱₀ ER (Rd (Pc X) (Bc X)) (c : Thread nD τ) none (κ := K (barCell c))
      (wpE_semWait_eq 𝒱₀ (c : Thread nD τ) none Set.univ) (Set.mem_univ _) () (O := due (fCell 3 c) all + due (fCell 1 c) all + due fBar []) (W := W) (R := 0) (m := 0) (T := ∅)
      (by rw [expect_bar]; decide)) $$ [Hc HO Hat]
  · isplitr; · iapply (invs_bar (Pc X) (Bc X) K c); iexact HI
    isplitl [Hc]; · iexact Hc
    isplitl [HO]; · iexact HO
    isplitr; · iapply (mwB (F := F) c); iexact Hlev
    iexact Hat
  iintro ⟨HO, Hat, -, Hpay⟩
  ihave Hp := (Entails.of_eq (rest_bar (Pc X) (Bc X) c)) $$ Hpay
  ihave Hp := (bar_split c) $$ Hp
  icases Hp with ⟨H1, H2, Hs, Ho⟩
  icases Hs with ⟨%Y, Hs⟩
  ihave Hs := (owns_elim c (slotM c) fullShare Y) $$ Hs
  icases Hs with ⟨%f, %_hf, Hs⟩
  ihave Hs := (Entails.of_eq (congrArg (fun S => (aR.view.loc (c : Thread nD τ) ↦[S]{fullShare} f : sProp 𝕄)) (set_slot c))) $$ Hs
  iapply (wp_load 𝒱₀ (c : Thread nD τ) none Set.univ (m := aR) (S := (rR c).set) (f := f) (by
    rw [← (mem_own_slot X c f (off1_eq c) (inb := k0_off1_inb c)).1]; exact (View.set_slice _ _).ge)) $$ [Hs]; · iexact Hs
  iintro Hs
  iapply (wp_store 𝒱₀ (c : Thread nD τ) none Set.univ (m := aR) (r := Rect.unit (s := S16x32x512) (k0_off1 c) S1x32x512.size (k0_off1_inb c)) (S := (rR c).set) (f := f) (Mk := Finset.univ)
    ((mem_own_slot X c f (off1_eq c) (inb := k0_off1_inb c)).1.le)) $$ [Hs]; · iexact Hs
  iintro Hs
  ihave Hs := (Entails.of_eq (mem_own_slot X c f (off1_eq c) (inb := k0_off1_inb c)).2) $$ Hs
  iapply Hk
  isplitl [Hat]; · iexact Hat
  isplitl [H1]; · iexact H1
  isplitl [H2]; · iexact H2
  isplitl [Hs]; · iexact Hs
  isplitl [Ho]; · iexact Ho
  iexists _; rw [due, add_zero]; iexact HO

theorem part5_wp (c : Dev nD) {α : Type} {Q : α → sProp 𝕄} {q0 q1 q2 q3 q4 : PosShare TreeShare} (x : Ins F) {k : (Σ' (v125 : IVec S256x256 1) (v129 : FVec F S256x512 .bf16) (v131 : FVec F S2x256x4x64 .bf16) (v133 : FVec F S2x256x4x64 .bf16) (v138 : FVec F S512x256 .bf16) (v139 : FVec F S256x256 .bf16) (v154 : FVec F S256x64 .f32) (v159 : FVec F S256x64 .bf16) (v161 : FVec F S256x256 .f32), F .f32) → Prog (TpuEff nD τ sig (Elt F) Λ₀ .tc) α} :
    stg5 c x q0 q1 q2 q3 q4
      ⊢ iprop((stg5 c x q0 q1 q2 q3 q4 -∗ WP c (k ⟨m125, k0_pay10 x.x4, k0_pay11 x.x2, k0_pay12 x.x3, k0_pay13 x.x1 x.x0, k0_pay14 x.x1 x.x0, k0_pay15 m91 m107 m123 x.x1 x.x2 x.x3 x.x0, k0_pay16 x.x3, k0_pay17 x.x1 x.x2 x.x0, Scalar.ofBits .f32 0x00000000#32⟩) Q)
        -∗ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 m91 m107 m123 >>= k) Q) := by
  rw [k0_part5_eq_skeleton]; unfold k0_part5_skel; simp only [Prog.lift, Prog.bind_op, Prog.bind_ret, Prog.pure_eq_ret]
  unfold stg5
  iintro ⟨H0, H1, H2, H3, H4⟩ Hk
  iapply (ld c (Memref.whole cc0_stg1_0) (S := Finset.univ) (g := x.x1) (v := x.x1) (Finset.subset_univ _) (Memref.readAt_unit_zero (Elt F) cc0_stg1_0 z2 _ _)) $$ [H1]; · iexact H1
  iintro H1
  iapply (ld c (Memref.whole cc0_stg4_0) (S := Finset.univ) (g := x.x4) (v := x.x4) (Finset.subset_univ _) (Memref.readAt_unit_zero (Elt F) cc0_stg4_0 z2 _ _)) $$ [H4]; · iexact H4
  iintro H4
  iapply (ld c (Memref.whole cc0_stg2_0) (S := Finset.univ) (g := x.x2) (v := x.x2) (Finset.subset_univ _) (Memref.readAt_unit_zero (Elt F) cc0_stg2_0 z4 _ _)) $$ [H2]; · iexact H2
  iintro H2
  iapply (ld c (Memref.whole cc0_stg3_0) (S := Finset.univ) (g := x.x3) (v := x.x3) (Finset.subset_univ _) (Memref.readAt_unit_zero (Elt F) cc0_stg3_0 z4 _ _)) $$ [H3]; · iexact H3
  iintro H3
  iapply (ld c (Memref.whole cc0_stg0_0) (S := Finset.univ) (g := x.x0) (v := x.x0) (Finset.subset_univ _) (Memref.readAt_unit_zero (Elt F) cc0_stg0_0 z3 _ _)) $$ [H0]; · iexact H0
  iintro H0
  iapply Hk
  isplitl [H0]; · iexact H0
  isplitl [H1]; · iexact H1
  isplitl [H2]; · iexact H2
  isplitl [H3]; · iexact H3
  iexact H4

end Cert.KernelIdeal.Talk

end
-- ==== Proof.KI.MemB.lean ====
/- The first half of the partial product stored, rounded and sent. -/
module

public import proofs.«01_k».proof.Proof.KI.MemA

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem sub_P (b : ℕ) (inb) : aP.view.setOn (half b inb).toLoadRect.set ⊆ H b := (View.set_slice _ _).ge.trans (set_accP b inb)

theorem part6_wp (c : Dev nD) (g g' : cc0_scratch3.ty.Contents (Elt F)) (v125 : IVec S256x256 1) (v129 : FVec F S256x512 .bf16) (v131 : FVec F S2x256x4x64 .bf16) (v133 : FVec F S2x256x4x64 .bf16) (v139 : FVec F S256x256 .bf16) (v154 : FVec F S256x64 .f32) (v159 : FVec F S256x64 .bf16) (v161 : FVec F S256x256 .f32) (cst_97 : F .f32)
    (hW : (aT.view.slice (half 0 inb_S2x256x512_S1x256x512_0_0_0)).write (Elt F) g (k0_pay18 v125 v129 v131 v133 v139 v154 v159 v161 cst_97) Finset.univ = g')
    {α : Type} {Q : α → sProp 𝕄} {k : PUnit → Prog (TpuEff nD τ sig (Elt F) Λ₀ .tc) α} :
    (aT.view.loc (c : Thread nD τ) ↦[Finset.univ]{fullShare} g) ⊢ iprop(((aT.view.loc (c : Thread nD τ) ↦[Finset.univ]{fullShare} g') -∗ WP c (k ⟨⟩) Q) -∗ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v125 v129 v131 v133 v139 v154 v159 v161 cst_97 >>= k) Q) := by
  rw [k0_part6_eq_skeleton]; unfold k0_part6_skel
  iintro HT Hk
  iapply (load_st c aT (r := (half 0 inb_S2x256x512_S1x256x512_0_0_0).toLoadRect) (S := Finset.univ) (g := g) (Finset.subset_univ _) rfl) $$ [HT]; · iexact HT
  iintro HT
  iapply (store_st c aT (r := (half 0 inb_S2x256x512_S1x256x512_0_0_0)) (S := Finset.univ) (g := g) (Finset.subset_univ _)) $$ [HT]; · iexact HT
  iintro HT
  ihave HT := (Entails.of_eq (congrArg (fun g' => (aT.view.loc (c : Thread nD τ) ↦[Finset.univ]{fullShare} g' : sProp 𝕄)) hW)) $$ HT
  iapply Hk
  iexact HT

theorem part7_wp (K : GSem nD τ sig → ℕ) (c : Dev nD) (g : cc0_scratch3.ty.Contents (Elt F)) (f : cc0_scratch0.ty.Contents (Elt F)) (v : S1x256x512.Idx → Elt F .f32)
    (hT : aT.view.readAt (Elt F) (half 0 inb_S2x256x512_S1x256x512_0_0_0).toLoadRect g = v)
    (hP : ∀ i : S2x256x512.Idx, i ∈ H 0 → (aP.view.slice (half 0 inb_S2x256x512_S1x256x512_0_0_0)).write (Elt F) f (k0_pay19 v) Finset.univ i = pb c i)
    {α : Type} {Q : α → sProp 𝕄} {k : PUnit → Prog (TpuEff nD τ sig (Elt F) Λ₀ .tc) α} :
    iprop((invs pb bb K ∗ levAts L lv) ∗ (aT.view.loc (c : Thread nD τ) ↦[Finset.univ]{fullShare} g) ∗ (aP.view.loc (c : Thread nD τ) ↦[H 0]{fullShare} f) ∗ sepL [0, 1, 2, 3, 4, 5, 6, 7] (room1 (F := F) c) ∗ sepL [0, 1, 2, 3, 4, 5, 6, 7] (tok 0 1 c) ∗ sepL [] (waiting 0 (srcOwn pb c) c) ∗ ∃ W, owes (c : Thread nD τ) (due (fCell 3 c) all + due (fCell 1 c) [0, 1, 2, 3, 4, 5, 6, 7, 8, 9, 10, 11, 12, 13, 14, 15]) W)
      ⊢ iprop((((aT.view.loc (c : Thread nD τ) ↦[Finset.univ]{fullShare} g) ∗ sepL [7, 6, 5, 4, 3, 2, 1, 0] (waiting 0 (srcOwn pb c) c) ∗ ∃ W, owes (c : Thread nD τ) (due (fCell 3 c) all + due (fCell 1 c) [8, 9, 10, 11, 12, 13, 14, 15]) W) -∗ WP c (k ⟨⟩) Q)
        -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) >>= k) Q) := by
  rw [k0_part7_eq_skeleton]; unfold k0_part7_skel
  iintro ⟨⟨#HI, #Hlev⟩, HT, HP, Hr, Ht, D1, HO⟩ Hk
  iapply (load_st c aT (r := (half 0 inb_S2x256x512_S1x256x512_0_0_0).toLoadRect) (S := Finset.univ) (g := g) (Finset.subset_univ _) hT) $$ [HT]; · iexact HT
  iintro HT
  iapply (load_st c aP (r := (half 0 inb_S2x256x512_S1x256x512_0_0_0).toLoadRect) (S := H 0) (g := f) (sub_P 0 _) rfl) $$ [HP]; · iexact HP
  iintro HP
  iapply (store_st c aP (r := (half 0 inb_S2x256x512_S1x256x512_0_0_0)) (S := H 0) (g := f) (set_accP 0 _)) $$ [HP]; · iexact HP
  iintro HP
  ihave HP := (Entails.of_eq (pointsTo_congr (ℓ := aP.view.loc (c : Thread nD τ)) (I := H 0) (q := fullShare) hP)) $$ HP
  ihave HB := (P_blocks pb c 0 [0, 1, 2, 3, 4, 5, 6, 7] (by decide) (by decide)) $$ HP
  ihave B1 := (before1_list pb c [0, 1, 2, 3, 4, 5, 6, 7]) $$ [HB Hr Ht]
  · isplitl [HB]; · iexact HB
    isplitl [Hr]; · iexact Hr
    iexact Ht
  extract_lets
  iapply (send1 pb bb K c 0 (cond1 c) (so := fun _ => ![0, 0, 0]) (do' := fun _ => k0_off3 c) (ss := fun _ => ![0]) (rr := fun _ => k0_off2 c) (n := fun h => ⟨k0_dev17, k0_dev17_lt c h⟩) (fun _ => rfl) (fun _ => k0_off3_eq c) (fun _ => rfl) (fun _ => k0_off2_eq c) (fun _ => Fin.ext k0_dev17_eq)) $$ [B1 D1 HO]
  · isplitr; · iexact HI
    isplitl [B1]; · iexact B1
    isplitl [D1]; · iexact D1
    iexact HO
  iintro ⟨B1, D1, HO⟩
  iapply (send1 pb bb K c 1 (cond2 c) (so := fun _ => ![0, 32, 0]) (do' := fun _ => k0_off5 c) (ss := fun _ => ![1]) (rr := fun _ => k0_off4 c) (n := fun h => ⟨k0_dev18, k0_dev18_lt c h⟩) (fun _ => rfl) (fun _ => k0_off5_eq c) (fun _ => rfl) (fun _ => k0_off4_eq c) (fun _ => Fin.ext k0_dev18_eq)) $$ [B1 D1 HO]
  · isplitr; · iexact HI
    isplitl [B1]; · iexact B1
    isplitl [D1]; · iexact D1
    iexact HO
  iintro ⟨B1, D1, HO⟩
  iapply (send1 pb bb K c 2 (cond3 c) (so := fun _ => ![0, 64, 0]) (do' := fun _ => k0_off7 c) (ss := fun _ => ![2]) (rr := fun _ => k0_off6 c) (n := fun h => ⟨k0_dev19, k0_dev19_lt c h⟩) (fun _ => rfl) (fun _ => k0_off7_eq c) (fun _ => rfl) (fun _ => k0_off6_eq c) (fun _ => Fin.ext k0_dev19_eq)) $$ [B1 D1 HO]
  · isplitr; · iexact HI
    isplitl [B1]; · iexact B1
    isplitl [D1]; · iexact D1
    iexact HO
  iintro ⟨B1, D1, HO⟩
  iapply (send1 pb bb K c 3 (cond4 c) (so := fun _ => ![0, 96, 0]) (do' := fun _ => k0_off9 c) (ss := fun _ => ![3]) (rr := fun _ => k0_off8 c) (n := fun h => ⟨k0_dev20, k0_dev20_lt c h⟩) (fun _ => rfl) (fun _ => k0_off9_eq c) (fun _ => rfl) (fun _ => k0_off8_eq c) (fun _ => Fin.ext k0_dev20_eq)) $$ [B1 D1 HO]
  · isplitr; · iexact HI
    isplitl [B1]; · iexact B1
    isplitl [D1]; · iexact D1
    iexact HO
  iintro ⟨B1, D1, HO⟩
  iapply (send1 pb bb K c 4 (cond5 c) (so := fun _ => ![0, 128, 0]) (do' := fun _ => k0_off11 c) (ss := fun _ => ![4]) (rr := fun _ => k0_off10 c) (n := fun h => ⟨k0_dev21, k0_dev21_lt c h⟩) (fun _ => rfl) (fun _ => k0_off11_eq c) (fun _ => rfl) (fun _ => k0_off10_eq c) (fun _ => Fin.ext k0_dev21_eq)) $$ [B1 D1 HO]
  · isplitr; · iexact HI
    isplitl [B1]; · iexact B1
    isplitl [D1]; · iexact D1
    iexact HO
  iintro ⟨B1, D1, HO⟩
  iapply (send1 pb bb K c 5 (cond6 c) (so := fun _ => ![0, 160, 0]) (do' := fun _ => k0_off13 c) (ss := fun _ => ![5]) (rr := fun _ => k0_off12 c) (n := fun h => ⟨k0_dev22, k0_dev22_lt c h⟩) (fun _ => rfl) (fun _ => k0_off13_eq c) (fun _ => rfl) (fun _ => k0_off12_eq c) (fun _ => Fin.ext k0_dev22_eq)) $$ [B1 D1 HO]
  · isplitr; · iexact HI
    isplitl [B1]; · iexact B1
    isplitl [D1]; · iexact D1
    iexact HO
  iintro ⟨B1, D1, HO⟩
  iapply (send1 pb bb K c 6 (cond7 c) (so := fun _ => ![0, 192, 0]) (do' := fun _ => k0_off15 c) (ss := fun _ => ![6]) (rr := fun _ => k0_off14 c) (n := fun h => ⟨k0_dev23, k0_dev23_lt c h⟩) (fun _ => rfl) (fun _ => k0_off15_eq c) (fun _ => rfl) (fun _ => k0_off14_eq c) (fun _ => Fin.ext k0_dev23_eq)) $$ [B1 D1 HO]
  · isplitr; · iexact HI
    isplitl [B1]; · iexact B1
    isplitl [D1]; · iexact D1
    iexact HO
  iintro ⟨B1, D1, HO⟩
  iapply (send1 pb bb K c 7 (cond8 c) (so := fun _ => ![0, 224, 0]) (do' := fun _ => k0_off17 c) (ss := fun _ => ![7]) (rr := fun _ => k0_off16 c) (n := fun h => ⟨k0_dev24, k0_dev24_lt c h⟩) (fun _ => rfl) (fun _ => k0_off17_eq c) (fun _ => rfl) (fun _ => k0_off16_eq c) (fun _ => Fin.ext k0_dev24_eq)) $$ [B1 D1 HO]
  · isplitr; · iexact HI
    isplitl [B1]; · iexact B1
    isplitl [D1]; · iexact D1
    iexact HO
  iintro ⟨B1, D1, HO⟩
  iapply Hk
  isplitl [HT]; · iexact HT
  isplitl [D1]; · iexact D1
  iexact HO

end Cert.KernelIdeal.Talk

end
-- ==== Proof.KI.MemC.lean ====
/- The second half of the partial product stored, rounded and its first blocks sent. -/
module

public import proofs.«01_k».proof.Proof.KI.MemA

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem sub_P2 (b : ℕ) (inb) : aP.view.setOn (half b inb).toLoadRect.set ⊆ H b := (View.set_slice _ _).ge.trans (set_accP b inb)

theorem part9_wp (K : GSem nD τ sig → ℕ) (c : Dev nD) (g g' : cc0_scratch3.ty.Contents (Elt F)) (f : cc0_scratch0.ty.Contents (Elt F)) (v : S1x256x512.Idx → Elt F .f32)
    (v125 : IVec S256x256 1) (v129 : FVec F S256x512 .bf16) (v133 : FVec F S2x256x4x64 .bf16) (v251 : FVec F S256x64 .f32) (v266 : FVec F S256x64 .f32) (v281 : FVec F S256x64 .f32) (v282 : FVec F S256x64 .bf16) (v283 : FVec F S1x256x1x64 .bf16)
    (hW : (aT.view.slice (half 1 inb_S2x256x512_S1x256x512_1_0_0)).write (Elt F) g (k0_pay26 v125 v129 v133 v251 v266 v281 v282 v283) Finset.univ = g')
    (hT : aT.view.readAt (Elt F) (half 1 inb_S2x256x512_S1x256x512_1_0_0).toLoadRect g' = v)
    (hP : ∀ i : S2x256x512.Idx, i ∈ H 1 → (aP.view.slice (half 1 inb_S2x256x512_S1x256x512_1_0_0)).write (Elt F) f (k0_pay27 v) Finset.univ i = pb c i)
    {α : Type} {Q : α → sProp 𝕄} {k : BitVec 32 → Prog (TpuEff nD τ sig (Elt F) Λ₀ .tc) α} :
    iprop((invs pb bb K ∗ levAts L lv) ∗ (aT.view.loc (c : Thread nD τ) ↦[Finset.univ]{fullShare} g) ∗ (aP.view.loc (c : Thread nD τ) ↦[H 1]{fullShare} f) ∗ sepL [8, 9, 10, 11, 12, 13, 14, 15] (room1 (F := F) c) ∗ sepL [8, 9, 10, 11, 12, 13, 14, 15] (tok 0 1 c) ∗ sepL [7, 6, 5, 4, 3, 2, 1, 0] (waiting 0 (srcOwn pb c) c) ∗ ∃ W, owes (c : Thread nD τ) (due (fCell 3 c) all + due (fCell 1 c) [8, 9, 10, 11, 12, 13, 14, 15]) W)
      ⊢ iprop((((aT.view.loc (c : Thread nD τ) ↦[Finset.univ]{fullShare} g') ∗ sepL [11, 12, 13, 14, 15] (before1 pb c) ∗ sepL [10, 9, 8, 7, 6, 5, 4, 3, 2, 1, 0] (waiting 0 (srcOwn pb c) c) ∗ ∃ W, owes (c : Thread nD τ) (due (fCell 3 c) all + due (fCell 1 c) [11, 12, 13, 14, 15]) W) -∗ WP c (k 11#32) Q)
        -∗ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) v125 v129 v133 v251 v266 v281 v282 v283 >>= k) Q) := by
  rw [k0_part9_eq_skeleton]; unfold k0_part9_skel
  iintro ⟨⟨#HI, #Hlev⟩, HT, HP, Hr, Ht, D1, HO⟩ Hk
  iapply (load_st c aT (r := (half 1 inb_S2x256x512_S1x256x512_1_0_0).toLoadRect) (S := Finset.univ) (g := g) (Finset.subset_univ _) rfl) $$ [HT]; · iexact HT
  iintro HT
  iapply (store_st c aT (r := (half 1 inb_S2x256x512_S1x256x512_1_0_0)) (S := Finset.univ) (g := g) (Finset.subset_univ _)) $$ [HT]; · iexact HT
  iintro HT
  ihave HT := (Entails.of_eq (congrArg (fun g' => (aT.view.loc (c : Thread nD τ) ↦[Finset.univ]{fullShare} g' : sProp 𝕄)) hW)) $$ HT
  iapply (load_st c aT (r := (half 1 inb_S2x256x512_S1x256x512_1_0_0).toLoadRect) (S := Finset.univ) (g := g') (Finset.subset_univ _) hT) $$ [HT]; · iexact HT
  iintro HT
  iapply (load_st c aP (r := (half 1 inb_S2x256x512_S1x256x512_1_0_0).toLoadRect) (S := H 1) (g := f) (sub_P2 1 _) rfl) $$ [HP]; · iexact HP
  iintro HP
  iapply (store_st c aP (r := (half 1 inb_S2x256x512_S1x256x512_1_0_0)) (S := H 1) (g := f) (set_accP 1 _)) $$ [HP]; · iexact HP
  iintro HP
  ihave HP := (Entails.of_eq (pointsTo_congr (ℓ := aP.view.loc (c : Thread nD τ)) (I := H 1) (q := fullShare) hP)) $$ HP
  ihave HB := (P_blocks pb c 1 [8, 9, 10, 11, 12, 13, 14, 15] (by decide) (by decide)) $$ HP
  ihave B1 := (before1_list pb c [8, 9, 10, 11, 12, 13, 14, 15]) $$ [HB Hr Ht]
  · isplitl [HB]; · iexact HB
    isplitl [Hr]; · iexact Hr
    iexact Ht
  extract_lets
  iapply (send1 pb bb K c 8 (cond9 c) (so := fun _ => ![1, 0, 0]) (do' := fun _ => k0_off19 c) (ss := fun _ => ![8]) (rr := fun _ => k0_off18 c) (n := fun h => ⟨k0_dev25, k0_dev25_lt c h⟩) (fun _ => rfl) (fun _ => k0_off19_eq c) (fun _ => rfl) (fun _ => k0_off18_eq c) (fun _ => Fin.ext k0_dev25_eq)) $$ [B1 D1 HO]
  · isplitr; · iexact HI
    isplitl [B1]; · iexact B1
    isplitl [D1]; · iexact D1
    iexact HO
  iintro ⟨B1, D1, HO⟩
  iapply (send1 pb bb K c 9 (cond10 c) (so := fun _ => ![1, 32, 0]) (do' := fun _ => k0_off21 c) (ss := fun _ => ![9]) (rr := fun _ => k0_off20 c) (n := fun h => ⟨k0_dev26, k0_dev26_lt c h⟩) (fun _ => rfl) (fun _ => k0_off21_eq c) (fun _ => rfl) (fun _ => k0_off20_eq c) (fun _ => Fin.ext k0_dev26_eq)) $$ [B1 D1 HO]
  · isplitr; · iexact HI
    isplitl [B1]; · iexact B1
    isplitl [D1]; · iexact D1
    iexact HO
  iintro ⟨B1, D1, HO⟩
  iapply (send1 pb bb K c 10 (cond11 c) (so := fun _ => ![1, 64, 0]) (do' := fun _ => k0_off23 c) (ss := fun _ => ![10]) (rr := fun _ => k0_off22 c) (n := fun h => ⟨k0_dev27, k0_dev27_lt c h⟩) (fun _ => rfl) (fun _ => k0_off23_eq c) (fun _ => rfl) (fun _ => k0_off22_eq c) (fun _ => Fin.ext k0_dev27_eq)) $$ [B1 D1 HO]
  · isplitr; · iexact HI
    isplitl [B1]; · iexact B1
    isplitl [D1]; · iexact D1
    iexact HO
  iintro ⟨B1, D1, HO⟩
  iapply Hk
  isplitl [HT]; · iexact HT
  isplitl [B1]; · iexact B1
  isplitl [D1]; · iexact D1
  iexact HO

end Cert.KernelIdeal.Talk

end
-- ==== Proof.KI.MemD.lean ====
/- The landed blocks summed. -/
module

public import proofs.«01_k».proof.Proof.KI.MemA

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem sepL_down (P : Dev nD → sProp 𝕄) : sepL [15, 14, 13, 12, 11, 10, 9, 8, 7, 6, 5, 4, 3, 2, 1, 0] P = bigSep Finset.univ P := sepL_all_rev P
theorem slots_eq (c : Dev nD) (r : cc0_scratch2.ty.Contents (Elt F)) (hR : ∀ s : Dev nD, c ≠ s → (slotM s).view.read (Elt F) r = sent pb c s) :
    (bigSep Finset.univ (fun j : Dev nD => if c = j then (fun _ => iprop(emp)) j else dmaPay pb bb (1 : Fin 4).val c j) : sProp 𝕄)
      = bigSep Finset.univ (fun d : Dev nD => if c = d then iprop(emp) else (fun s => slotOwn c s ((slotM s).view.read (Elt F) r)) d) :=
  bigSep_congr fun j _ => by
    by_cases h : c = j
    · rw [if_pos h, if_pos h]
    · rw [if_neg h, if_neg h]; show dmaPay pb bb 1 c j = slotOwn c j ((slotM j).view.read (Elt F) r); rw [hR j h]; exact dmaPay_one pb bb c j
theorem outs_eq (c : Dev nD) :
    (bigSep Finset.univ (fun j : Dev nD => if c = j then (fun _ => iprop(emp)) j else dmaPay pb bb (3 : Fin 4).val c j) : sProp 𝕄)
      = bigSep Finset.univ (fun d : Dev nD => if c = d then iprop(emp) else (fun s => outOwn c s (bb s)) d) :=
  bigSep_congr fun j _ => by
    by_cases h : c = j
    · rw [if_pos h, if_pos h]
    · rw [if_neg h, if_neg h]; exact dmaPay_three pb bb c j
theorem srcs_eq (c : Dev nD) :
    (bigSep Finset.univ (fun j : Dev nD => if c = j then srcOwn pb c j else dmaPay pb bb (0 : Fin 4).val c j) : sProp 𝕄) = bigSep Finset.univ (srcOwn pb c) :=
  bigSep_congr fun j _ => by
    by_cases h : c = j
    · rw [if_pos h]
    · rw [if_neg h]; exact dmaPay_zero pb bb c j
theorem blks_eq (c : Dev nD) :
    (bigSep Finset.univ (fun j : Dev nD => if c = j then blkOwn bb c j else dmaPay pb bb (2 : Fin 4).val c j) : sProp 𝕄) = bigSep Finset.univ (blkOwn bb c) :=
  bigSep_congr fun j _ => by
    by_cases h : c = j
    · rw [if_pos h]
    · rw [if_neg h]; exact dmaPay_two pb bb c j
theorem slot_own_eq (c : Dev nD) (r : cc0_scratch2.ty.Contents (Elt F)) :
    (aR.view.loc (c : Thread nD τ) ↦[(rR c).set]{fullShare} r : sProp 𝕄) = slotOwn c c ((slotM c).view.read (Elt F) r) := by
  rw [← set_slot c]; exact (owns_read c (slotM c) fullShare r).symm
theorem out_own_eq (c : Dev nD) (r : cc0_stg5_0.ty.Contents (Elt F)) :
    (aO.view.loc (c : Thread nD τ) ↦[(rB c).set]{fullShare} r : sProp 𝕄) = outOwn c c ((outM c).view.read (Elt F) r) := by
  rw [← set_out c]; exact (owns_read c (outM c) fullShare r).symm

theorem read_rB (c : Dev nD) (g : cc0_scratch3.ty.Contents (Elt F)) {o : Fin 3 → ℕ} (ho : o = offB c) {inb : ∀ a, o a + S1x32x512.size a ≤ S2x256x512.size a} :
    aT.view.readAt (Elt F) (Rect.unit (s := S2x256x512) o S1x32x512.size inb).toLoadRect g = fun j => g ((rB c).emb j) := by
  subst ho; rfl

theorem part12_wp (K : GSem nD τ sig → ℕ) (c : Dev nD) (g : cc0_scratch3.ty.Contents (Elt F)) (r : cc0_scratch2.ty.Contents (Elt F))
    (hR : ∀ s : Dev nD, c ≠ s → (slotM s).view.read (Elt F) r = sent pb c s)
    {α : Type} {Q : α → sProp 𝕄} {k : (Σ' (v413 : FVec F S32x512 .f32), FVec F S32x512 .f32) → Prog (TpuEff nD τ sig (Elt F) Λ₀ .tc) α} :
    iprop((invs pb bb K ∗ levAts L lv) ∗ sepL [15] (waiting 1 (fun _ => iprop(emp)) c) ∗ sepL [14, 13, 12, 11, 10, 9, 8, 7, 6, 5, 4, 3, 2, 1, 0] (waited pb bb 1 (fun _ => iprop(emp)) c) ∗ (aT.view.loc (c : Thread nD τ) ↦[Finset.univ]{fullShare} g) ∗ (aR.view.loc (c : Thread nD τ) ↦[(rR c).set]{fullShare} r) ∗ ∃ W, owes (c : Thread nD τ) (due (fCell 3 c) all + due (fCell 1 c) []) W)
      ⊢ iprop(((bigSep Finset.univ (clo (F := F) 1 c) ∗ (aT.view.loc (c : Thread nD τ) ↦[Finset.univ]{fullShare} g) ∗ (aR.view.loc (c : Thread nD τ) ↦[Finset.univ]{fullShare} r) ∗ ∃ W, owes (c : Thread nD τ) (due (fCell 3 c) all + due (fCell 1 c) []) W)
          -∗ WP c (k ⟨k0_pay28 (fun j => g ((rB c).emb j)), k0_pay29 r⟩) Q)
        -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) 15#32 >>= k) Q) := by
  rw [k0_part12_eq_skeleton]; unfold k0_part12_skel
  iintro ⟨⟨#HI, #Hlev⟩, P1, R1, HT, HS, HO⟩ Hk
  extract_lets
  iapply (waitFor pb bb K 1 (fun _ => iprop(emp)) c 15 (wcond c 15) (fun _ => sem5 15) (mwR c 15)) $$ [P1 R1 HO]
  · isplitr; · (isplitr; · iexact HI); iexact Hlev
    isplitl [P1]; · iexact P1
    isplitl [R1]; · iexact R1
    iexact HO
  iintro ⟨P1, R1, HO⟩
  ihave R1 := (Entails.of_eq (sepL_down (waited pb bb 1 (fun _ => iprop(emp)) c))) $$ R1
  ihave R1 := (waited_split pb bb 1 (fun _ => iprop(emp)) c) $$ R1
  icases R1 with ⟨Hs, Hclo⟩
  ihave Hs := (Entails.of_eq (slots_eq pb bb c r hR)) $$ Hs
  ihave HS := (Entails.of_eq (slot_own_eq c r)) $$ HS
  ihave HR := (at_join c (fun s => slotOwn c s ((slotM s).view.read (Elt F) r))) $$ [HS Hs]
  · isplitl [HS]; · iexact HS
    iexact Hs
  ihave HR := (Entails.of_eq (R_split c r).symm) $$ HR
  iapply (load_st c aT (r := (Rect.unit (s := S2x256x512) (k0_off34 c) S1x32x512.size (k0_off34_inb c)).toLoadRect) (S := Finset.univ) (g := g) (Finset.subset_univ _) (read_rB c g (off34_eq c))) $$ [HT]; · iexact HT
  iintro HT
  iapply (load_st c aR (r := (Rect.unit (s := S16x32x512) ![0, 0, 0] S16x32x512.size inb_S16x32x512_S16x32x512_0_0_0).toLoadRect) (S := Finset.univ) (g := r) (Finset.subset_univ _) (Memref.readAt_unit_zero (Elt F) cc0_scratch2 z3 _ _)) $$ [HR]; · iexact HR
  iintro HR
  iapply Hk
  isplitl [Hclo]; · iexact Hclo
  isplitl [HT]; · iexact HT
  isplitl [HR]; · iexact HR
  iexact HO

theorem sub_O (c : Dev nD) {o : Fin 3 → ℕ} (ho : o = offB c) {inb : ∀ a, o a + S1x32x512.size a ≤ S2x256x512.size a} :
    (aO.access (Rect.unit (s := S2x256x512) o S1x32x512.size inb)).set ⊆ (rB c).set := by
  subst ho; exact (View.set_slice_whole cc0_stg5_0 (rB c)).le
theorem sub_O' (c : Dev nD) {o : Fin 3 → ℕ} (ho : o = offB c) {inb : ∀ a, o a + S1x32x512.size a ≤ S2x256x512.size a} :
    aO.view.setOn (Rect.unit (s := S2x256x512) o S1x32x512.size inb).toLoadRect.set ⊆ (rB c).set := by
  subst ho; exact (View.set_slice _ _).ge.trans (View.set_slice_whole cc0_stg5_0 (rB c)).le
theorem wO (c : Dev nD) {o : Fin 3 → ℕ} (ho : o = offB c) {inb : ∀ a, o a + S1x32x512.size a ≤ S2x256x512.size a} (f f' : cc0_stg5_0.ty.Contents (Elt F))
    (v : S1x32x512.Idx → Elt F .bf16) (hO : ∀ i ∈ (rB c).set, (aO.view.slice (rB c)).write (Elt F) f v Finset.univ i = f' i) :
    ((aO.access (Rect.unit (s := S2x256x512) o S1x32x512.size inb)).loc (c : Thread nD τ) ↦[(rB c).set]{fullShare} ((aO.access (Rect.unit (s := S2x256x512) o S1x32x512.size inb)).write (Elt F) f v Finset.univ) : sProp 𝕄)
      = (aO.view.loc (c : Thread nD τ) ↦[(rB c).set]{fullShare} f') := by
  subst ho; exact pointsTo_congr hO

theorem part13_wp (c : Dev nD) (f : cc0_scratch1.ty.Contents (Elt F)) (o : cc0_stg5_0.ty.Contents (Elt F)) (v413 v416 : FVec F S32x512 .f32)
    {α : Type} {Q : α → sProp 𝕄} {k : FVec F S1x32x512 .bf16 → Prog (TpuEff nD τ sig (Elt F) Λ₀ .tc) α} :
    iprop((aB.view.loc (c : Thread nD τ) ↦[Finset.univ]{fullShare} f) ∗ (aO.view.loc (c : Thread nD τ) ↦[(rB c).set]{fullShare} o))
      ⊢ iprop((((aB.view.loc (c : Thread nD τ) ↦[Finset.univ]{fullShare} (k0_pay30 v413 v416)) ∗ (aO.view.loc (c : Thread nD τ) ↦[(rB c).set]{fullShare} o)) -∗ WP c (k (k0_pay31 (k0_pay30 v413 v416))) Q)
        -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) v413 v416 >>= k) Q) := by
  rw [k0_part13_eq_skeleton]; unfold k0_part13_skel
  iintro ⟨HB, HO⟩ Hk
  iapply (load_st c aB (r := (Rect.unit (s := S32x512) ![0, 0] S32x512.size inb_S32x512_S32x512_0_0).toLoadRect) (S := Finset.univ) (g := f) (Finset.subset_univ _) rfl) $$ [HB]; · iexact HB
  iintro HB
  iapply (store_st c aB (r := Rect.unit (s := S32x512) ![0, 0] S32x512.size inb_S32x512_S32x512_0_0) (S := Finset.univ) (g := f) (Finset.subset_univ _)) $$ [HB]; · iexact HB
  iintro HB
  ihave HB := (Entails.of_eq (congrArg (fun g' => (aB.view.loc (c : Thread nD τ) ↦[Finset.univ]{fullShare} g' : sProp 𝕄)) (Memref.write_access_unit_zero_univ (Elt F) cc0_scratch1 z2 _ f (k0_pay30 v413 v416)))) $$ HB
  iapply (load_st c aB (r := (Rect.unit (s := S32x512) ![0, 0] S32x512.size inb_S32x512_S32x512_0_0).toLoadRect) (S := Finset.univ) (g := k0_pay30 v413 v416) (Finset.subset_univ _) (Memref.readAt_unit_zero (Elt F) cc0_scratch1 z2 _ _)) $$ [HB]; · iexact HB
  iintro HB
  iapply (load_st c aO (r := (Rect.unit (s := S2x256x512) (k0_off34 c) S1x32x512.size (k0_off34_inb c)).toLoadRect) (S := (rB c).set) (g := o) (sub_O' c (off34_eq c)) rfl) $$ [HO]; · iexact HO
  iintro HO
  iapply Hk
  isplitl [HB]; · iexact HB
  iexact HO

end Cert.KernelIdeal.Talk

end
-- ==== Proof.KI.MemE.lean ====
/- The device's own result block stored, and the first transfers of the second phase. -/
module

public import proofs.«01_k».proof.Proof.KI.MemD

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pb : Dev nD → cc0_scratch0.ty.Contents (Elt F)) (bb : Dev nD → cc0_scratch1.ty.Contents (Elt F))
set_option maxHeartbeats 4000000

theorem part14_wp (K : GSem nD τ sig → ℕ) (c : Dev nD) (o o' : cc0_stg5_0.ty.Contents (Elt F)) (v : S1x32x512.Idx → Elt F .bf16)
    (hO : ∀ i ∈ (rB c).set, (aO.view.slice (rB c)).write (Elt F) o v Finset.univ i = o' i)
    {α : Type} {Q : α → sProp 𝕄} {k : PUnit → Prog (TpuEff nD τ sig (Elt F) Λ₀ .tc) α} :
    iprop((invs pb bb K ∗ levAts L lv) ∗ (aO.view.loc (c : Thread nD τ) ↦[(rB c).set]{fullShare} o) ∗ sepL [0, 1, 2, 3, 4, 5, 6, 7, 8, 9, 10, 11, 12, 13, 14, 15] (before2 bb c) ∗ sepL [] (waiting 2 (blkOwn bb c) c) ∗ ∃ W, owes (c : Thread nD τ) (0 + due (fCell 3 c) [0, 1, 2, 3, 4, 5, 6, 7, 8, 9, 10, 11, 12, 13, 14, 15]) W)
      ⊢ iprop((((aO.view.loc (c : Thread nD τ) ↦[(rB c).set]{fullShare} o') ∗ sepL [9, 10, 11, 12, 13, 14, 15] (before2 bb c) ∗ sepL [8, 7, 6, 5, 4, 3, 2, 1, 0] (waiting 2 (blkOwn bb c) c) ∗ ∃ W, owes (c : Thread nD τ) (0 + due (fCell 3 c) [9, 10, 11, 12, 13, 14, 15]) W) -∗ WP c (k ⟨⟩) Q)
        -∗ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (w c) v >>= k) Q) := by
  rw [k0_part14_eq_skeleton]; unfold k0_part14_skel
  iintro ⟨⟨#HI, #Hlev⟩, HOut, B2, D2, HO⟩ Hk
  iapply (store_st c aO (r := Rect.unit (s := S2x256x512) (k0_off34 c) S1x32x512.size (k0_off34_inb c)) (S := (rB c).set) (g := o) (sub_O c (off34_eq c))) $$ [HOut]; · iexact HOut
  iintro HOut
  ihave HOut := (Entails.of_eq (wO c (off34_eq c) o o' v hO)) $$ HOut
  extract_lets
  iapply (send2 pb bb K c 0 (cond33 c) (do' := fun _ => k0_off36 c) (ss := fun _ => ![0]) (rr := fun _ => k0_off35 c) (n := fun h => ⟨k0_dev33, k0_dev33_lt c h⟩) (fun _ => off36_eq c) (fun _ => rfl) (fun _ => k0_off35_eq c) (fun _ => Fin.ext k0_dev33_eq)) $$ [B2 D2 HO]
  · isplitr; · iexact HI
    isplitl [B2]; · iexact B2
    isplitl [D2]; · iexact D2
    iexact HO
  iintro ⟨B2, D2, HO⟩
  iapply (send2 pb bb K c 1 (cond34 c) (do' := fun _ => k0_off38 c) (ss := fun _ => ![1]) (rr := fun _ => k0_off37 c) (n := fun h => ⟨k0_dev34, k0_dev34_lt c h⟩) (fun _ => off38_eq c) (fun _ => rfl) (fun _ => k0_off37_eq c) (fun _ => Fin.ext k0_dev34_eq)) $$ [B2 D2 HO]
  · isplitr; · iexact HI
    isplitl [B2]; · iexact B2
    isplitl [D2]; · iexact D2
    iexact HO
  iintro ⟨B2, D2, HO⟩
  iapply (send2 pb bb K c 2 (cond35 c) (do' := fun _ => k0_off40 c) (ss := fun _ => ![2]) (rr := fun _ => k0_off39 c) (n := fun h => ⟨k0_dev35, k0_dev35_lt c h⟩) (fun _ => off40_eq c) (fun _ => rfl) (fun _ => k0_off39_eq c) (fun _ => Fin.ext k0_dev35_eq)) $$ [B2 D2 HO]
  · isplitr; · iexact HI
    isplitl [B2]; · iexact B2
    isplitl [D2]; · iexact D2
    iexact HO
  iintro ⟨B2, D2, HO⟩
  iapply (send2 pb bb K c 3 (cond36 c) (do' := fun _ => k0_off42 c) (ss := fun _ => ![3]) (rr := fun _ => k0_off41 c) (n := fun h => ⟨k0_dev36, k0_dev36_lt c h⟩) (fun _ => off42_eq c) (fun _ => rfl) (fun _ => k0_off41_eq c) (fun _ => Fin.ext k0_dev36_eq)) $$ [B2 D2 HO]
  · isplitr; · iexact HI
    isplitl [B2]; · iexact B2
    isplitl [D2]; · iexact D2
    iexact HO
  iintro ⟨B2, D2, HO⟩
  iapply (send2 pb bb K c 4 (cond37 c) (do' := fun _ => k0_off44 c) (ss := fun _ => ![4]) (rr := fun _ => k0_off43 c) (n := fun h => ⟨k0_dev37, k0_dev37_lt c h⟩) (fun _ => off44_eq c) (fun _ => rfl) (fun _ => k0_off43_eq c) (fun _ => Fin.ext k0_dev37_eq)) $$ [B2 D2 HO]
  · isplitr; · iexact HI
    isplitl [B2]; · iexact B2
    isplitl [D2]; · iexact D2
    iexact HO
  iintro ⟨B2, D2, HO⟩
  iapply (send2 pb bb K c 5 (cond38 c) (do' := fun _ => k0_off46 c) (ss := fun _ => ![5]) (rr := fun _ => k0_off45 c) (n := fun h => ⟨k0_dev38, k0_dev38_lt c h⟩) (fun _ => off46_eq c) (fun _ => rfl) (fun _ => k0_off45_eq c) (fun _ => Fin.ext k0_dev38_eq)) $$ [B2 D2 HO]
  · isplitr; · iexact HI
    isplitl [B2]; · iexact B2
    isplitl [D2]; · iexact D2
    iexact HO
  iintro ⟨B2, D2, HO⟩
  iapply (send2 pb bb K c 6 (cond39 c) (do' := fun _ => k0_off48 c) (ss := fun _ => ![6]) (rr := fun _ => k0_off47 c) (n := fun h => ⟨k0_dev39, k0_dev39_lt c h⟩) (fun _ => off48_eq c) (fun _ => rfl) (fun _ => k0_off47_eq c) (fun _ => Fin.ext k0_dev39_eq)) $$ [B2 D2 HO]
  · isplitr; · iexact HI
    isplitl [B2]; · iexact B2
    isplitl [D2]; · iexact D2
    iexact HO
  iintro ⟨B2, D2, HO⟩
  iapply (send2 pb bb K c 7 (cond40 c) (do' := fun _ => k0_off50 c) (ss := fun _ => ![7]) (rr := fun _ => k0_off49 c) (n := fun h => ⟨k0_dev40, k0_dev40_lt c h⟩) (fun _ => off50_eq c) (fun _ => rfl) (fun _ => k0_off49_eq c) (fun _ => Fin.ext k0_dev40_eq)) $$ [B2 D2 HO]
  · isplitr; · iexact HI
    isplitl [B2]; · iexact B2
    isplitl [D2]; · iexact D2
    iexact HO
  iintro ⟨B2, D2, HO⟩
  iapply (send2 pb bb K c 8 (cond41 c) (do' := fun _ => k0_off52 c) (ss := fun _ => ![8]) (rr := fun _ => k0_off51 c) (n := fun h => ⟨k0_dev41, k0_dev41_lt c h⟩) (fun _ => off52_eq c) (fun _ => rfl) (fun _ => k0_off51_eq c) (fun _ => Fin.ext k0_dev41_eq)) $$ [B2 D2 HO]
  · isplitr; · iexact HI
    isplitl [B2]; · iexact B2
    isplitl [D2]; · iexact D2
    iexact HO
  iintro ⟨B2, D2, HO⟩
  iapply Hk
  isplitl [HOut]; · iexact HOut
  isplitl [B2]; · iexact B2
  isplitl [D2]; · iexact D2
  iexact HO

end Cert.KernelIdeal.Talk

end
-- ==== Proof.KI.BodyA.lean ====
/- Facts the whole body uses: what the stored halves hold, lists of peers cut and turned round. -/
module

public import proofs.«01_k».proof.Proof.KI.MemD

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Ins F)
set_option maxHeartbeats 4000000

theorem T_first (c : Dev nD) (g g1 : cc0_scratch3.ty.Contents (Elt F)) (hW : (aT.view.slice (half 0 inb_S2x256x512_S1x256x512_0_0_0)).write (Elt F) g (h0 (X c)) Finset.univ = g1) :
    aT.view.readAt (Elt F) (half 0 inb_S2x256x512_S1x256x512_0_0_0).toLoadRect g1 = h0 (X c) :=
  stack_zero (h0 (X c)) (h1 (X c)) g1 _ fun i hi => by
    rw [← hW]; unfold stack; rw [if_pos hi]; exact wT 0 _ g (h0 (X c)) i hi
theorem T_both (c : Dev nD) (g g1 : cc0_scratch3.ty.Contents (Elt F)) (hW : (aT.view.slice (half 0 inb_S2x256x512_S1x256x512_0_0_0)).write (Elt F) g (h0 (X c)) Finset.univ = g1) :
    (aT.view.slice (half 1 inb_S2x256x512_S1x256x512_1_0_0)).write (Elt F) g1 (h1 (X c)) Finset.univ = Tc X c := by
  funext i
  have hi : (i (0 : Fin 3)).val < 2 := (i (0 : Fin 3)).isLt
  by_cases h : (i (0 : Fin 3)).val = 0
  · refine (wT_ne 1 _ g1 (h1 (X c)) i (by omega)).trans ?_
    rw [← hW]; unfold Tc stack; rw [if_pos h]; exact wT 0 _ g (h0 (X c)) i h
  · refine (wT 1 _ g1 (h1 (X c)) i (by omega)).trans ?_
    unfold Tc stack; rw [if_neg h]
theorem T_second (c : Dev nD) : aT.view.readAt (Elt F) (half 1 inb_S2x256x512_S1x256x512_1_0_0).toLoadRect (Tc X c) = h1 (X c) :=
  stack_one (h0 (X c)) (h1 (X c)) (Tc X c) _ fun i _ => rfl
theorem P_first (c : Dev nD) (f : cc0_scratch0.ty.Contents (Elt F)) (i : S2x256x512.Idx) (hi : i ∈ H 0) :
    (aP.view.slice (half 0 inb_S2x256x512_S1x256x512_0_0_0)).write (Elt F) f (k0_pay19 (h0 (X c))) Finset.univ i = Pc X c i := by
  have h := (Finset.mem_filter.mp hi).2
  refine (wP 0 _ f _ i h).trans ?_
  unfold Pc stack; rw [if_pos h]
theorem P_second (c : Dev nD) (f : cc0_scratch0.ty.Contents (Elt F)) (i : S2x256x512.Idx) (hi : i ∈ H 1) :
    (aP.view.slice (half 1 inb_S2x256x512_S1x256x512_1_0_0)).write (Elt F) f (k0_pay27 (h1 (X c))) Finset.univ i = Pc X c i := by
  have h := (Finset.mem_filter.mp hi).2
  refine (wP 1 _ f _ i h).trans ?_
  unfold Pc stack; rw [if_neg (by omega)]

theorem sepL_app {I : Type} (l l' : List I) (P : I → sProp 𝕄) : sepL (l ++ l') P ⊢ iprop(sepL l P ∗ sepL l' P) := by
  induction l with
  | nil => exact BIClass.emp_sep.2
  | cons a l ih =>
    rw [List.cons_append, sepL_cons, sepL_cons]
    iintro ⟨Ha, Hl⟩
    ihave H := ih $$ Hl
    icases H with ⟨H1, H2⟩
    isplitr [H2]
    · isplitl [Ha]; · iexact Ha
      iexact H1
    iexact H2
theorem sepL_halves (P : Dev nD → sProp 𝕄) : sepL all P ⊢ iprop(sepL [0, 1, 2, 3, 4, 5, 6, 7] P ∗ sepL [8, 9, 10, 11, 12, 13, 14, 15] P) := sepL_app [0, 1, 2, 3, 4, 5, 6, 7] [8, 9, 10, 11, 12, 13, 14, 15] P
theorem sepL_flip (P : Dev nD → sProp 𝕄) : sepL [15, 14, 13, 12, 11, 10, 9, 8, 7, 6, 5, 4, 3, 2, 1, 0] P ⊢ sepL all P := Entails.of_eq ((sepL_down P).trans (sepL_all P).symm)
theorem sepL_nil {I : Type} (P : I → sProp 𝕄) : (iprop(emp) : sProp 𝕄) ⊢ sepL [] P := .rfl
theorem owes_one (c : Dev nD) : (∃ W, owes (c : Thread nD τ) (due (fCell 3 c) all + due (fCell 1 c) []) W : sProp 𝕄) ⊢ ∃ W, owes (c : Thread nD τ) (0 + due (fCell 3 c) all) W :=
  Entails.of_eq (by rw [due, add_zero, zero_add])
theorem owes_two (c : Dev nD) : (∃ W, owes (c : Thread nD τ) (0 + due (fCell 3 c) []) W : sProp 𝕄) ⊢ ∃ W, owes (c : Thread nD τ) 0 W :=
  Entails.of_eq (by rw [due, add_zero])
theorem WP_pure (c : Dev nD) {α : Type} (p : Prog (TpuEff nD τ sig (Elt F) Λ₀ .tc) α) (Q : α → sProp 𝕄) : WP c (p >>= pure) Q ⊢ WP c p Q :=
  Entails.of_eq (by rw [Prog.bind_pure])
theorem WP_ret (c : Dev nD) {α : Type} (a : α) (Q : α → sProp 𝕄) : iprop(|={Set.univ}[frame]=> Q a) ⊢ WP c (pure a >>= pure) Q :=
  by
  rw [Prog.bind_pure]
  show iprop(|={Set.univ}[frame]=> Q a) ⊢ wp frame (wpE (defs₀ (F := F)) 𝒱₀ (c : Thread nD τ) none) Set.univ (.ret a) Q
  rw [wp_ret]

theorem part4_wp (c : Dev nD) {α : Type} {Q : α → sProp 𝕄} {k : (Σ' (v91 : IVec S256x256 1) (v107 : IVec S256x256 32), IVec S256x256 32) → Prog (TpuEff nD τ sig (Elt F) Λ₀ .tc) α} :
    WP c (k ⟨m91, m107, m123⟩) Q ⊢ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_pay2 i66 64#32 k0_pay3 k0_pay4 i77 0#32 >>= k) Q := by
  rw [k0_part4_eq_skeleton]; exact .rfl
theorem part8_wp (c : Dev nD) (v125 : IVec S256x256 1) (v131 v133 : FVec F S2x256x4x64 .bf16) (v138 : FVec F S512x256 .bf16) {α : Type} {Q : α → sProp 𝕄}
    {k : (Σ' (v251 : FVec F S256x64 .f32) (v266 : FVec F S256x64 .f32) (v281 : FVec F S256x64 .f32) (v282 : FVec F S256x64 .bf16), FVec F S1x256x1x64 .bf16) → Prog (TpuEff nD τ sig (Elt F) Λ₀ .tc) α} :
    WP c (k ⟨k0_pay21 v125 v131 v133 v138, k0_pay22 v125 v131 v133 v138, k0_pay23 v125 v131 v133 v138, k0_pay24 v138, k0_pay25 v131⟩) Q
      ⊢ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v125 v131 v133 v138 >>= k) Q := by
  rw [k0_part8_eq_skeleton]; exact .rfl

theorem outOwn_take (c : Dev nD) (Y) : (outOwn c c Y : sProp 𝕄) ⊢ ∃ o : cc0_stg5_0.ty.Contents (Elt F), (aO.view.loc (c : Thread nD τ) ↦[(rB c).set]{fullShare} o) := by
  unfold outOwn
  iintro H
  ihave H := (owns_elim c (outM c) fullShare Y) $$ H
  icases H with ⟨%f, %hf, H⟩
  iexists f
  rw [set_out c]
  iexact H
theorem B_take (c : Dev nD) : (aB.view.loc (c : Thread nD τ) ↦[Finset.univ]{fullShare} (k0_pay30 (k0_pay28 (fun j => Tc X c ((rB c).emb j))) (k0_pay29 (Rc X c))) : sProp 𝕄) ⊢ sepL all (blkOwn (Bc X) c) :=
  Entails.of_eq ((B_split (Bc X) c).trans (sepL_all _).symm)

end Cert.KernelIdeal.Talk

end
-- ==== Proof.KI.Body.lean ====
/- The whole body on one device: from the tokens and credits the launch deals it to the finished result. -/
module

public import proofs.«01_k».proof.Proof.KI.PartsA
public import proofs.«01_k».proof.Proof.KI.PartsB
public import proofs.«01_k».proof.Proof.KI.PartsC
public import proofs.«01_k».proof.Proof.KI.PartsD
public import proofs.«01_k».proof.Proof.KI.MemB
public import proofs.«01_k».proof.Proof.KI.MemC
public import proofs.«01_k».proof.Proof.KI.MemD
public import proofs.«01_k».proof.Proof.KI.MemE
public import proofs.«01_k».proof.Proof.KI.BodyA

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Ins F)
set_option maxHeartbeats 4000000

theorem body_wp (K : GSem nD τ sig → ℕ) (c : Dev nD) {Q : PUnit → sProp 𝕄} {q0 q1 q2 q3 q4 : PosShare TreeShare} :
    iprop((invs (Pc X) (Bc X) K ∗ levAts L lv)
        ∗ (sepL all (before0 c) ∗ cred (tallyAt (barCell c) () 16) ∗ atPos ER (barCell c) 0 ∅ 0)
        ∗ (sepL all (tok (F := F) 0 1 c) ∗ sepL all (tok (F := F) 2 3 c))
        ∗ (sepL all (waiting 1 (fun _ => iprop(emp)) c) ∗ sepL all (waiting 3 (fun _ => iprop(emp)) c))
        ∗ stg5 c (X c) q0 q1 q2 q3 q4
        ∗ ((∃ f, (aP.view.loc (c : Thread nD τ) ↦[Finset.univ]{fullShare} f)) ∗ (∃ f, (aB.view.loc (c : Thread nD τ) ↦[Finset.univ]{fullShare} f)) ∗ (∃ f, (aT.view.loc (c : Thread nD τ) ↦[Finset.univ]{fullShare} f)))
        ∗ ∃ W, owes (c : Thread nD τ) (due (fCell 3 c) all + due (fCell 1 c) all + due fBar all) W)
      ⊢ iprop((((atPos ER (barCell c) (0 + 1) ∅ 0 ∗ bigSep Finset.univ (clo (F := F) 0 c) ∗ bigSep Finset.univ (clo (F := F) 1 c) ∗ bigSep Finset.univ (clo (F := F) 2 c) ∗ bigSep Finset.univ (clo (F := F) 3 c))
          ∗ stg5 c (X c) q0 q1 q2 q3 q4 ∗ (aO.view.loc (c : Thread nD τ) ↦[Finset.univ]{fullShare} (Oc X))
          ∗ ((aP.view.loc (c : Thread nD τ) ↦[Finset.univ]{fullShare} (Pc X c)) ∗ (aB.view.loc (c : Thread nD τ) ↦[Finset.univ]{fullShare} (Bc X c)) ∗ (aR.view.loc (c : Thread nD τ) ↦[Finset.univ]{fullShare} (Rc X c)) ∗ (aT.view.loc (c : Thread nD τ) ↦[Finset.univ]{fullShare} (Tc X c)))
          ∗ ∃ W, owes (c : Thread nD τ) 0 W) -∗ |={Set.univ}[frame]=> Q ⟨⟩)
        -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0_body_eq_skeleton]; unfold cc0_body_skel
  iintro ⟨⟨#HI, #Hlev⟩, ⟨B0, Hc, Hbar⟩, ⟨Ht1, Ht2⟩, ⟨P1, P3⟩, HS, ⟨⟨%fP, HP⟩, ⟨%fB, HB⟩, ⟨%g, HT⟩⟩, HO⟩ Hk
  iapply (part1_wp (Pc X) (Bc X) K c) $$ [B0 HO]
  · isplitr; · iexact HI
    isplitl [B0]; · iexact B0
    iexact HO
  iintro ⟨B0, HO⟩
  iapply (part2_wp (Pc X) (Bc X) K c) $$ [B0 HO]
  · isplitr; · iexact HI
    isplitl [B0]; · iexact B0
    iexact HO
  iintro ⟨B0, HO⟩
  iapply (part3_wp X K c) $$ [Hc Hbar HO]
  · isplitr; · (isplitr; · iexact HI); iexact Hlev
    isplitl [Hc Hbar]
    · isplitl [Hc]; · iexact Hc
      iexact Hbar
    iexact HO
  iintro ⟨Hbar, Hr1, Hr2, HR, HOut, HO⟩
  icases HOut with ⟨%Y, HOut⟩
  iapply (part4_wp c)
  iapply (part5_wp c (X c)) $$ [HS]; · iexact HS
  iintro HS
  obtain ⟨g1, hg1⟩ : ∃ g1, (aT.view.slice (half 0 inb_S2x256x512_S1x256x512_0_0_0)).write (Elt F) g (h0 (X c)) Finset.univ = g1 := ⟨_, rfl⟩
  iapply (part6_wp c g g1 _ _ _ _ _ _ _ _ _ hg1) $$ [HT]; · iexact HT
  iintro HT
  ihave HP := (P_halves c fP) $$ HP
  icases HP with ⟨HP0, HP1⟩
  ihave Hr1 := (sepL_halves (room1 (F := F) c)) $$ Hr1
  icases Hr1 with ⟨Hra, Hrb⟩
  ihave Ht1 := (sepL_halves (tok (F := F) 0 1 c)) $$ Ht1
  icases Ht1 with ⟨Hta, Htb⟩
  ihave D1 := (sepL_nil (waiting 0 (srcOwn (Pc X) c) c)) $$ []
  · iempintro
  iapply (part7_wp (Pc X) (Bc X) K c g1 fP (h0 (X c)) (T_first X c g g1 hg1) (P_first X c fP)) $$ [HT HP0 Hra Hta D1 HO]
  · isplitr; · (isplitr; · iexact HI); iexact Hlev
    isplitl [HT]; · iexact HT
    isplitl [HP0]; · iexact HP0
    isplitl [Hra]; · iexact Hra
    isplitl [Hta]; · iexact Hta
    isplitl [D1]; · iexact D1
    iexact HO
  iintro ⟨HT, D1, HO⟩
  iapply (part8_wp c _ _ _ _)
  iapply (part9_wp (Pc X) (Bc X) K c g1 (Tc X c) fP (h1 (X c)) _ _ _ _ _ _ _ _ (T_both X c g g1 hg1) (T_second X c) (P_second X c fP)) $$ [HT HP1 Hrb Htb D1 HO]
  · isplitr; · (isplitr; · iexact HI); iexact Hlev
    isplitl [HT]; · iexact HT
    isplitl [HP1]; · iexact HP1
    isplitl [Hrb]; · iexact Hrb
    isplitl [Htb]; · iexact Htb
    isplitl [D1]; · iexact D1
    iexact HO
  iintro ⟨HT, B1, D1, HO⟩
  ihave R1 := (sepL_nil (waited (Pc X) (Bc X) 1 (fun _ => iprop(emp)) c)) $$ []
  · iempintro
  iapply (part10_wp (Pc X) (Bc X) K c) $$ [B1 D1 P1 R1 HO]
  · isplitr; · (isplitr; · iexact HI); iexact Hlev
    isplitl [B1]; · iexact B1
    isplitl [D1]; · iexact D1
    isplitl [P1]; · iexact P1
    isplitl [R1]; · iexact R1
    iexact HO
  iintro ⟨B1, D1, P1, R1, HO⟩
  iapply (part11_wp (Pc X) (Bc X) K c) $$ [P1 R1 HO]
  · isplitr; · (isplitr; · iexact HI); iexact Hlev
    isplitl [P1]; · iexact P1
    isplitl [R1]; · iexact R1
    iexact HO
  iintro ⟨P1, R1, HO⟩
  iapply (part12_wp (Pc X) (Bc X) K c (Tc X c) (Rc X c) (read_slot X c)) $$ [P1 R1 HT HR HO]
  · isplitr; · (isplitr; · iexact HI); iexact Hlev
    isplitl [P1]; · iexact P1
    isplitl [R1]; · iexact R1
    isplitl [HT]; · iexact HT
    isplitl [HR]; · iexact HR
    iexact HO
  iintro ⟨Hc1, HT, HR, HO⟩
  ihave HOut := (outOwn_take c Y) $$ HOut
  icases HOut with ⟨%o, HOut⟩
  iapply (part13_wp c fB o _ _) $$ [HB HOut]
  · isplitl [HB]; · iexact HB
    iexact HOut
  iintro ⟨HB, HOut⟩
  ihave HB := (B_take X c) $$ HB
  ihave B2 := (before2_list (Bc X) c all) $$ [HB Hr2 Ht2]
  · isplitl [HB]; · iexact HB
    isplitl [Hr2]; · iexact Hr2
    iexact Ht2
  ihave D2 := (sepL_nil (waiting 2 (blkOwn (Bc X) c) c)) $$ []
  · iempintro
  ihave HO := (owes_one c) $$ HO
  iapply (part14_wp (Pc X) (Bc X) K c o (Oc X) (k0_pay31 (Bc X c)) (write_out X c o)) $$ [HOut B2 D2 HO]
  · isplitr; · (isplitr; · iexact HI); iexact Hlev
    isplitl [HOut]; · iexact HOut
    isplitl [B2]; · iexact B2
    isplitl [D2]; · iexact D2
    iexact HO
  iintro ⟨HOut, B2, D2, HO⟩
  ihave R3 := (sepL_nil (waited (Pc X) (Bc X) 3 (fun _ => iprop(emp)) c)) $$ []
  · iempintro
  iapply (part15_wp (Pc X) (Bc X) K c) $$ [B2 D2 P3 R3 HO]
  · isplitr; · (isplitr; · iexact HI); iexact Hlev
    isplitl [B2]; · iexact B2
    isplitl [D2]; · iexact D2
    isplitl [P3]; · iexact P3
    isplitl [R3]; · iexact R3
    iexact HO
  iintro ⟨B2, D2, P3, R3, HO⟩
  iapply (part16_wp (Pc X) (Bc X) K c) $$ [P3 R3 HO]
  · isplitr; · (isplitr; · iexact HI); iexact Hlev
    isplitl [P3]; · iexact P3
    isplitl [R3]; · iexact R3
    iexact HO
  iintro ⟨P3, R3, HO⟩
  ihave P0 := (sepL_flip (waiting 0 (srcOwn (Pc X) c) c)) $$ D1
  ihave P2 := (sepL_flip (waiting 2 (blkOwn (Bc X) c) c)) $$ D2
  ihave R0 := (sepL_nil (waited (Pc X) (Bc X) 0 (srcOwn (Pc X) c) c)) $$ []
  · iempintro
  ihave R2 := (sepL_nil (waited (Pc X) (Bc X) 2 (blkOwn (Bc X) c) c)) $$ []
  · iempintro
  iapply (part17_wp (Pc X) (Bc X) K c) $$ [P3 R3 P0 R0 P2 R2 HO]
  · isplitr; · (isplitr; · iexact HI); iexact Hlev
    isplitl [P3]; · iexact P3
    isplitl [R3]; · iexact R3
    isplitl [P0]; · iexact P0
    isplitl [R0]; · iexact R0
    isplitl [P2]; · iexact P2
    isplitl [R2]; · iexact R2
    iexact HO
  iintro ⟨P3, R3, P0, R0, P2, R2, HO⟩
  iapply (part18_wp (Pc X) (Bc X) K c) $$ [P0 R0 P2 R2 HO]
  · isplitr; · (isplitr; · iexact HI); iexact Hlev
    isplitl [P0]; · iexact P0
    isplitl [R0]; · iexact R0
    isplitl [P2]; · iexact P2
    isplitl [R2]; · iexact R2
    iexact HO
  iintro ⟨P0, R0, P2, R2, HO⟩
  iapply (part19_wp (Pc X) (Bc X) K c) $$ [P0 R0 P2 R2 HO]
  · isplitr; · (isplitr; · iexact HI); iexact Hlev
    isplitl [P0]; · iexact P0
    isplitl [R0]; · iexact R0
    isplitl [P2]; · iexact P2
    isplitl [R2]; · iexact R2
    iexact HO
  iintro ⟨P0, R0, P2, R2, HO⟩
  iapply (WP_pure c)
  extract_lets
  iapply (waitFor (Pc X) (Bc X) K 2 (blkOwn (Bc X) c) c 13 (cond92 c) (fun _ => sem6 13) (mwZ c _)) $$ [P2 R2 HO]
  · isplitr; · (isplitr; · iexact HI); iexact Hlev
    isplitl [P2]; · iexact P2
    isplitl [R2]; · iexact R2
    iexact HO
  iintro ⟨P2, R2, HO⟩
  iapply (waitFor (Pc X) (Bc X) K 0 (srcOwn (Pc X) c) c 14 (cond93 c) (fun _ => sem4 14) (mwZ c _)) $$ [P0 R0 HO]
  · isplitr; · (isplitr; · iexact HI); iexact Hlev
    isplitl [P0]; · iexact P0
    isplitl [R0]; · iexact R0
    iexact HO
  iintro ⟨P0, R0, HO⟩
  iapply (waitFor (Pc X) (Bc X) K 2 (blkOwn (Bc X) c) c 14 (cond94 c) (fun _ => sem6 14) (mwZ c _)) $$ [P2 R2 HO]
  · isplitr; · (isplitr; · iexact HI); iexact Hlev
    isplitl [P2]; · iexact P2
    isplitl [R2]; · iexact R2
    iexact HO
  iintro ⟨P2, R2, HO⟩
  iapply (waitFor (Pc X) (Bc X) K 0 (srcOwn (Pc X) c) c 15 (cond95 c) (fun _ => sem4 15) (mwZ c _)) $$ [P0 R0 HO]
  · isplitr; · (isplitr; · iexact HI); iexact Hlev
    isplitl [P0]; · iexact P0
    isplitl [R0]; · iexact R0
    iexact HO
  iintro ⟨P0, R0, HO⟩
  iapply (waitFor (Pc X) (Bc X) K 2 (blkOwn (Bc X) c) c 15 (cond96 c) (fun _ => sem6 15) (mwZ c _)) $$ [P2 R2 HO]
  · isplitr; · (isplitr; · iexact HI); iexact Hlev
    isplitl [P2]; · iexact P2
    isplitl [R2]; · iexact R2
    iexact HO
  iintro ⟨P2, R2, HO⟩
  iapply (WP_ret c)
  iapply Hk
  ihave R0 := (Entails.of_eq (sepL_down (waited (Pc X) (Bc X) 0 (srcOwn (Pc X) c) c))) $$ R0
  ihave R0 := (waited_split (Pc X) (Bc X) 0 (srcOwn (Pc X) c) c) $$ R0
  icases R0 with ⟨S0, Hc0⟩
  ihave S0 := (Entails.of_eq ((srcs_eq (Pc X) (Bc X) c).trans (P_join (Pc X) c))) $$ S0
  ihave R2 := (Entails.of_eq (sepL_down (waited (Pc X) (Bc X) 2 (blkOwn (Bc X) c) c))) $$ R2
  ihave R2 := (waited_split (Pc X) (Bc X) 2 (blkOwn (Bc X) c) c) $$ R2
  icases R2 with ⟨S2, Hc2⟩
  ihave S2 := (Entails.of_eq ((blks_eq (Pc X) (Bc X) c).trans (B_split (Bc X) c).symm)) $$ S2
  ihave R3 := (Entails.of_eq (sepL_down (waited (Pc X) (Bc X) 3 (fun _ => iprop(emp)) c))) $$ R3
  ihave R3 := (waited_split (Pc X) (Bc X) 3 (fun _ => iprop(emp)) c) $$ R3
  icases R3 with ⟨S3, Hc3⟩
  ihave S3 := (Entails.of_eq (outs_eq (Pc X) (Bc X) c)) $$ S3
  ihave HOut := (Entails.of_eq (out_own_eq c (Oc X))) $$ HOut
  ihave HOut := (Entails.of_eq (congrArg (outOwn c c) (read_out X c))) $$ HOut
  ihave S3 := (at_join c (fun s => outOwn c s (Bc X s))) $$ [HOut S3]
  · isplitl [HOut]; · iexact HOut
    iexact S3
  ihave S3 := (Entails.of_eq (O_join X c)) $$ S3
  ihave HO := (owes_two c) $$ HO
  isplitl [Hbar Hc0 Hc1 Hc2 Hc3]
  · isplitl [Hbar]; · iexact Hbar
    isplitl [Hc0]; · iexact Hc0
    isplitl [Hc1]; · iexact Hc1
    isplitl [Hc2]; · iexact Hc2
    iexact Hc3
  isplitl [HS]; · iexact HS
  isplitl [S3]; · iexact S3
  isplitl [S0 S2 HR HT]
  · isplitl [S0]; · iexact S0
    isplitl [S2]; · iexact S2
    isplitl [HR]; · iexact HR
    iexact HT
  iexact HO

end Cert.KernelIdeal.Talk

end
-- ==== Proof.KI.Talk.lean ====
/- The body between the opening and the closing of its cells. -/
module

public import proofs.«01_k».proof.Proof.KI.Body
public import proofs.«01_k».proof.Proof.KI.Cells

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Ins F)

/-- The four scratch buffers, whatever they hold. -/
def scratch (c : Dev nD) : sProp 𝕄 :=
  iprop((∃ f, (aP.view.loc (c : Thread nD τ) ↦[Finset.univ]{fullShare} f)) ∗ (∃ f, (aB.view.loc (c : Thread nD τ) ↦[Finset.univ]{fullShare} f)) ∗ (∃ f, (aR.view.loc (c : Thread nD τ) ↦[Finset.univ]{fullShare} f)) ∗ (∃ f, (aT.view.loc (c : Thread nD τ) ↦[Finset.univ]{fullShare} f)))

abbrev stg (c : Dev nD) (x : Ins F) : sProp 𝕄 := stg5 c x fullShare fullShare fullShare fullShare fullShare

/-- The body from the state the launch and the opening of the cells left, to every counter at zero. -/
theorem talk_wp (c : Dev nD) {Q : PUnit → sProp 𝕄} :
    iprop(Xk (Pc X) (Bc X) c ∗ stg c (X c) ∗ (∃ o, (aO.view.loc (c : Thread nD τ) ↦[Finset.univ]{fullShare} o)) ∗ scratch c ∗ ∃ W, owes (c : Thread nD τ) (O₀ c) W)
      ⊢ iprop(((semVal (barCell c) 0 ∗ Pipeline.ownSems0 osem c) ∗ stg c (X c) ∗ (aO.view.loc (c : Thread nD τ) ↦[Finset.univ]{fullShare} (Oc X)) ∗ scratch c ∗ (∃ W, owes (c : Thread nD τ) 0 W) -∗ Q ⟨⟩)
        -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  unfold Xk scratch
  rw [fam4]
  unfold duties credits
  iintro ⟨⟨⟨%K, ⟨#HI, #Hlev⟩, #HR, Hat, ⟨P0, P1, P2, P3⟩, Tb, T0, T1, T2, T3⟩, Cb, C1, C3⟩, HS, ⟨%o, HO⟩, ⟨⟨%p, HP⟩, ⟨%b, HB⟩, ⟨%r, HRv⟩, ⟨%t, HT⟩⟩, Hw⟩ Hk
  ihave Hb := (sort_bars c r o) $$ [Tb HRv HO]
  · isplitr; · iexact HR
    isplitl [Tb]; · iexact Tb
    isplitl [HRv]; · iexact HRv
    iexact HO
  ihave S0 := (sort_toks 0 1 c) $$ [T0 T1 P0]
  · isplitr; · iexact HR
    isplitl [T0]; · iexact T0
    isplitl [T1] <;> iassumption
  icases S0 with ⟨S0, W0⟩
  ihave S2 := (sort_toks 2 3 c) $$ [T2 T3 P2]
  · isplitr; · iexact HR
    isplitl [T2]; · iexact T2
    isplitl [T3] <;> iassumption
  icases S2 with ⟨S2, W2⟩
  ihave S1 := (sort_waits 1 c) $$ [C1 P1]
  · isplitl [C1] <;> iassumption
  icases S1 with ⟨S1, W1⟩
  ihave S3 := (sort_waits 3 c) $$ [C3 P3]
  · isplitl [C3] <;> iassumption
  icases S3 with ⟨S3, W3⟩
  iapply (body_wp X K c (Q := Q)) $$ [Hb Cb Hat S0 S2 S1 S3 HS HP HB HT Hw]
  · isplitr
    · isplitr; · iexact HI
      iexact Hlev
    isplitl [Hb Cb Hat]
    · isplitl [Hb]; · iexact Hb
      isplitl [Cb] <;> iassumption
    isplitl [S0 S2]; · isplitl [S0] <;> iassumption
    isplitl [S1 S3]; · isplitl [S1] <;> iassumption
    isplitl [HS]; · iexact HS
    isplitl [HP HB HT]
    · isplitl [HP]; · iexists p; iexact HP
      isplitl [HB]; · iexists b; iexact HB
      iexists t; iexact HT
    iexact Hw
  iintro ⟨Hcl, HS, HO, ⟨HP, HB, HRv, HT⟩, Hw⟩
  imod (close_all (Pc X) (Bc X) K c) $$ [Hcl W0 W1 W2 W3] with Hz
  · isplitr; · iexact HI
    isplitr [Hcl]
    · isplitl [W0]; · iexact W0
      isplitl [W1]; · iexact W1
      isplitl [W2] <;> iassumption
    iexact Hcl
  imodintro
  iapply Hk
  isplitl [Hz]; · iexact Hz
  isplitl [HS]; · iexact HS
  isplitl [HO]; · iexact HO
  isplitl [HP HB HRv HT]
  · isplitl [HP]; · iexists _; iexact HP
    isplitl [HB]; · iexists _; iexact HB
    isplitl [HRv]; · iexists _; iexact HRv
    iexists _; iexact HT
  iexact Hw

end Cert.KernelIdeal.Talk

end
-- ==== Proof.KI.Region.lean ====
/- The kernel region's data and the pipeline's obligation on its body. -/
module

public import proofs.«01_k».proof.Proof.KI.Talk
public import proofs.«01_k».proof.Proof.Gen.KernelIdeal.Regions
public import proofs.«01_k».proof.Proof.Gen.KernelIdeal.Points

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the windows stage on device `c`: the region's operands as the host operations left them. -/
def X (c : Dev nD) : Ins F where
  x0 := ((cfg0.win 0).blk t0_0).view.read (Elt F) (V1 m c main_arg0)
  x1 := ((cfg0.win 1).blk t0_0).view.read (Elt F) (V1 m c main_v11)
  x2 := ((cfg0.win 2).blk t0_0).view.read (Elt F) (V1 m c main_arg2)
  x3 := ((cfg0.win 3).blk t0_0).view.read (Elt F) (V1 m c main_arg3)
  x4 := ((cfg0.win 4).blk t0_0).view.read (Elt F) (V1 m c main_v16)

abbrev Pcm := Pc (X m)
abbrev Bcm := Bc (X m)

def dat0 (c : Dev nD) : Pipeline.Dat τ (Elt F) Unit ℕ UU ℕ cfg0 c where
  A w := V1 m c (Pipeline.arrRef spec0 w)
  after w _ := match w with
    | ⟨0, _⟩ => (X m c).x0
    | ⟨1, _⟩ => (X m c).x1
    | ⟨2, _⟩ => (X m c).x2
    | ⟨3, _⟩ => (X m c).x3
    | ⟨4, _⟩ => (X m c).x4
    | ⟨5, _⟩ => Oc (X m)
  Φ t := if t.val = 0 then iprop(Xk (Pcm m) (Bcm m) c ∗ scratch c ∗ ∃ r, prngReg c r)
    else iprop((semVal (barCell c) 0 ∗ Pipeline.ownSems0 osem c) ∗ scratch c ∗ ∃ r, prngReg c r)
  q _ := fullShare
  owed t := if t.val = 0 then O₀ c else 0

theorem owed_first (c : Dev nD) : (dat0 m c).owed t0_0.castSucc = O₀ c := by
  show (if (t0_0.castSucc : Fin (cfg0.N + 1)).val = 0 then O₀ c else 0) = O₀ c; exact if_pos rfl
theorem owed_zero (c : Dev nD) : (dat0 m c).owed 0 = O₀ c := by
  show (if ((0 : Fin (cfg0.N + 1)).val = 0) then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem owes_into (c : Dev nD) (t : Fin (cfg0.N + 1)) {O : CellTallies nD τ sig Unit} (h : (dat0 m c).owed t = O) :
    (∃ W, owes (c : Thread nD τ) O W : sProp 𝕄) ⊢ (dat0 m c).owesAt () t := by
  unfold Pipeline.Dat.owesAt Pipeline.owesWithin Pipeline.Dat.bound; rw [h, show (dat0 m c).recorded t = Set.univ from rfl]
  iintro ⟨%W, HO⟩; iexists W; isplitr; · ipureintro; exact fun _ _ => Or.inl trivial
  iexact HO
theorem owes_out (c : Dev nD) (t : Fin (cfg0.N + 1)) {O : CellTallies nD τ sig Unit} (h : (dat0 m c).owed t = O) :
    ((dat0 m c).owesAt () t : sProp 𝕄) ⊢ ∃ W, owes (c : Thread nD τ) O W := by
  unfold Pipeline.Dat.owesAt Pipeline.owesWithin; rw [h]
  iintro ⟨%W, -, HO⟩; iexists W; iexact HO

theorem whole_out (c : Dev nD) (b : Ref sig .tc) (Y : b.ty.Contents (Elt F)) :
    (owns (c : Thread nD τ) (Memref.whole b) fullShare Y : sProp 𝕄) ⊢ ((Memref.whole b).view.loc (c : Thread nD τ) ↦[Finset.univ]{fullShare} Y) := by
  unfold owns; simp only [Memref.view_whole, View.read_whole, View.set_whole]
  iintro ⟨%f, %h, H⟩; subst h; iexact H
theorem whole_into (c : Dev nD) (b : Ref sig .tc) (Y : b.ty.Contents (Elt F)) :
    ((Memref.whole b).view.loc (c : Thread nD τ) ↦[Finset.univ]{fullShare} Y : sProp 𝕄) ⊢ owns (c : Thread nD τ) (Memref.whole b) fullShare Y := by
  unfold owns; simp only [Memref.view_whole, View.read_whole, View.set_whole]
  iintro H; iexists Y; isplitr; · ipureintro; rfl
  iexact H

theorem before_0 (c : Dev nD) (d : (cfg0.win 0).block.Idx → Elt F (cfg0.win 0).elt) : (dat0 m c).before 0 t0_0 d = (X m c).x0 := by
  unfold Pipeline.Dat.before; rw [if_pos (fetch0_0 t0_0)]; rfl
theorem before_1 (c : Dev nD) (d : (cfg0.win 1).block.Idx → Elt F (cfg0.win 1).elt) : (dat0 m c).before 1 t0_0 d = (X m c).x1 := by
  unfold Pipeline.Dat.before; rw [if_pos (fetch0_1 t0_0)]; rfl
theorem before_2 (c : Dev nD) (d : (cfg0.win 2).block.Idx → Elt F (cfg0.win 2).elt) : (dat0 m c).before 2 t0_0 d = (X m c).x2 := by
  unfold Pipeline.Dat.before; rw [if_pos (fetch0_2 t0_0)]; rfl
theorem before_3 (c : Dev nD) (d : (cfg0.win 3).block.Idx → Elt F (cfg0.win 3).elt) : (dat0 m c).before 3 t0_0 d = (X m c).x3 := by
  unfold Pipeline.Dat.before; rw [if_pos (fetch0_3 t0_0)]; rfl
theorem before_4 (c : Dev nD) (d : (cfg0.win 4).block.Idx → Elt F (cfg0.win 4).elt) : (dat0 m c).before 4 t0_0 d = (X m c).x4 := by
  unfold Pipeline.Dat.before; rw [if_pos (fetch0_4 t0_0)]; rfl

set_option maxRecDepth 4000 in
theorem body_obl (c : Dev nD) : Pipeline.BodyObligation (dat0 (F := F) m c) (defs₀ (F := F)) 𝒱₀ () Set.univ := fun t => by
  obtain rfl := fin_N0 t
  rw [bigSep_W0, bigSep_W0]
  rw [show (dat0 m c).Φ t0_0.castSucc = iprop(Xk (Pcm m) (Bcm m) c ∗ scratch c ∗ ∃ r, prngReg c r) from rfl,
    show (dat0 m c).Φ t0_0.succ = iprop((semVal (barCell c) 0 ∗ Pipeline.ownSems0 osem c) ∗ scratch c ∗ ∃ r, prngReg c r) from rfl]
  iintro ⟨⟨HX, HC, Hp⟩, HO, ⟨%d0, H0⟩, ⟨%d1, H1⟩, ⟨%d2, H2⟩, ⟨%d3, H3⟩, ⟨%d4, H4⟩, ⟨%d5, H5⟩⟩
  ihave HO := (owes_out m c _ (owed_first m c)) $$ HO
  ihave H0 := (show (owns (c : Thread nD τ) (Memref.whole cc0_stg0_0) fullShare ((dat0 m c).before 0 t0_0 d0) : sProp 𝕄) ⊢ _ from
    (Entails.of_eq (congrArg (owns (c : Thread nD τ) (Memref.whole cc0_stg0_0) fullShare) (before_0 m c d0))).trans (whole_out c cc0_stg0_0 (X m c).x0)) $$ H0
  ihave H1 := (show (owns (c : Thread nD τ) (Memref.whole cc0_stg1_0) fullShare ((dat0 m c).before 1 t0_0 d1) : sProp 𝕄) ⊢ _ from
    (Entails.of_eq (congrArg (owns (c : Thread nD τ) (Memref.whole cc0_stg1_0) fullShare) (before_1 m c d1))).trans (whole_out c cc0_stg1_0 (X m c).x1)) $$ H1
  ihave H2 := (show (owns (c : Thread nD τ) (Memref.whole cc0_stg2_0) fullShare ((dat0 m c).before 2 t0_0 d2) : sProp 𝕄) ⊢ _ from
    (Entails.of_eq (congrArg (owns (c : Thread nD τ) (Memref.whole cc0_stg2_0) fullShare) (before_2 m c d2))).trans (whole_out c cc0_stg2_0 (X m c).x2)) $$ H2
  ihave H3 := (show (owns (c : Thread nD τ) (Memref.whole cc0_stg3_0) fullShare ((dat0 m c).before 3 t0_0 d3) : sProp 𝕄) ⊢ _ from
    (Entails.of_eq (congrArg (owns (c : Thread nD τ) (Memref.whole cc0_stg3_0) fullShare) (before_3 m c d3))).trans (whole_out c cc0_stg3_0 (X m c).x3)) $$ H3
  ihave H4 := (show (owns (c : Thread nD τ) (Memref.whole cc0_stg4_0) fullShare ((dat0 m c).before 4 t0_0 d4) : sProp 𝕄) ⊢ _ from
    (Entails.of_eq (congrArg (owns (c : Thread nD τ) (Memref.whole cc0_stg4_0) fullShare) (before_4 m c d4))).trans (whole_out c cc0_stg4_0 (X m c).x4)) $$ H4
  ihave H5 := (whole_out c cc0_stg5_0 ((dat0 m c).before 5 t0_0 d5)) $$ H5
  iapply (talk_wp (X m) c) $$ [HX H0 H1 H2 H3 H4 H5 HC HO]
  · isplitl [HX]; · iexact HX
    isplitl [H0 H1 H2 H3 H4]
    · unfold stg stg5
      isplitl [H0]; · iexact H0
      isplitl [H1]; · iexact H1
      isplitl [H2]; · iexact H2
      isplitl [H3] <;> iassumption
    isplitl [H5]; · iexists _; iexact H5
    isplitl [HC]; · iexact HC
    iexact HO
  unfold stg stg5
  iintro ⟨Hz, ⟨H0, H1, H2, H3, H4⟩, H5, HC, HO⟩
  isplitl [Hz HC Hp]
  · isplitl [Hz]; · iexact Hz
    isplitl [HC] <;> iassumption
  isplitl [HO]; · iapply (owes_into m c t0_0.succ (owed_last m c)); iexact HO
  isplitl [H0]; · iapply (whole_into c cc0_stg0_0 (X m c).x0); iexact H0
  isplitl [H1]; · iapply (whole_into c cc0_stg1_0 (X m c).x1); iexact H1
  isplitl [H2]; · iapply (whole_into c cc0_stg2_0 (X m c).x2); iexact H2
  isplitl [H3]; · iapply (whole_into c cc0_stg3_0 (X m c).x3); iexact H3
  isplitl [H4]; · iapply (whole_into c cc0_stg4_0 (X m c).x4); iexact H4
  iapply (whole_into c cc0_stg5_0 (Oc (X m))); iexact H5

end Cert.KernelIdeal.Talk

end
-- ==== Proof.KI.Run.lean ====
/- The kernel's region in @main, and the run of the program on the sixteen devices. -/
module

public import proofs.«01_k».proof.Proof.KI.Launch
public import proofs.«01_k».proof.Proof.KI.Region
public import Idealize.ShloMosaic.Lib.Pipeline.RegionTalk
public import Idealize.ShloMosaic.Lib.Pipeline.ValueKit.Geometry

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the region leaves in its result array. -/
def outs : Outs (F := F) := fun _ r c => if h : r = main_v17 then h ▸ (Oc (X m) : Buf (Elt F) ((c : Thread nD τ).loc main_v17)) else V1 m c r
theorem outs_v17 (c : Dev nD) : outs m 2 main_v17 c = Oc (X m) := dif_pos rfl
theorem V2_v17 (c : Dev nD) : V2 m (outs m) c main_v17 = Oc (X m) := (Function.update_self ..).trans (outs_v17 m c)

def pdats : (p : Fin 1) → (c : Dev nD) → Pipeline.Dat τ (Elt F) Unit ℕ UU ℕ (cfgs p) c
  | 0 => dat0 m

theorem arr_last (c : Dev nD) : (dat0 m c).arrAt 5 cfg0.N = Oc (X m) :=
  (dat0 m c).arrAt_eq_of_after_last 5 t0_0 (by decide +kernel) (Oc (X m)) (fun j => rfl)

theorem hW (c : Dev nD) (w : Fin 6) : (dat0 m c).arrAt w 0 = V1 m c (Proc.devRef .tc (Pipeline.arrRef spec0 w)) := rfl
theorem hW' (c : Dev nD) (w : Fin 6) : (dat0 m c).arrAt w cfg0.N = V2 m (outs m) c (Proc.devRef .tc (Pipeline.arrRef spec0 w)) := by
  match w with
  | 0 => exact ((dat0 m c).arrAt_in 0 rfl _).trans (V2_of m (outs m) c main_arg0 (by decide)).symm
  | 1 => exact ((dat0 m c).arrAt_in 1 rfl _).trans (V2_of m (outs m) c main_v11 (by decide)).symm
  | 2 => exact ((dat0 m c).arrAt_in 2 rfl _).trans (V2_of m (outs m) c main_arg2 (by decide)).symm
  | 3 => exact ((dat0 m c).arrAt_in 3 rfl _).trans (V2_of m (outs m) c main_arg3 (by decide)).symm
  | 4 => exact ((dat0 m c).arrAt_in 4 rfl _).trans (V2_of m (outs m) c main_v16 (by decide)).symm
  | 5 => exact (arr_last m c).trans (V2_v17 m c).symm

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : () ∈ L g ∧ 0 < lv g () := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨d, -, h⟩ := due_pos h; rw [fCell_pos h]
      exact ⟨L_tc _ _, by rw [lv_cell]; decide⟩
    · obtain ⟨d, -, h⟩ := due_pos h; rw [fCell_pos h]
      exact ⟨L_tc _ _, by rw [lv_cell]; decide⟩
  · obtain ⟨d, -, h⟩ := due_pos h; rw [fBar_pos h]
    exact ⟨L_tc _ _, Nat.one_pos⟩

theorem cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · exact O₀_pos h
  · exact absurd h (Nat.lt_irrefl 0)

theorem lv_stage (c : Dev nD) : ∀ (w : Fin 6) (s : Fin (cfg0.win w).nbuf), lv ((c : Thread nD τ), .dma ((cfg0.win w).sem s)) () ≤ 0 := by
  have h : ∀ (w : Fin 6) (s : Fin (spec0 w).nbuf), ((spec0 w).sem s).val < 6 := by decide +kernel
  intro w s
  exact le_of_eq (if_pos (h w s))

theorem scratch_eq (c : Dev nD) : (Pipeline.scopedRest spec0 c : sProp 𝕄) = scratch c := scopedRest0_eq c

theorem hin (c : Dev nD) : iprop(Pipeline.scopedRest spec0 c ∗ (∃ r, prngReg c r) ∗ StableHlo.held (c : Thread nD τ) ∅ (V1 m c) ∗ Xk (Pcm m) (Bcm m) c)
    ⊢ (dat0 m c).Φ 0 := by
  rw [show (dat0 m c).Φ 0 = iprop(Xk (Pcm m) (Bcm m) c ∗ scratch c ∗ ∃ r, prngReg c r) from rfl, scratch_eq]
  iintro ⟨Hs, Hp, -, HX⟩
  isplitl [HX]; · iexact HX
  isplitl [Hs] <;> iassumption

theorem hout (c : Dev nD) : (dat0 m c).Φ (Fin.last cfg0.N)
    ⊢ iprop(Pipeline.scopedRest spec0 c ∗ (∃ r, prngReg c r) ∗ StableHlo.held (c : Thread nD τ) ∅ (V2 m (outs m) c) ∗ Pipeline.ownSems0 osem c ∗ semVal (barCell c) 0) := by
  rw [show (dat0 m c).Φ (Fin.last cfg0.N) = iprop((semVal (barCell c) 0 ∗ Pipeline.ownSems0 osem c) ∗ scratch c ∗ ∃ r, prngReg c r) from rfl, scratch_eq]
  unfold StableHlo.held
  rw [bigSep_empty]
  iintro ⟨⟨Hb, Ho⟩, Hs, Hp⟩
  isplitl [Hs]; · iexact Hs
  isplitl [Hp]; · iexact Hp
  isplitr; · iempintro
  isplitl [Ho] <;> iassumption

abbrev Sr : Finset (DevRef τ sig) := Pipeline.ucRefs τ sig \ Pipeline.arrRefs (τ := τ) spec0

theorem rest_same (c : Dev nD) : ∀ b ∈ Sr \ ∅, V2 m (outs m) c b = V1 m c b := fun b hb => by
  have hn : b ≠ Proc.devRef .tc main_v17 := fun e => by
    subst e
    refine (Finset.mem_sdiff.mp (Finset.mem_sdiff.mp hb).1).2 ?_
    exact Finset.mem_map.mpr ⟨main_v17, Finset.mem_image.mpr ⟨5, Finset.mem_univ _, rfl⟩, rfl⟩
  exact Function.update_of_ne hn ..

set_option backward.isDefEq.respectTransparency.types false in
/-- The kernel's region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ Sr (Finset.empty_subset _) kit rfl (fun c => (body_obl m c).loose)
    (fun _ => 0) O₀ (fun c => (owed_zero m c).trans (zero_add _).symm) (owed_last m) (fun _ => rfl) (fun c => (dat0 m c).share_full fun _ => rfl)
    (V1 m) (V2 m (outs m)) (rest_same m)
    (Tk (Pcm m) (Bcm m)) (fun c => semVal (barCell c) 0) (Xk (Pcm m) (Bcm m)) (fun c => semVal (barCell c) 0) (hopen (Pcm m) (Bcm m)) (hin m) (hout m)
    (fun c => by iintro H; imodintro; iexact H)
    (fun _ => 0)
    ⟨fun c w s => L_tc _ _, fun c w s => lv_stage c w s, fun c t g i h => cut m c t g i h⟩
    (fun _ => iprop(emp))
    (hW m) (hW' m)

/-- The state beside the buffers around the region. -/
def E : Fin 2 → Dev nD → sProp (MT nD τ sig Unit (Elt F) ℕ UU ℕ)
  | 0 => E0 (Pcm m) (Bcm m)
  | 1 => fun c => iprop(semVal (barCell c) 0 ∗ ∃ W, owes (c : Thread nD τ) 0 W)

theorem arrs_sub : Pipeline.arrRefs (τ := τ) spec0 ⊆ Pipeline.ucRefs τ sig := Pipeline.arrRefs_sub_ucRefs spec0 (by decide)

set_option backward.isDefEq.respectTransparency.types false in
theorem reg_pre (c : Dev nD) : iprop(StableHlo.held (c : Thread nD τ) (Pipeline.ucRefs τ sig) (V1 m c) ∗ E m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) Sr (V1 m c) ∗ emp) ∗ Tk (Pcm m) (Bcm m) c ∗ ∃ Wd, owes (c : Thread nD τ) (0 + O₀ c) Wd)
  rw [show E m 0 c = E0 (Pcm m) (Bcm m) c from rfl, StableHlo.held_sub_split (c : Thread nD τ) arrs_sub (V1 m c), zero_add]
  unfold E0
  iintro ⟨⟨Ha, Hr⟩, Hp, Ht, HO⟩
  isplitl [Ha]; · iexact Ha
  isplitl [Hp]; · iexact Hp
  isplitl [Hr]
  · isplitl [Hr]; · iexact Hr
    iempintro
  isplitl [Ht] <;> iassumption

set_option backward.isDefEq.respectTransparency.types false in
theorem reg_post (c : Dev nD) : (reg0 m).post c ⊢ iprop((StableHlo.held (c : Thread nD τ) (Pipeline.ucRefs τ sig) (V2 m (outs m) c) ∗ semVal (barCell c) 0) ∗ ∃ W, owes (c : Thread nD τ) (0 : CellTallies nD τ sig Unit) W) := by
  show iprop(StableHlo.held (c : Thread nD τ) (Pipeline.arrRefs (τ := τ) spec0) (V2 m (outs m) c) ∗ (∃ r, prngReg c r)
    ∗ (StableHlo.held (c : Thread nD τ) Sr (V2 m (outs m) c) ∗ emp) ∗ semVal (barCell c) 0 ∗ ∃ Wd, owes (c : Thread nD τ) 0 Wd) ⊢ _
  rw [StableHlo.held_sub_split (c : Thread nD τ) arrs_sub (V2 m (outs m) c)]
  iintro ⟨Ha, -, ⟨Hr, -⟩, Hb, HO⟩
  isplitr [HO]
  · isplitr [Hb]
    · isplitl [Ha] <;> iassumption
    iexact Hb
  iexact HO

theorem start_all (ρ : Dev nD → PrngReg) : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)) ∗ levAts L lv)
    ⊢ (|={Set.univ}[frame]=> bigSep Finset.univ fun c : Dev nD => iprop(StableHlo.held (c : Thread nD τ) (Pipeline.ucRefs τ sig) (V0 m c) ∗ E m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c)) : sProp 𝕄) := by
    refine BIBase.Entails.trans (bigMono fun c _ => ?_) bigSep_part
    rw [← Pipeline.unscopedBufs_held (Ix := Unit) (Name := ℕ) (U := UU) (Lvl := ℕ) c (V0 m c)]
  iintro ⟨H, Hla⟩
  ihave H := hsplit $$ H
  icases H with ⟨Hh, Hr⟩
  imod (init (Pcm m) (Bcm m) ρ) $$ [Hr Hla] with HE
  · isplitl [Hr] <;> iassumption
  imodintro
  iapply bigSep_join
  isplitl [Hh]; · iexact Hh
  iexact HE

set_option backward.isDefEq.respectTransparency.types false in
/-- Every execution from zero counters ends, with the result on every device, the arguments as launched and every counter at zero. -/
theorem run_main (ρ : Dev nD → PrngReg) : θ_run defs (onTc (τ := τ) (main (F := F))) ⟨m, fun _ => 0, ρ⟩ (fun r =>
    (∀ c : Dev nD, r.2.mem ((c : Thread nD τ).loc main_v17) = Oc (X m)
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [StableHlo.seq (hostOps0 c), Prog.lift (.customCall (Pipeline.entry 0) ())] from rfl]
      exact .rfl)
    (fun c => by simp only [segs, Pipeline.Seg.pipes_host, Pipeline.Seg.pipes_region, Pipeline.Seg.pipes_nil]; decide) O₀ L_of_ne G u₀ hu₀
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, reg_pre m c, reg_post m c⟩)
    (hinit := start_all m ρ)
    (QY := fun c s => (∀ b ∈ Pipeline.ucRefs τ sig, s.mem ((c : Thread nD τ).1, b) = V2 m (outs m) c b) ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have hm (b : Ref sig .tc) (hb : (Proc.devRef .tc b : DevRef τ sig).isScoped = false) : s.mem ((c : Thread nD τ).loc b) = V2 m (outs m) c b :=
          (h c).1 (Proc.devRef .tc b) (Finset.mem_filter.mpr ⟨StableHlo.devRef_mem_tcRefs b, by rw [hb]; decide⟩)
        exact ⟨(hm main_v17 rfl).trans (V2_v17 m c), (hm main_arg0 rfl).trans (V2_main_arg0 m (outs m) c), (hm main_arg1 rfl).trans (V2_main_arg1 m (outs m) c),
          (hm main_arg2 rfl).trans (V2_main_arg2 m (outs m) c), (hm main_arg3 rfl).trans (V2_main_arg3 m (outs m) c), (hm main_arg4 rfl).trans (V2_main_arg4 m (outs m) c)⟩,
      sem_eq_zero hs fun c sm hsm => by
        obtain rfl := unscoped_eq sm hsm
        exact (h c).2⟩)

end Cert.KernelIdeal.Talk

end
-- ==== Proof.Frames.lean ====
/- The frame claims of the two kernels and of the reference: each program's run, read for its arguments and its counters. -/
module

public import proofs.«01_k».proof.Defs
public import proofs.«01_k».proof.Proof.K.Run
public import proofs.«01_k».proof.Proof.KI.Run
public import proofs.«01_k».proof.Proof.Gen.ReferenceIdeal.Run

@[expose] public section

noncomputable section

namespace Cert.Proof

open Idealize.ShloMosaic Idealize.SL.Sem

theorem frame_kernel : quiescent_Kernel := fun m g _ =>
  (θ_run _ _ _).mono (fun _ h => ⟨fun c => (h.1 c).2, h.2⟩) (Cert.Kernel.Talk.run_main (F := Bits) m g)

theorem frame_kernelIdeal : quiescent_KernelIdeal := fun m g _ =>
  (θ_run _ _ _).mono (fun _ h => ⟨fun c => (h.1 c).2, h.2⟩) (Cert.KernelIdeal.Talk.run_main (F := Ideal) m g)

/-- The reference program has no semaphore. -/
theorem reference_no_sem (g : GSem Cert.ReferenceIdeal.nD Cert.ReferenceIdeal.τ Cert.ReferenceIdeal.sig) : False := by
  rcases g with ⟨_, s⟩
  cases s with
  | reg s => exact Fin.elim0 s
  | dma s => exact Fin.elim0 s

theorem frame_reference : quiescent_ReferenceIdeal := fun m g _ =>
  (θ_run _ _ _).mono (fun _ h => ⟨fun c => (h c).2, funext fun s => (reference_no_sem s).elim⟩) (Cert.ReferenceIdeal.Value.run (F := Ideal) m g)

end Cert.Proof

end
-- ==== Proof.Val.Part.lean ====
/- One device's partial product, read at an index: attention of its four heads times its rows of the output matrix. -/
module

public import proofs.«01_k».proof.Proof.KI.Bufs
public import Idealize.ShloMosaic.Lib.Pointwise

@[expose] public section

set_option maxRecDepth 16384

noncomputable section

namespace Cert.KernelIdeal.Value

open Cert.KernelIdeal Cert.KernelIdeal.Gen Cert.KernelIdeal.Talk
open Idealize.ShloMosaic

/-- The queries of a batch row: activations times the device's columns. -/
def kq (x : Ins Ideal) (b : Fin 2) (i n : Fin 256) : EReal := ∑ d : Fin 512, x.x0 (ix3 b i d) * x.x1 (ix2 d n)

/-- Column `e` of head `h`. -/
def hcol (h : Fin 4) (e : Fin 64) : Fin 256 := ⟨h.val * 64 + e.val, by omega⟩

/-- The score of query row `i` against key row `j`. -/
def ks (x : Ins Ideal) (b : Fin 2) (h : Fin 4) (i j : Fin 256) : EReal :=
  ∑ e : Fin 64, kq x b i (hcol h e) * x.x2 (ix4 b j h e)

/-- A head's context: the masked exponentials against the values, over the sum of the masked exponentials. -/
def kctx (x : Ins Ideal) (b : Fin 2) (h : Fin 4) (i : Fin 256) (e : Fin 64) : EReal :=
  Ideal.div (∑ j : Fin 256, Scalar.select (m125 (ix2 i j)) (Ideal.exp (ks x b h i j) * x.x3 (ix4 b j h e)) 0)
    (∑ j : Fin 256, Scalar.select (m125 (ix2 i j)) (Ideal.exp (ks x b h i j)) 0)

/-- A device's partial product. -/
def kpart (x : Ins Ideal) (b : Fin 2) (i : Fin 256) (m : Fin 512) : EReal :=
  ∑ n : Fin 256, kctx x b ⟨n.val / 64, by omega⟩ i ⟨n.val % 64, by omega⟩ * x.x4 (ix2 n m)

theorem pay14_apply (x : Ins Ideal) (r : Fin 256) (n : Fin 256) :
    k0_pay14 (F := Ideal) x.x1 x.x0 (ix2 r n) = kq x 0 r n := by
  have hr : r.val / 256 = 0 := by omega
  have hm : r.val % 256 = r.val := by omega
  pointwise [k0_pay14, kq, k0_pay13]
  simp only [hr, hm]
  rfl

theorem pay20_apply (x : Ins Ideal) (r : Fin 256) (n : Fin 256) :
    k0_pay20 (F := Ideal) (k0_pay13 x.x1 x.x0) (ix2 r n) = kq x 1 r n := by
  have hr : (256 + r.val) / 256 = 1 := by omega
  pointwise [k0_pay20, kq, k0_pay13]
  simp only [hr]
  rfl

theorem hcol_zero (e : Fin 64) (h : e.val < 256) : (⟨e.val, h⟩ : Fin 256) = hcol 0 e := Fin.ext (by simp [hcol])
theorem hcol_one (e : Fin 64) (h : 64 + e.val < 256) : (⟨64 + e.val, h⟩ : Fin 256) = hcol 1 e :=
  Fin.ext (by simp [hcol])
theorem hcol_two (e : Fin 64) (h : 128 + e.val < 256) : (⟨128 + e.val, h⟩ : Fin 256) = hcol 2 e :=
  Fin.ext (by simp [hcol])
theorem hcol_three (e : Fin 64) (h : 192 + e.val < 256) : (⟨192 + e.val, h⟩ : Fin 256) = hcol 3 e :=
  Fin.ext (by simp [hcol])

theorem m125_fold : k0_pay9 m91 m107 m123 = m125 := rfl

theorem kctx_at (x : Ins Ideal) (b : Fin 2) (i n : Fin 256) (h : Fin 4) (e : Fin 64)
    (hn : n.val = h.val * 64 + e.val) :
    kctx x b ⟨n.val / 64, by omega⟩ i ⟨n.val % 64, by omega⟩ = kctx x b h i e := by
  congr 1
  · exact Fin.ext (by simp; omega)
  · exact Fin.ext (by simp; omega)

theorem pay15_apply (x : Ins Ideal) (r : Fin 256) (n : Fin 64) :
    k0_pay15 (F := Ideal) m91 m107 m123 x.x1 x.x2 x.x3 x.x0 (ix2 r n) = kctx x 0 0 r n := by
  pointwise [k0_pay15, kctx, ks, pay14_apply, k0_pay11, k0_pay12, hcol_zero, m125_fold]

theorem h0_apply (x : Ins Ideal) (r : Fin 256) (m : Fin 512) :
    h0 x (ix3 0 r m) = kpart x 0 r m := by
  unfold h0 kpart
  pointwise [k0_pay18, k0_pay16, k0_pay17, k0_pay10, k0_pay11, k0_pay12, pay14_apply, pay15_apply, hcol_one,
    hcol_two, hcol_three]
  refine Finset.sum_congr rfl fun n _ => ?_
  congr 1
  by_cases h1 : n.val < 64
  · rw [dif_pos h1]; exact (kctx_at x 0 r n 0 ⟨n.val, h1⟩ (by simp)).symm
  rw [dif_neg h1]
  by_cases h2 : n.val - 64 < 64
  · rw [dif_pos h2, kctx_at x 0 r n 1 ⟨n.val - 64, h2⟩ (by simp; omega)]; simp only [kctx, ks]
  rw [dif_neg h2]
  by_cases h3 : n.val - 64 - 64 < 64
  · rw [dif_pos h3, kctx_at x 0 r n 2 ⟨n.val - 64 - 64, h3⟩ (by simp; omega)]; simp only [kctx, ks]
  rw [dif_neg h3, kctx_at x 0 r n 3 ⟨n.val - 64 - 64 - 64, by omega⟩ (by simp; omega)]; simp only [kctx, ks]

theorem pay11_eq (v : Vec Ideal S2x256x4x64 .bf16) : k0_pay11 v = v := by
  funext j; idx_vars j; pointwise [k0_pay11]

theorem pay12_eq (v : Vec Ideal S2x256x4x64 .bf16) : k0_pay12 v = v := by
  funext j; idx_vars j; pointwise [k0_pay12]

theorem pay21_apply (x : Ins Ideal) (r : Fin 256) (n : Fin 64) :
    k0_pay21 (F := Ideal) m125 x.x2 x.x3 (k0_pay13 x.x1 x.x0) (ix2 r n) = kctx x 1 0 r n := by
  pointwise [k0_pay21, kctx, ks, pay20_apply, hcol_zero]

theorem pay22_apply (x : Ins Ideal) (r : Fin 256) (n : Fin 64) :
    k0_pay22 (F := Ideal) m125 x.x2 x.x3 (k0_pay13 x.x1 x.x0) (ix2 r n) = kctx x 1 1 r n := by
  pointwise [k0_pay22, kctx, ks, pay20_apply, hcol_one]

theorem pay23_apply (x : Ins Ideal) (r : Fin 256) (n : Fin 64) :
    k0_pay23 (F := Ideal) m125 x.x2 x.x3 (k0_pay13 x.x1 x.x0) (ix2 r n) = kctx x 1 2 r n := by
  pointwise [k0_pay23, kctx, ks, pay20_apply, hcol_two]

theorem h1_apply (x : Ins Ideal) (r : Fin 256) (m : Fin 512) :
    h1 x (ix3 0 r m) = kpart x 1 r m := by
  unfold h1 kpart
  rw [pay11_eq, pay12_eq]
  pointwise [k0_pay26, k0_pay24, k0_pay25, k0_pay10, pay20_apply, pay21_apply, pay22_apply,
    pay23_apply, hcol_three]
  refine Finset.sum_congr rfl fun n _ => ?_
  congr 1
  by_cases h1 : n.val < 64
  · rw [dif_pos h1]; exact (kctx_at x 1 r n 0 ⟨n.val, h1⟩ (by simp)).symm
  rw [dif_neg h1]
  by_cases h2 : n.val - 64 < 64
  · rw [dif_pos h2, kctx_at x 1 r n 1 ⟨n.val - 64, h2⟩ (by simp; omega)]
  rw [dif_neg h2]
  by_cases h3 : n.val - 64 - 64 < 64
  · rw [dif_pos h3, kctx_at x 1 r n 2 ⟨n.val - 64 - 64, h3⟩ (by simp; omega)]
  rw [dif_neg h3, kctx_at x 1 r n 3 ⟨n.val - 64 - 64 - 64, by omega⟩ (by simp; omega)]; simp only [kctx, ks]

end Cert.KernelIdeal.Value

end
-- ==== Proof.Val.Sum.lean ====
/- The kernel's result: at every index, the sum over the devices of their partial products. -/
module

public import proofs.«01_k».proof.Proof.KI.Blocks
public import proofs.«01_k».proof.Proof.Val.Part

@[expose] public section

set_option maxRecDepth 16384

noncomputable section

namespace Cert.KernelIdeal.Value

open Cert.KernelIdeal Cert.KernelIdeal.Gen Cert.KernelIdeal.Talk
open Idealize.ShloMosaic

variable (X : Dev nD → Ins Ideal)

theorem Tc_apply (s : Dev nD) (b : Fin 2) (i : Fin 256) (m : Fin 512) : Tc X s (ix3 b i m) = kpart (X s) b i m := by
  fin_cases b
  · exact h0_apply (X s) i m
  · exact h1_apply (X s) i m

theorem Pc_apply (s : Dev nD) (b : Fin 2) (i : Fin 256) (m : Fin 512) :
    (Pc X s : S2x256x512.Idx → EReal) (ix3 b i m) = kpart (X s) b i m := by
  fin_cases b
  · show k0_pay19 (h0 (X s)) (ix3 0 i m) = _
    generalize hg : h0 (X s) = g
    pointwise [k0_pay19]
    rw [← hg]; exact h0_apply (X s) i m
  · show k0_pay27 (h1 (X s)) (ix3 0 i m) = _
    generalize hg : h1 (X s) = g
    pointwise [k0_pay27]
    rw [← hg]; exact h1_apply (X s) i m

/-- An index is fixed by its block and its place in the block. -/
theorem blk_inj (i k : S2x256x512.Idx) (hb : blkOf i = blkOf k) (hi : inBlk i = inBlk k) : i = k := by
  have h0 : (i 0).val < 2 := (i 0).isLt
  have h1 : (i 1).val < 256 := (i 1).isLt
  have k0 : (k 0).val < 2 := (k 0).isLt
  have k1 : (k 1).val < 256 := (k 1).isLt
  have e : (i 0).val * 8 + (i 1).val / 32 = (k 0).val * 8 + (k 1).val / 32 := congrArg Fin.val hb
  have e1 : (i 1).val % 32 = (k 1).val % 32 := congrArg (fun j : S32x512.Idx => (j 0).val) hi
  have e2 : i 2 = k 2 := congrFun hi 1
  funext a
  fin_cases a
  · exact Fin.ext (by show (i 0).val = (k 0).val; omega)
  · exact Fin.ext (by show (i 1).val = (k 1).val; omega)
  · exact e2

theorem sent_apply (i : S2x256x512.Idx) (s : Dev nD) : sent (Pc X) (blkOf i) s (inBlk i) = Pc X s i := by
  have e := emb_blk (blkOf i) (inBlk i) (squeezes_S1x32x512_S32x512).numel_eq.symm
  show Pc X s ((rB (blkOf i)).emb (Shape.reshapeEquiv _ (inBlk i))) = Pc X s i
  rw [blk_inj _ i e.1 e.2]

theorem own_apply (i : S2x256x512.Idx) :
    (rB (blkOf i)).emb (ix3 (0 : Fin 1) (⟨(i 1).val % 32, Nat.mod_lt _ (by decide)⟩ : Fin 32) (i 2)) = i := by
  have h0 : (i 0).val < 2 := (i 0).isLt
  have h1 : (i 1).val < 256 := (i 1).isLt
  funext a
  fin_cases a
  · refine Fin.ext ?_
    show ((i 0).val * 8 + (i 1).val / 32) / 8 + 1 * 0 = (i 0).val
    omega
  · refine Fin.ext ?_
    show ((i 0).val * 8 + (i 1).val / 32) % 8 * 32 + 1 * ((i 1).val % 32) = (i 1).val
    omega
  · refine Fin.ext ?_
    show 0 + 1 * (i 2).val = (i 2).val
    omega

theorem landed_apply (c : Dev nD) (s : Fin 16) (r : Fin 32) (m : Fin 512) :
    Rc X c (ix3 s r m) = if s.val = c.val then (0 : EReal) else sent (Pc X) c ⟨s.val, s.isLt⟩ (ix2 r m) := by
  have z : (k0_pay1 (F := Ideal)) (ix3 (0 : Fin 1) r m) = (0 : EReal) := by pointwise [k0_pay1]
  rw [← z]; rfl

theorem sum_block (T : S1x32x512.Idx → EReal) (R : S16x32x512.Idx → EReal) (r : Fin 32) (m : Fin 512) :
    (k0_pay30 (F := Ideal) (k0_pay28 (F := Ideal) T) (k0_pay29 (F := Ideal) R) : S32x512.Idx → EReal) (ix2 r m)
      = T (ix3 0 r m) + ∑ s : Fin 16, R (ix3 s r m) := by
  pointwise [k0_pay30, k0_pay28, k0_pay29]

/-- A sum with its own member left out and added apart. -/
theorem own_add_others (f : Fin 16 → EReal) (c : Fin 16) : f c + ∑ s, (if s.val = c.val then 0 else f s) = ∑ s, f s := by
  rw [← Finset.add_sum_erase Finset.univ f (Finset.mem_univ c),
    ← Finset.add_sum_erase Finset.univ (fun s : Fin 16 => if s.val = c.val then 0 else f s) (Finset.mem_univ c),
    if_pos rfl, zero_add]
  refine congrArg _ (Finset.sum_congr rfl fun s hs => ?_)
  rw [if_neg fun h => (Finset.mem_erase.mp hs).1 (Fin.ext h)]

theorem Oc_apply (b : Fin 2) (i : Fin 256) (m : Fin 512) :
    (Oc X : S2x256x512.Idx → EReal) (ix3 b i m) = ∑ s : Fin 16, kpart (X s) b i m := by
  have key := sum_block (fun j => Tc X (blkOf (ix3 b i m)) ((rB (blkOf (ix3 b i m))).emb j)) (Rc X (blkOf (ix3 b i m)))
    ⟨i.val % 32, Nat.mod_lt _ (by decide)⟩ m
  refine key.trans ?_
  have o := own_apply (ix3 b i m)
  have hs := sent_apply X (ix3 b i m)
  generalize hc : blkOf (ix3 b i m) = c at o hs ⊢
  have t : Tc X c ((rB c).emb (ix3 (0 : Fin 1) (⟨i.val % 32, Nat.mod_lt _ (by decide)⟩ : Fin 32) m)) = kpart (X c) b i m :=
    (congrArg (Tc X c) o).trans (Tc_apply X c b i m)
  rw [← own_add_others (fun s => kpart (X s) b i m) c]
  refine congr (congrArg _ t) (Finset.sum_congr rfl fun s _ => ?_)
  rw [landed_apply]
  refine if_congr Iff.rfl rfl ?_
  exact (hs s).trans (Pc_apply X s b i m)

end Cert.KernelIdeal.Value

end
-- ==== Proof.Val.Host.lean ====
/- What the windows stage on a device, read from the arguments: its columns of the query matrix scaled, its rows of the
output matrix, the whole activations, its own keys and values. -/
module

public import proofs.«01_k».proof.Proof.KI.Region
public import Idealize.ShloMosaic.Lib.Claim
public import Idealize.ShloMosaic.Lib.Pointwise
public import Idealize.ShloMosaic.Lib.Pipeline.ValueKit.Point

@[expose] public section

set_option maxRecDepth 16384

noncomputable section

namespace Cert.KernelIdeal.Value

open Cert.KernelIdeal Cert.KernelIdeal.Gen Cert.KernelIdeal.Talk
open Idealize.ShloMosaic
open Idealize.ShloMosaic.TcCoe

variable (m : (ℓ : Loc nD τ sig) → Buf (Elt Ideal) ℓ)

theorem index0 : ∀ a, win0_0.index t0_0 a = 0 := by decide
theorem read0 (f : S2x256x512.Idx → EReal) : ((cfg0.win 0).blk t0_0).view.read (Elt Ideal) f = f := by
  funext y; blk_ext [index0]
theorem index1 : ∀ a, win0_1.index t0_0 a = 0 := by decide
theorem read1 (f : S512x256.Idx → EReal) : ((cfg0.win 1).blk t0_0).view.read (Elt Ideal) f = f := by
  funext y; blk_ext [index1]
theorem index2 : ∀ a, win0_2.index t0_0 a = 0 := by decide
theorem read2 (f : S2x256x4x64.Idx → EReal) : ((cfg0.win 2).blk t0_0).view.read (Elt Ideal) f = f := by
  funext y; blk_ext [index2]
theorem index3 : ∀ a, win0_3.index t0_0 a = 0 := by decide
theorem read3 (f : S2x256x4x64.Idx → EReal) : ((cfg0.win 3).blk t0_0).view.read (Elt Ideal) f = f := by
  funext y; blk_ext [index3]
theorem index4 : ∀ a, win0_4.index t0_0 a = 0 := by decide
theorem read4 (f : S256x512.Idx → EReal) : ((cfg0.win 4).blk t0_0).view.read (Elt Ideal) f = f := by
  funext y; blk_ext [index4]

theorem X_x0 (c : Dev nD) : (X m c).x0 = m ((c.tc : Thread nD τ).loc main_arg0) := by
  refine (read0 (V1 m c main_arg0)).trans ?_
  show StableHlo.after (hostOps0 c) (V0 m c) main_arg0 = _
  entry_read
  rfl

theorem X_x2 (c : Dev nD) : (X m c).x2 = m ((c.tc : Thread nD τ).loc main_arg2) := by
  refine (read2 (V1 m c main_arg2)).trans ?_
  show StableHlo.after (hostOps0 c) (V0 m c) main_arg2 = _
  entry_read
  rfl

theorem X_x3 (c : Dev nD) : (X m c).x3 = m ((c.tc : Thread nD τ).loc main_arg3) := by
  refine (read3 (V1 m c main_arg3)).trans ?_
  show StableHlo.after (hostOps0 c) (V0 m c) main_arg3 = _
  entry_read
  rfl

/-- Where a device's columns start, and where its rows start. -/
def start1 (c : Dev nD) : Fin 2 → ℤ := ![0, 256 * (c.val : ℤ)]
def start4 (c : Dev nD) : Fin 2 → ℤ := ![256 * (c.val : ℤ), 0]

theorem X_x1 (c : Dev nD) :
    (X m c).x1 = mulf (F := Ideal) (Host.dynamicSlice S512x256 (m ((c.tc : Thread nD τ).loc main_arg1) : S512x4096.Idx → EReal) (start1 c) sliceFits_S512x4096_S512x256)
      (broadcastInDim S512x256 ![] bcast_S_S512x256 (constant S_ FTy.bf16 0x3E00#16)) := by
  refine (read1 (V1 m c main_v11)).trans ?_
  show StableHlo.after (hostOps0 c) (V0 m c) main_v11 = _
  entry_read
  refine congrArg (fun z => mulf z _) ?_
  refine congrArg (fun z => Host.dynamicSlice S512x256 _ z _) (funext fun k => ?_)
  fin_cases k
  · generalize hσ : HloOp.result _ _ = σ
    show BitVec.toInt ((σ (Proc.tc.devRef main_c_4) : S_.Idx → BitVec 32) (Shape.Idx.first h_S_)) = _
    rw [← hσ]
    after_results
    clear hσ σ
    revert c; decide +kernel
  · generalize hσ : HloOp.result _ _ = σ
    show BitVec.toInt ((σ (Proc.tc.devRef main_v8) : S_.Idx → BitVec 32) (Shape.Idx.first h_S_)) = _
    rw [← hσ]
    after_results
    clear hσ σ
    revert c; decide +kernel

theorem X_x4 (c : Dev nD) :
    (X m c).x4 = Host.dynamicSlice S256x512 (m ((c.tc : Thread nD τ).loc main_arg4) : S4096x512.Idx → EReal) (start4 c) sliceFits_S4096x512_S256x512 := by
  refine (read4 (V1 m c main_v16)).trans ?_
  show StableHlo.after (hostOps0 c) (V0 m c) main_v16 = _
  entry_read
  refine congrArg (fun z => Host.dynamicSlice S256x512 _ z _) (funext fun k => ?_)
  fin_cases k
  · generalize hσ : HloOp.result _ _ = σ
    show BitVec.toInt ((σ (Proc.tc.devRef main_v15) : S_.Idx → BitVec 32) (Shape.Idx.first h_S_)) = _
    rw [← hσ]
    after_results
    clear hσ σ
    revert c; decide +kernel
  · generalize hσ : HloOp.result _ _ = σ
    show BitVec.toInt ((σ (Proc.tc.devRef main_c_8) : S_.Idx → BitVec 32) (Shape.Idx.first h_S_)) = _
    rw [← hσ]
    after_results
    clear hσ σ
    revert c; decide +kernel

theorem clamp1 : ∀ (c : Dev nD) (h : S512x256.rank = S512x4096.rank),
    Host.clampedStart S512x4096 S512x256 h (start1 c) 0 = 0 ∧ Host.clampedStart S512x4096 S512x256 h (start1 c) 1 = 256 * c.val := by
  decide +kernel

theorem clamp4 : ∀ (c : Dev nD) (h : S256x512.rank = S4096x512.rank),
    Host.clampedStart S4096x512 S256x512 h (start4 c) 0 = 256 * c.val ∧ Host.clampedStart S4096x512 S256x512 h (start4 c) 1 = 0 := by
  decide +kernel

/-- A position of a device's share, among all. -/
def ofDev (c : Dev nD) (n : Fin 256) : Fin 4096 := ⟨256 * c.val + n.val, by have : c.val < 16 := c.isLt; omega⟩

theorem slice1_apply (x : S512x4096.Idx → EReal) (c : Dev nD) (d : Fin 512) (n : Fin 256) :
    Host.dynamicSlice S512x256 x (start1 c) sliceFits_S512x4096_S512x256 (ix2 d n) = x (ix2 d (ofDev c n)) := by
  pointwise
  refine congrArg x (congrArg₂ ix2 (Fin.ext ?_) (Fin.ext ?_))
  · show Host.clampedStart S512x4096 S512x256 _ (start1 c) 0 + d.val = d.val
    rw [(clamp1 c _).1, zero_add]
  · show Host.clampedStart S512x4096 S512x256 _ (start1 c) 1 + n.val = 256 * c.val + n.val
    rw [(clamp1 c _).2]

theorem slice4_apply (x : S4096x512.Idx → EReal) (c : Dev nD) (n : Fin 256) (k : Fin 512) :
    Host.dynamicSlice S256x512 x (start4 c) sliceFits_S4096x512_S256x512 (ix2 n k) = x (ix2 (ofDev c n) k) := by
  pointwise
  refine congrArg x (congrArg₂ ix2 (Fin.ext ?_) (Fin.ext ?_))
  · show Host.clampedStart S4096x512 S256x512 _ (start4 c) 0 + n.val = 256 * c.val + n.val
    rw [(clamp4 c _).1]
  · show Host.clampedStart S4096x512 S256x512 _ (start4 c) 1 + k.val = k.val
    rw [(clamp4 c _).2, zero_add]

theorem ofBits_eighth_bf16 : Ideal.ofBits .bf16 0x3E00#16 = ((1 / 8 : ℝ) : EReal) := by
  simp [Ideal.ofBits, Ideal.ieee, -EReal.coe_mul]; norm_num

theorem scaled_apply (x : S512x4096.Idx → EReal) (c : Dev nD) (d : Fin 512) (n : Fin 256) :
    mulf (F := Ideal) (Host.dynamicSlice S512x256 x (start1 c) sliceFits_S512x4096_S512x256)
      (broadcastInDim S512x256 ![] bcast_S_S512x256 (constant S_ FTy.bf16 0x3E00#16)) (ix2 d n)
      = x (ix2 d (ofDev c n)) * ((1 / 8 : ℝ) : EReal) := by
  rw [← ofBits_eighth_bf16, ← slice1_apply x c d n]
  generalize Host.dynamicSlice S512x256 x (start1 c) sliceFits_S512x4096_S512x256 = y
  pointwise

section
variable (c : Dev nD)
/-- A device's arguments as arrays of extended reals. -/
def A0 : S2x256x512.Idx → EReal := m ((c.tc : Thread nD τ).loc main_arg0)
def A1 : S512x4096.Idx → EReal := m ((c.tc : Thread nD τ).loc main_arg1)
def A2 : S2x256x4x64.Idx → EReal := m ((c.tc : Thread nD τ).loc main_arg2)
def A3 : S2x256x4x64.Idx → EReal := m ((c.tc : Thread nD τ).loc main_arg3)
def A4 : S4096x512.Idx → EReal := m ((c.tc : Thread nD τ).loc main_arg4)
end

theorem x1_apply (c : Dev nD) (d : Fin 512) (n : Fin 256) :
    (X m c).x1 (ix2 d n) = A1 m c (ix2 d (ofDev c n)) * ((1 / 8 : ℝ) : EReal) := by
  rw [X_x1]; exact scaled_apply (A1 m c) c d n

theorem x4_apply (c : Dev nD) (n : Fin 256) (k : Fin 512) :
    (X m c).x4 (ix2 n k) = A4 m c (ix2 (ofDev c n) k) := by
  rw [X_x4]; exact slice4_apply (A4 m c) c n k

end Cert.KernelIdeal.Value

end
-- ==== Proof.Val.Ref.lean ====
/- The reference's result, opened: the mask, the scores, the weights, the context, the output product. -/
module

public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.ReferenceIdeal.Value

open Cert.ReferenceIdeal Cert.ReferenceIdeal.Gen
open Idealize.ShloMosaic

/-- The divisor four, guarded against zero. -/
def four : IVec S_ 32 := select (cmpi .eq (id (constantI S_ 32 4#32)) (constantI S_ 32 0#32)) (constantI S_ 32 1#32) (id (constantI S_ 32 4#32))

/-- The chunk of 64 a position lies in. -/
def chunk : IVec S256 32 :=
  select
    (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The chunk's place among four, along the columns and down the rows. -/
def colPlace : IVec S1x256 32 :=
  let r := Host.remsi (broadcastInDim S1x256 ![1] bcast_S256_S1x256_1 chunk) (broadcastInDim S1x256 ![] bcast_S_S1x256 four)
  select
    (andi (cmpi .ne (cmpi .slt r (broadcastInDim S1x256 ![] bcast_S_S1x256 (constantI S_ 32 0#32)))
        (broadcastInDim S1x256 ![] bcast_S_S1x256 (cmpi .slt four (constantI S_ 32 0#32))))
      (cmpi .ne r (broadcastInDim S1x256 ![] bcast_S_S1x256 (constantI S_ 32 0#32))))
    (addi r (broadcastInDim S1x256 ![] bcast_S_S1x256 four)) r
def rowPlace : IVec S256x1 32 :=
  let r := Host.remsi (broadcastInDim S256x1 ![0] bcast_S256_S256x1_0 chunk) (broadcastInDim S256x1 ![] bcast_S_S256x1 four)
  select
    (andi (cmpi .ne (cmpi .slt r (broadcastInDim S256x1 ![] bcast_S_S256x1 (constantI S_ 32 0#32)))
        (broadcastInDim S256x1 ![] bcast_S_S256x1 (cmpi .slt four (constantI S_ 32 0#32))))
      (cmpi .ne r (broadcastInDim S256x1 ![] bcast_S_S256x1 (constantI S_ 32 0#32))))
    (addi r (broadcastInDim S256x1 ![] bcast_S_S256x1 four)) r

def maskR : IVec S256x256 1 :=
  ori
    (cmpi .eq (broadcastInDim S256x256 ![0, 1] bcast_S256x1_S256x256_0_1 (broadcastInDim S256x1 ![0] bcast_S256_S256x1_0 chunk))
      (broadcastInDim S256x256 ![0, 1] bcast_S1x256_S256x256_0_1 (broadcastInDim S1x256 ![1] bcast_S256_S1x256_1 chunk)))
    (cmpi .eq (broadcastInDim S256x256 ![0, 1] bcast_S1x256_S256x256_0_1 colPlace)
      (broadcastInDim S256x256 ![0, 1] bcast_S256x1_S256x256_0_1 rowPlace))

/-- Which rows keep any pair. -/
def anyR : IVec S256 1 := Host.reduce IntOp.ori maskR (constantI S_ 1 0#1) reducesTo_S256x256_S256_d1 h_S_

section
variable (a0 : FVec Ideal S2x256x512 .bf16) (a1 : FVec Ideal S512x4096 .bf16) (a2 a3 : FVec Ideal S2x256x64x64 .bf16)
  (a4 : FVec Ideal S4096x512 .bf16)

/-- The masked scores. -/
def scoreR : FVec Ideal S2x64x256x256 .f32 :=
  select
    (broadcastInDim S2x64x256x256 ![0, 1, 2, 3] bcast_S1x1x256x256_S2x64x256x256_0_1_2_3
      (broadcastInDim S1x1x256x256 ![2, 3] bcast_S256x256_S1x1x256x256_2_3 maskR))
    (mulf
      (extf .f32 (truncf .bf16 (Host.dotGeneral dot_S2x256x64x64_S2x256x64x64_S2x64x256x256_3_3_1_1_02_02 none
        (shapeCast _ (truncf .bf16 (Host.dotGeneral dot_S2x256x512_S512x4096_S2x256x4096_2_0_01_1_n_n none a0 a1 : FVec Ideal S2x256x4096 .f32) bitsLt_bf16_f32)
          shapeCasts_S2x256x4096_S2x256x64x64) a2 : FVec Ideal S2x64x256x256 .f32) bitsLt_bf16_f32) bitsLt_bf16_f32)
      (broadcastInDim S2x64x256x256 ![] bcast_S_S2x64x256x256 (constant S_ .f32 0x3E000000#32)))
    (broadcastInDim S2x64x256x256 ![] bcast_S_S2x64x256x256 (id (constant S_ .f32 0xFF800000#32)))

/-- The exponentials of the scores less their row's largest. -/
def expR : FVec Ideal S2x64x256x256 .f32 :=
  Host.exp (subf (scoreR a0 a1 a2) (broadcastInDim S2x64x256x256 ![0, 1, 2, 3] bcast_S2x64x256x1_S2x64x256x256_0_1_2_3
    (broadcastInDim S2x64x256x1 ![0, 1, 2] bcast_S2x64x256_S2x64x256x1_0_1_2
      (Host.reduce FloatOps.maximumf (scoreR a0 a1 a2) (constant S_ .f32 0xFF800000#32) reducesTo_S2x64x256x256_S2x64x256_d3 h_S_))))

/-- Their sums. -/
def sumR : FVec Ideal S2x64x256x1 .f32 :=
  select
    (broadcastInDim S2x64x256x1 ![0, 1, 2, 3] bcast_S1x1x256x1_S2x64x256x1_0_1_2_3
      (broadcastInDim S1x1x256x1 ![2] bcast_S256_S1x1x256x1_2 anyR))
    (broadcastInDim S2x64x256x1 ![0, 1, 2] bcast_S2x64x256_S2x64x256x1_0_1_2
      (Host.reduceAdd (expR a0 a1 a2) (constant S_ .f32 0x00000000#32) reducesTo_S2x64x256x256_S2x64x256_d3 h_S_))
    (broadcastInDim S2x64x256x1 ![] bcast_S_S2x64x256x1 (id (constant S_ .f32 0x3F800000#32)))

/-- The weights against the values, heads outermost. -/
def ctxR : FVec Ideal S2x64x64x256 .f32 :=
  Host.dotGeneral dot_S2x256x64x64_S2x64x256x256_S2x64x64x256_1_3_3_2_02_01 none a3
    (select
      (broadcastInDim S2x64x256x256 ![0, 1, 2, 3] bcast_S1x1x256x1_S2x64x256x256_0_1_2_3
        (broadcastInDim S1x1x256x1 ![2] bcast_S256_S1x1x256x1_2 anyR))
      (Host.divf (expR a0 a1 a2) (broadcastInDim S2x64x256x256 ![0, 1, 2, 3] bcast_S2x64x256x1_S2x64x256x256_0_1_2_3 (sumR a0 a1 a2)))
      (broadcastInDim S2x64x256x256 ![] bcast_S_S2x64x256x256 (id (constant S_ .f32 0x00000000#32))))

/-- The result. -/
def outR : FVec Ideal S2x256x512 .bf16 :=
  truncf .bf16 (Host.dotGeneral dot_S2x256x4096_S4096x512_S2x256x512_2_0_01_1_n_n none
    (shapeCast _ (transpose S2x256x64x64 [0, 3, 1, 2] (ctxR a0 a1 a2 a3) transposes_S2x64x64x256_S2x256x64x64_0_3_1_2)
      shapeCasts_S2x256x64x64_S2x256x4096) (extf .f32 a4 bitsLt_bf16_f32) : FVec Ideal S2x256x512 .f32) bitsLt_bf16_f32

end

theorem res_eq (m : (ℓ : Loc nD τ sig) → Buf (Elt Ideal) ℓ) (c : Dev nD) :
    res_main_v44 (F := Ideal) m c
      = outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold res_main_v44
  rfl

/-- The chunk of a position, as a word. -/
def word (i : Fin 256) : BitVec 32 := BitVec.ofNat 32 (i.val / 64)

theorem chunk_apply (i : Fin 256) : chunk (ix1 i) = word i := by
  pointwise [chunk, id]
  revert i; decide +kernel

theorem colPlace_apply (i : Fin 256) : colPlace (ix2 0 i) = word i := by
  pointwise [colPlace, four, chunk_apply, id]
  revert i; decide +kernel

theorem rowPlace_apply (i : Fin 256) : rowPlace (ix2 i 0) = word i := by
  pointwise [rowPlace, four, chunk_apply, id]
  revert i; decide +kernel

theorem maskR_apply (i j : Fin 256) :
    maskR (ix2 i j) = IntOp.ori (IntOp.cmpi .eq (word i) (word j)) (IntOp.cmpi .eq (word j) (word i)) := by
  pointwise [maskR, chunk_apply, colPlace_apply, rowPlace_apply]

theorem maskR_self (i : Fin 256) : maskR (ix2 i i) = 1 := by
  rw [maskR_apply]; revert i; decide +kernel

theorem anyR_apply (i : Fin 256) : anyR (ix1 i) = 1 := by
  pointwise [anyR]
  exact (Routing.fold_ori _ _).mpr ⟨i, Finset.mem_univ i, maskR_self i⟩

section
variable (a0 : FVec Ideal S2x256x512 .bf16) (a1 : FVec Ideal S512x4096 .bf16) (a2 a3 : FVec Ideal S2x256x64x64 .bf16)
  (a4 : FVec Ideal S4096x512 .bf16)

/-- Column `e` of head `h`. -/
def col (h e : Fin 64) : Fin 4096 := ⟨h.val * 64 + e.val, by omega⟩

theorem ofBits_neg_inf : Ideal.ofBits FTy.f32 0xFF800000#32 = ⊥ := by
  simp [Ideal.ofBits, Ideal.ieee]

theorem ofBits_eighth : Ideal.ofBits FTy.f32 0x3E000000#32 = ((1 / 8 : ℝ) : EReal) := by
  simp [Ideal.ofBits, Ideal.ieee, -EReal.coe_mul]; norm_num

theorem scoreR_apply (b : Fin 2) (h : Fin 64) (i j : Fin 256) :
    scoreR a0 a1 a2 (ix4 b h i j)
      = Scalar.select (maskR (ix2 i j))
          ((∑ e : Fin 64, (∑ d : Fin 512, a0 (ix3 b i d) * a1 (ix2 d (col h e))) * a2 (ix4 b j h e)) * ((1 / 8 : ℝ) : EReal)) ⊥ := by
  pointwise [scoreR, id]
  rw [ofBits_neg_inf, ofBits_eighth]
  rfl

theorem expR_apply (b : Fin 2) (h : Fin 64) (i j : Fin 256) :
    expR a0 a1 a2 (ix4 b h i j)
      = Ideal.exp (scoreR a0 a1 a2 (ix4 b h i j)
          - Finset.univ.fold max (⊥ : EReal) fun k : Fin 256 => scoreR a0 a1 a2 (ix4 b h i k)) := by
  pointwise [expR, id]
  rw [ofBits_neg_inf]

theorem sumR_apply (b : Fin 2) (h : Fin 64) (i : Fin 256) :
    sumR a0 a1 a2 (ix4 b h i 0) = ∑ j : Fin 256, expR a0 a1 a2 (ix4 b h i j) := by
  pointwise [sumR, id, anyR_apply]
  rfl

theorem ctxR_apply (b : Fin 2) (h e : Fin 64) (i : Fin 256) :
    ctxR a0 a1 a2 a3 (ix4 b h e i)
      = ∑ j : Fin 256, a3 (ix4 b j h e) * Ideal.div (expR a0 a1 a2 (ix4 b h i j)) (∑ l : Fin 256, expR a0 a1 a2 (ix4 b h i l)) := by
  pointwise [ctxR, id, anyR_apply, sumR_apply]
  rfl

theorem outR_apply (b : Fin 2) (i : Fin 256) (m : Fin 512) :
    outR a0 a1 a2 a3 a4 (ix3 b i m)
      = ∑ n : Fin 4096, ctxR a0 a1 a2 a3 (ix4 b ⟨n.val / 64, by omega⟩ ⟨n.val % 64, by omega⟩ i) * a4 (ix2 n m) := by
  pointwise [outR]

end

end Cert.ReferenceIdeal.Value

end
-- ==== Proof.Val.Mask.lean ====
/- The kernel's mask is the reference's. -/
module

public import proofs.«01_k».proof.Proof.KI.Bufs
public import proofs.«01_k».proof.Proof.Val.Ref

@[expose] public section

set_option maxRecDepth 16384

noncomputable section

namespace Cert.KernelIdeal.Value

open Cert.KernelIdeal Cert.KernelIdeal.Gen Cert.KernelIdeal.Talk
open Idealize.ShloMosaic
open Cert.ReferenceIdeal.Value (word maskR maskR_apply)

theorem row_word (i j : Fin 256) : k0_pay2 (ix2 i j) = word i := by
  pointwise [k0_pay2]
  revert i; decide +kernel

theorem col_word (i j : Fin 256) : k0_pay5 i66 64#32 k0_pay3 k0_pay4 i77 0#32 (ix2 i j) = word j := by
  pointwise [k0_pay5, i66, i77, k0_pay3, k0_pay4]
  revert j; decide +kernel

theorem col_place (i j : Fin 256) : m107 (ix2 i j) = word j := by
  pointwise [m107, k0_pay7, col_word]
  revert j; decide +kernel

theorem row_place (i j : Fin 256) : m123 (ix2 i j) = word i := by
  pointwise [m123, k0_pay8, row_word]
  revert i; decide +kernel

theorem mask_eq (i j : Fin 256) : m125 (ix2 i j) = maskR (ix2 i j) := by
  rw [maskR_apply]
  pointwise [m125, k0_pay9, m91, k0_pay6, row_word, col_word, col_place, row_place]

end Cert.KernelIdeal.Value

end
-- ==== Proof.Val.Soft.lean ====
/- Softmax over a masked row: with real scores, dividing masked exponentials after the product with the values is
dividing shifted exponentials before it. The values may be infinite. -/
module

public import Idealize.ShloMosaic.Lib.Pointwise

@[expose] public section

noncomputable section

namespace Cert.Value

open Idealize.ShloMosaic

variable {ι : Type} [Fintype ι]

theorem coe_sum_real (f : ι → ℝ) (t : Finset ι) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A nonnegative real factor moves into a sum of extended reals. -/
theorem sum_mul_real (f : ι → EReal) (t : Finset ι) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha,
      EReal.right_distrib_of_nonneg_of_ne_top (EReal.coe_nonneg.mpr hr) (EReal.coe_ne_top r), ih]

theorem select_coe (c : BitVec 1) (a : ℝ) : Scalar.select c (a : EReal) 0 = ((Scalar.select c a 0 : ℝ) : EReal) := by
  unfold Scalar.select; split <;> simp

/-- The largest kept score of a row that keeps one is real. -/
theorem max_real (c : ι → BitVec 1) (s : ι → ℝ) (i : ι) (hi : c i = 1) :
    ∃ μ : ℝ, Finset.univ.fold max (⊥ : EReal) (fun j => Scalar.select (c j) (s j : EReal) ⊥) = μ := by
  have hb : Finset.univ.fold max (⊥ : EReal) (fun j => Scalar.select (c j) (s j : EReal) ⊥) ≠ ⊥ := by
    intro h
    have := (Finset.fold_max_le (b := (⊥ : EReal)) (c := ⊥) (f := fun j => Scalar.select (c j) (s j : EReal) ⊥)
      (s := Finset.univ)).mp h.le
    have := this.2 i (Finset.mem_univ i)
    rw [hi] at this
    exact absurd (le_bot_iff.mp this) (EReal.coe_ne_bot _)
  have ht : Finset.univ.fold max (⊥ : EReal) (fun j => Scalar.select (c j) (s j : EReal) ⊥) ≠ ⊤ := by
    refine ne_of_lt ((Finset.fold_max_lt ⊤).mpr ⟨bot_lt_top, fun j _ => ?_⟩)
    unfold Scalar.select
    split
    · exact EReal.coe_lt_top _
    · exact bot_lt_top
  exact ⟨_, (EReal.coe_toReal ht hb).symm⟩

theorem exp_shift (c : BitVec 1) (s μ : ℝ) :
    Ideal.exp (Scalar.select c (s : EReal) ⊥ - (μ : EReal)) = ((Scalar.select c (Real.exp s) 0 * Real.exp (-μ) : ℝ) : EReal) := by
  unfold Scalar.select
  split
  · rw [← EReal.coe_sub, Ideal.exp_coe, ← Real.exp_add, sub_eq_add_neg]
  · rw [EReal.bot_sub, Ideal.exp_bot]; simp

theorem softmax_eq (c : ι → BitVec 1) (s : ι → ℝ) (v : ι → EReal) (i : ι) (hi : c i = 1) :
    Ideal.div (∑ j, Scalar.select (c j) (Ideal.exp (s j : EReal) * v j) 0) (∑ j, Scalar.select (c j) (Ideal.exp (s j : EReal)) 0)
      = ∑ j, v j * Ideal.div
          (Ideal.exp (Scalar.select (c j) (s j : EReal) ⊥ - Finset.univ.fold max (⊥ : EReal) (fun k => Scalar.select (c k) (s k : EReal) ⊥)))
          (∑ l, Ideal.exp (Scalar.select (c l) (s l : EReal) ⊥ - Finset.univ.fold max (⊥ : EReal) (fun k => Scalar.select (c k) (s k : EReal) ⊥))) := by
  obtain ⟨μ, hμ⟩ := max_real c s i hi
  rw [hμ]
  have hw : ∀ j, 0 ≤ Scalar.select (c j) (Real.exp (s j)) 0 := fun j => by
    unfold Scalar.select; split
    · exact (Real.exp_pos _).le
    · exact le_rfl
  have hi' : 0 < Scalar.select (c i) (Real.exp (s i)) 0 := by rw [hi]; exact Real.exp_pos _
  have hD : 0 < ∑ j, Scalar.select (c j) (Real.exp (s j)) 0 :=
    Finset.sum_pos' (fun j _ => hw j) ⟨i, Finset.mem_univ i, hi'⟩
  have hE : 0 < Real.exp (-μ) := Real.exp_pos _
  simp only [exp_shift, Ideal.exp_coe, select_coe]
  rw [← coe_sum_real, ← coe_sum_real, ← Finset.sum_mul]
  rw [Ideal.div_coe hD.ne', sum_mul_real _ _ (by positivity)]
  refine Finset.sum_congr rfl fun j _ => ?_
  rw [Ideal.div_coe (by positivity), ← EReal.coe_mul]
  have hr : Scalar.select (c j) (Real.exp (s j)) 0 * Real.exp (-μ) * (1 / ((∑ j, Scalar.select (c j) (Real.exp (s j)) 0) * Real.exp (-μ)))
      = Scalar.select (c j) (Real.exp (s j)) 0 * (1 / ∑ j, Scalar.select (c j) (Real.exp (s j)) 0) := by
    field_simp
  rw [hr]
  by_cases h : c j = 1
  · simp only [Scalar.select, h, if_true]
    rw [EReal.coe_mul, mul_comm ((Real.exp (s j) : ℝ) : EReal) (v j), mul_assoc]
  · have h' : ¬ c j = 1#1 := h
    simp [Scalar.select, h']

/-- A real is finite: below the largest and above the smallest. -/
theorem exists_real {a : EReal} (hb : a ≠ ⊥) (ht : a ≠ ⊤) : ∃ r : ℝ, a = r := ⟨_, (EReal.coe_toReal ht hb).symm⟩

/-- A score scaled in the query columns is the score scaled, and it is real. -/
theorem score_eq {α β : Type} [Fintype α] [Fintype β] (x : α → ℝ) (w : α → β → ℝ) (k : β → ℝ) (r : ℝ) :
    ∃ s : ℝ, (∑ e, (∑ d, (x d : EReal) * ((w d e : EReal) * (r : EReal))) * (k e : EReal) = (s : EReal))
      ∧ (∑ e, (∑ d, (x d : EReal) * (w d e : EReal)) * (k e : EReal)) * (r : EReal) = (s : EReal) := by
  refine ⟨∑ e, (∑ d, x d * (w d e * r)) * k e, ?_, ?_⟩
  · simp only [coe_sum_real, EReal.coe_mul]
  · have h : ∑ e, (∑ d, x d * (w d e * r)) * k e = (∑ e, (∑ d, x d * w d e) * k e) * r := by
      rw [Finset.sum_mul]
      refine Finset.sum_congr rfl fun e _ => ?_
      rw [Finset.sum_mul, Finset.sum_mul, Finset.sum_mul]
      exact Finset.sum_congr rfl fun d _ => by ring
    rw [h]
    simp only [coe_sum_real, EReal.coe_mul]

end Cert.Value

end
-- ==== Proof.Val.Same.lean ====
/- The kernel's sum over the devices is the reference's result, where activations, query matrix and keys are real. -/
module

public import proofs.«01_k».proof.Proof.Val.Mask
public import proofs.«01_k».proof.Proof.Val.Part
public import proofs.«01_k».proof.Proof.Val.Soft

@[expose] public section

set_option maxRecDepth 16384

noncomputable section

namespace Cert.KernelIdeal.Value

open Cert.KernelIdeal Cert.KernelIdeal.Gen Cert.KernelIdeal.Talk
open Idealize.ShloMosaic
open Cert.ReferenceIdeal.Value (maskR scoreR expR ctxR outR scoreR_apply expR_apply ctxR_apply outR_apply maskR_self col)
open Cert.Value

/-- A position of device `s`'s share of 256, and its head of the device's four, among all. -/
def pos (s : Fin 16) (n : Fin 256) : Fin 4096 := ⟨256 * s.val + n.val, by omega⟩
def head (s : Fin 16) (h : Fin 4) : Fin 64 := ⟨s.val * 4 + h.val, by omega⟩

/-- The devices' staged inputs, as the whole arrays determine them. -/
structure Cut (x : Fin 16 → Ins Ideal) (a0 : S2x256x512.Idx → EReal) (a1 : S512x4096.Idx → EReal)
    (a2 a3 : Cert.ReferenceIdeal.S2x256x64x64.Idx → EReal) (a4 : S4096x512.Idx → EReal) : Prop where
  x0 : ∀ s b i d, (x s).x0 (ix3 b i d) = a0 (ix3 b i d)
  x1 : ∀ s d n, (x s).x1 (ix2 d n) = a1 (ix2 d (pos s n)) * ((1 / 8 : ℝ) : EReal)
  x2 : ∀ s b j h e, (x s).x2 (ix4 b j h e) = a2 (ix4 b j (head s h) e)
  x3 : ∀ s b j h e, (x s).x3 (ix4 b j h e) = a3 (ix4 b j (head s h) e)
  x4 : ∀ s n k, (x s).x4 (ix2 n k) = a4 (ix2 (pos s n) k)

theorem sum_devices (g : Fin 4096 → EReal) : ∑ s : Fin 16, ∑ n : Fin 256, g (pos s n) = ∑ k : Fin 4096, g k := by
  rw [← Fintype.sum_prod_type' (f := fun s n => g (pos s n))]
  refine Fintype.sum_equiv (finProdFinEquiv (m := 16) (n := 256)) _ g fun p => congrArg g (Fin.ext ?_)
  show 256 * p.1.val + p.2.val = p.2.val + 256 * p.1.val
  omega

variable {x : Fin 16 → Ins Ideal} {a0 : S2x256x512.Idx → EReal} {a1 : S512x4096.Idx → EReal}
  {a2 a3 : Cert.ReferenceIdeal.S2x256x64x64.Idx → EReal} {a4 : S4096x512.Idx → EReal}
  (H : Cut x a0 a1 a2 a3 a4)
include H

theorem pos_hcol (s : Fin 16) (h : Fin 4) (e : Fin 64) : pos s (hcol h e) = col (head s h) e :=
  Fin.ext (by show 256 * s.val + (h.val * 64 + e.val) = (s.val * 4 + h.val) * 64 + e.val; omega)

/-- The kernel's score and the reference's are one real number. -/
theorem score_real (h0 : ∀ i, ∃ r : ℝ, a0 i = r) (h1 : ∀ i, ∃ r : ℝ, a1 i = r) (h2 : ∀ i, ∃ r : ℝ, a2 i = r)
    (s : Fin 16) (b : Fin 2) (h : Fin 4) (i j : Fin 256) :
    ∃ r : ℝ, ks (x s) b h i j = r ∧ scoreR a0 a1 a2 (ix4 b (head s h) i j) = Scalar.select (maskR (ix2 i j)) (r : EReal) ⊥ := by
  choose r0 e0 using h0
  choose r1 e1 using h1
  choose r2 e2 using h2
  obtain ⟨r, hk, hr⟩ := score_eq (fun d : Fin 512 => r0 (ix3 b i d)) (fun (d : Fin 512) (e : Fin 64) => r1 (ix2 d (col (head s h) e)))
    (fun e : Fin 64 => r2 (ix4 b j (head s h) e)) (1 / 8)
  refine ⟨r, ?_, ?_⟩
  · rw [← hk]
    unfold ks kq
    simp only [H.x0, H.x1, H.x2, pos_hcol H, e0, e1, e2]
  · rw [scoreR_apply, ← hr]
    simp only [e0, e1, e2]

theorem ctx_eq (h0 : ∀ i, ∃ r : ℝ, a0 i = r) (h1 : ∀ i, ∃ r : ℝ, a1 i = r) (h2 : ∀ i, ∃ r : ℝ, a2 i = r)
    (s : Fin 16) (b : Fin 2) (h : Fin 4) (i : Fin 256) (e : Fin 64) :
    kctx (x s) b h i e = ctxR a0 a1 a2 a3 (ix4 b (head s h) e i) := by
  choose r hk hr using fun j => score_real H h0 h1 h2 s b h i j
  rw [ctxR_apply]
  unfold kctx
  simp only [expR_apply, hr, hk, mask_eq, H.x3]
  exact softmax_eq (fun j => maskR (ix2 i j)) r (fun j => a3 (ix4 b j (head s h) e)) i (maskR_self i)

theorem out_eq (h0 : ∀ i, ∃ r : ℝ, a0 i = r) (h1 : ∀ i, ∃ r : ℝ, a1 i = r) (h2 : ∀ i, ∃ r : ℝ, a2 i = r)
    (b : Fin 2) (i : Fin 256) (m : Fin 512) :
    ∑ s : Fin 16, kpart (x s) b i m = outR a0 a1 a2 a3 a4 (ix3 b i m) := by
  rw [outR_apply, ← sum_devices]
  refine Finset.sum_congr rfl fun s _ => Finset.sum_congr rfl fun n _ => ?_
  rw [H.x4, ctx_eq H h0 h1 h2]
  refine congrArg (· * a4 (ix2 (pos s n) m)) (congrArg (ctxR a0 a1 a2 a3) ?_)
  congr 1
  · exact Fin.ext (by show s.val * 4 + n.val / 64 = (256 * s.val + n.val) / 64; omega)
  · exact Fin.ext (by show n.val % 64 = (256 * s.val + n.val) % 64; omega)

end Cert.KernelIdeal.Value

end
-- ==== Proof.Val.Finite.lean ====
/- What the precondition says of an array: each element is a real number. -/
module

public import proofs.«01_k».proof.Pre_finite_KernelIdeal
public import proofs.«01_k».proof.Pre_finite_ReferenceIdeal
public import Idealize.ShloMosaic.Lib.Pointwise

@[expose] public section

set_option maxRecDepth 16384

noncomputable section

namespace Cert.Value

open Idealize.ShloMosaic

theorem pre_facts : Cert.Pre_finite_KernelIdeal.Facts := ⟨by decide, by decide, by decide⟩
theorem pre_facts_reference : Cert.Pre_finite_ReferenceIdeal.Facts := by constructor <;> decide

theorem ofBits_inf : Ideal.ofBits .bf16 0x7F80#16 = ⊤ := by
  simp [Ideal.ofBits, Ideal.ieee]

/-- An array whose absolute values are all below infinity is an array of reals. -/
theorem real_of_lt_inf {s : Shape} (a k : FVec Ideal s .bf16) (hk : ∀ i, k i = Ideal.ofBits .bf16 0x7F80#16)
    (h : cmpf .olt (Host.absf a) k = fun _ => 1#1) (i : s.Idx) : ∃ r : ℝ, (a i : EReal) = r := by
  have e : BitVec.ofBool (decide (max (a i : EReal) (-(a i : EReal)) < k i)) = 1#1 := congrFun h i
  rw [hk, ofBits_inf] at e
  have l : max (a i : EReal) (-(a i : EReal)) < ⊤ := by
    by_contra hn
    rw [decide_eq_false hn] at e
    exact absurd e (by decide)
  have l := max_lt_iff.mp l
  refine ⟨(a i : EReal).toReal, (EReal.coe_toReal l.1.ne ?_).symm⟩
  intro hb
  rw [hb] at l
  exact absurd l.2 (by simp)

end Cert.Value

end
-- ==== Proof.Val.Claim.lean ====
/- The value claim: from real activations, query matrix and keys, the kernel on every device and the reference end with
the same result. -/
module

public import proofs.«01_k».proof.Defs
public import proofs.«01_k».proof.Proof.Val.Sum
public import proofs.«01_k».proof.Proof.Val.Host
public import proofs.«01_k».proof.Proof.Val.Same
public import proofs.«01_k».proof.Proof.Val.Finite
public import proofs.«01_k».proof.Proof.KI.Run
public import proofs.«01_k».proof.Proof.Frames

@[expose] public section

set_option maxRecDepth 16384

noncomputable section

namespace Cert.Proof

open Idealize.ShloMosaic Idealize.SL.Sem
open Cert.KernelIdeal.Value Cert.KernelIdeal.Talk Cert.Value

/-- A device's block of keys or values, at an index: its four heads of the sixty-four. -/
theorem block_heads (v : Cert.ReferenceIdeal.S2x256x64x64.Idx → EReal) (s : Fin 16)
    (t : Layout.Tiles (⟨4, ![2, 256, 4, 64]⟩ : Shape) ⟨4, ![2, 256, 64, 64]⟩ 2 16)
    (b : Fin 2) (j : Fin 256) (h : Fin 4) (e : Fin 64) :
    Layout.block ⟨4, ![2, 256, 4, 64]⟩ ⟨4, ![2, 256, 64, 64]⟩ 2 16 s v t (ix4 b j h e) = v (ix4 b j (head s h) e) := by
  rw [Layout.block_apply]
  refine congrArg v (funext fun a => ?_)
  fin_cases a <;> rfl

/-- Every head of the whole is one of some device's four. -/
theorem head_split (i : Cert.ReferenceIdeal.S2x256x64x64.Idx) :
    ∃ (s : Fin 16) (b : Fin 2) (j : Fin 256) (h : Fin 4) (e : Fin 64), i = ix4 b j (head s h) e := by
  have h2 : (i 2).val < 64 := (i 2).isLt
  refine ⟨⟨(i 2).val / 4, by omega⟩, i 0, i 1, ⟨(i 2).val % 4, by omega⟩, i 3, ?_⟩
  funext a
  fin_cases a
  · rfl
  · rfl
  · exact Fin.ext (by show (i 2).val = (i 2).val / 4 * 4 + (i 2).val % 4; omega)
  · rfl

section
variable (m : (ℓ : Loc Cert.KernelIdeal.nD Cert.KernelIdeal.τ Cert.KernelIdeal.sig) → Buf (Elt Ideal) ℓ)
  (a0 : Cert.KernelIdeal.S2x256x512.Idx → EReal) (a1 : Cert.KernelIdeal.S512x4096.Idx → EReal)
  (a2 a3 : Cert.ReferenceIdeal.S2x256x64x64.Idx → EReal) (a4 : Cert.KernelIdeal.S4096x512.Idx → EReal)

/-- The memory holds the arrays as the devices share them. -/
structure Holds : Prop where
  a0 : ∀ c, A0 m c = a0
  a1 : ∀ c, A1 m c = a1
  a2 : ∀ c, A2 m c = Layout.block ⟨4, ![2, 256, 4, 64]⟩ ⟨4, ![2, 256, 64, 64]⟩ 2 16 c a2
  a3 : ∀ c, A3 m c = Layout.block ⟨4, ![2, 256, 4, 64]⟩ ⟨4, ![2, 256, 64, 64]⟩ 2 16 c a3
  a4 : ∀ c, A4 m c = a4

variable {m a0 a1 a2 a3 a4}

theorem Holds.cut (H : Holds m a0 a1 a2 a3 a4) : Cut (X m) a0 a1 a2 a3 a4 where
  x0 s b i d := (congrFun (X_x0 m s) _).trans (congrFun (H.a0 s) _)
  x1 s d n := by rw [x1_apply, H.a1]; rfl
  x2 s b j h e := ((congrFun (X_x2 m s) _).trans (congrFun (H.a2 s) _)).trans (block_heads a2 s _ b j h e)
  x3 s b j h e := ((congrFun (X_x3 m s) _).trans (congrFun (H.a3 s) _)).trans (block_heads a3 s _ b j h e)
  x4 s n k := by rw [x4_apply, H.a4]; rfl

theorem Holds.result (H : Holds m a0 a1 a2 a3 a4) (h0 : ∀ i, ∃ r : ℝ, a0 i = r) (h1 : ∀ i, ∃ r : ℝ, a1 i = r)
    (h2 : ∀ i, ∃ r : ℝ, a2 i = r) :
    (Oc (X m) : Cert.KernelIdeal.S2x256x512.Idx → EReal) = Cert.ReferenceIdeal.Value.outR a0 a1 a2 a3 a4 := by
  funext j
  idx_vars j
  exact (Oc_apply (X m) _ _ _).trans (out_eq H.cut h0 h1 h2 _ _ _)
end

theorem value_claim : @algebraic_KernelIdeal_ReferenceIdeal_pre_finite_KernelIdeal Cert.KernelIdeal.Gen.facts
    Cert.ReferenceIdeal.Gen.facts pre_facts := by
  intro m g m' g' hpre hin
  letI := pre_facts
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hin c).1, fun c => (hin c).2.1, fun c => (hin c).2.2.1, fun c => (hin c).2.2.2.1, fun c => (hin c).2.2.2.2⟩
  have f0 := real_of_lt_inf (A0 m 0) _ (fun _ => rfl) (hpre 0).1
  have f1 := real_of_lt_inf (A1 m 0) _ (fun _ => rfl) (hpre 0).2.1
  have f2 := fun c => real_of_lt_inf (A2 m c) _ (fun _ => rfl) (hpre c).2.2
  have res := H.result (fun i => by rw [← H.a0 0]; exact f0 i) (fun i => by rw [← H.a1 0]; exact f1 i) (fun i => by
    obtain ⟨s, b, j, h, e, rfl⟩ := head_split i
    obtain ⟨r, hr⟩ := f2 s (ix4 b j h e)
    exact ⟨r, by rw [← hr, H.a2 s]; exact (block_heads _ s _ b j h e).symm⟩)
  refine ⟨Cert.ReferenceIdeal.Value.res_main_v44 (F := Ideal) m' 0, ?_, ?_⟩
  · refine (θ_run _ _ _).mono (fun r h c => ⟨?_, (h.1 c).2⟩) (run_main (F := Ideal) m g)
    exact (h.1 c).1.trans (res.trans (Cert.ReferenceIdeal.Value.res_eq m' 0).symm)
  · exact (θ_run _ _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Val.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Value.pre_facts, Cert.Value.pre_facts_reference,
  frame_kernel, frame_kernelIdeal, fun m g _ => frame_kernelIdeal m g trivial, frame_reference,
  fun m g _ => frame_reference m g trivial, trivial, value_claim⟩

end Cert.Proof

end
